-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_v34) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v44) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_v48) = v3 c
          ∧ r.2.mem ((c.tc : Thread Cert.Reference5Ideal.nD Cert.Reference5Ideal.τ).loc Cert.Reference5Ideal.main_v50) = v4 c
          ∧ r.2.mem ((c.tc : Thread Cert.Reference5Ideal.nD Cert.Reference5Ideal.τ).loc Cert.Reference5Ideal.main_v51) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S8x2048x1536 : Shape := ⟨3, ![8, 2048, 1536]⟩
abbrev S8x256x1024 : Shape := ⟨3, ![8, 256, 1024]⟩
abbrev S1x1024 : Shape := ⟨2, ![1, 1024]⟩
abbrev S1x1024x512 : Shape := ⟨3, ![1, 1024, 512]⟩
abbrev S1x1024x1024 : Shape := ⟨3, ![1, 1024, 1024]⟩
abbrev S1024 : Shape := ⟨1, ![1024]⟩
abbrev S1024x512 : Shape := ⟨2, ![1024, 512]⟩
abbrev S1024x1024 : Shape := ⟨2, ![1024, 1024]⟩
abbrev S1x1024x256 : Shape := ⟨3, ![1, 1024, 256]⟩
abbrev S1x256x1024 : Shape := ⟨3, ![1, 256, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩

abbrev nBuf : Space → Nat
  | .hbm => 15
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x256, .f32⟩
  | .hbm, ⟨3, _⟩ => ⟨S8x2048x1536, .bf16⟩
  | .hbm, ⟨4, _⟩ => ⟨S8x256x1024, .f32⟩
  | .hbm, ⟨5, _⟩ => ⟨S1x1024, .f32⟩
  | .hbm, ⟨6, _⟩ => ⟨S1x1024x512, .f32⟩
  | .hbm, ⟨7, _⟩ => ⟨S1x1024x1024, .f32⟩
  | .hbm, ⟨8, _⟩ => ⟨S1024, .f32⟩
  | .hbm, ⟨9, _⟩ => ⟨S1024x512, .f32⟩
  | .hbm, ⟨10, _⟩ => ⟨S1024x512, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x256x1024, .f32⟩
  | .local _ .vmem, ⟨11, _⟩ => ⟨S1x256x1024, .f32⟩
  | .local _ .vmem, ⟨12, _⟩ => ⟨S1x1024, .f32⟩
  | .local _ .vmem, ⟨13, _⟩ => ⟨S1024x512, .bf16⟩
  | .local _ .vmem, ⟨14, _⟩ => ⟨S1024x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S256x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S8x2048x1536 : Shape := ⟨3, ![8, 2048, 1536]⟩
abbrev S8x256x1024 : Shape := ⟨3, ![8, 256, 1024]⟩
abbrev S1x1024 : Shape := ⟨2, ![1, 1024]⟩
abbrev S1x1024x512 : Shape := ⟨3, ![1, 1024, 512]⟩
abbrev S1x1024x1024 : Shape := ⟨3, ![1, 1024, 1024]⟩
abbrev S1024 : Shape := ⟨1, ![1024]⟩
abbrev S_ : Shape := ⟨0, ![]⟩
abbrev S8x2048x4x64 : Shape := ⟨4, ![8, 2048, 4, 64]⟩
abbrev S8x256 : Shape := ⟨2, ![8, 256]⟩
abbrev S8x256x1 : Shape := ⟨3, ![8, 256, 1]⟩
abbrev S1x1x1024 : Shape := ⟨3, ![1, 1, 1024]⟩
abbrev S1024x512 : Shape := ⟨2, ![1024, 512]⟩
abbrev S8x256x512 : Shape := ⟨3, ![8, 256, 512]⟩
abbrev S8x256x256 : Shape := ⟨3, ![8, 256, 256]⟩
abbrev S8x256x4x64 : Shape := ⟨4, ![8, 256, 4, 64]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩
abbrev S1024x1024 : Shape := ⟨2, ![1024, 1024]⟩
abbrev S8x2048 : Shape := ⟨2, ![8, 2048]⟩
abbrev S8x2048x1 : Shape := ⟨3, ![8, 2048, 1]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x256, .f32⟩
  | .hbm, ⟨3, _⟩ => ⟨S8x2048x1536, .bf16⟩
  | .hbm, ⟨4, _⟩ => ⟨S8x256x1024, .f32⟩
  | .hbm, ⟨5, _⟩ => ⟨S1x1024, .f32⟩
  | .hbm, ⟨6, _⟩ => ⟨S1x1024x512, .f32⟩
  | .hbm, ⟨7, _⟩ => ⟨S1x1024x1024, .f32⟩
  | .hbm, ⟨8, _⟩ => ⟨S1024, .f32⟩
  | .hbm, ⟨9, _⟩ => ⟨S8x2048x1024, .bf16⟩
  | .hbm, ⟨10, _⟩ => ⟨S8x2048x1024, .f32⟩
  | .hbm, ⟨11, _⟩ => ⟨S8x2048x256, .bf16⟩
  | .hbm, ⟨12, _⟩ => ⟨S8x2048x256, .f32⟩
  | .hbm, ⟨13, _⟩ => ⟨S_, .f32⟩
  | .hbm, ⟨14, _⟩ => ⟨S8x2048x256, .f32⟩
  | .hbm, ⟨15, _⟩ => ⟨S8x2048x256, .f32⟩
  | .hbm, ⟨16, _⟩ => ⟨S_, .f32⟩
  | .hbm, ⟨17, _⟩ => ⟨S8x2048x256, .f32⟩
  | .hbm, ⟨18, _⟩ => ⟨S8x2048x256, .f32⟩
  | .hbm, ⟨19, _⟩ => ⟨S8x2048x256, .f32⟩
  | .hbm, ⟨20, _⟩ => ⟨S8x2048x4x64, .f32⟩
  | .hbm, ⟨21, _⟩ => ⟨S1024, .f32⟩
  | .hbm, ⟨22, _⟩ => ⟨S8x256x1024, .f32⟩
  | .hbm, ⟨23, _⟩ => ⟨S_, .f32⟩
  | .hbm, ⟨24, _⟩ => ⟨S8x256, .f32⟩
  | .hbm, ⟨25, _⟩ => ⟨S8x256x1, .f32⟩
  | .hbm, ⟨26, _⟩ => ⟨S_, .f32⟩
  | .hbm, ⟨27, _⟩ => ⟨S8x256x1, .f32⟩
  | .hbm, ⟨28, _⟩ => ⟨S8x256x1, .f32⟩
  | .hbm, ⟨29, _⟩ => ⟨S_, .f32⟩
  | .hbm, ⟨30, _⟩ => ⟨S8x256x1, .f32⟩
  | .hbm, ⟨31, _⟩ => ⟨S8x256x1, .f32⟩
  | .hbm, ⟨32, _⟩ => ⟨S8x256x1, .f32⟩
  | .hbm, ⟨33, _⟩ => ⟨S8x256x1024, .f32⟩
  | .hbm, ⟨34, _⟩ => ⟨S8x256x1024, .f32⟩
  | .hbm, ⟨35, _⟩ => ⟨S1x1x1024, .f32⟩
  | .hbm, ⟨36, _⟩ => ⟨S8x256x1024, .f32⟩
  | .hbm, ⟨37, _⟩ => ⟨S8x256x1024, .f32⟩
  | .hbm, ⟨38, _⟩ => ⟨S1024x512, .f32⟩
  | .hbm, ⟨39, _⟩ => ⟨S8x256x512, .f32⟩
  | .hbm, ⟨40, _⟩ => ⟨S8x256x256, .f32⟩
  | .hbm, ⟨41, _⟩ => ⟨S8x256x256, .f32⟩
  | .hbm, ⟨42, _⟩ => ⟨S8x256x4x64, .f32⟩
  | .hbm, ⟨43, _⟩ => ⟨S8x256x4x64, .f32⟩
  | .hbm, ⟨44, _⟩ => ⟨S8x4x2048x256, .f32⟩
  | .hbm, ⟨45, _⟩ => ⟨S_, .f32⟩
  | .hbm, ⟨46, _⟩ => ⟨S8x4x2048x256, .f32⟩
  | .hbm, ⟨47, _⟩ => ⟨S8x4x2048x256, .f32⟩
  | .hbm, ⟨48, _⟩ => ⟨S_, .f32⟩
  | .hbm, ⟨49, _⟩ => ⟨S8x4x2048, .f32⟩
  | .hbm, ⟨50, _⟩ => ⟨S_, .f32⟩
  | .hbm, ⟨51, _⟩ => ⟨S8x4x2048, .f32⟩
  | .hbm, ⟨52, _⟩ => ⟨S8x4x2048, .f32⟩
  | .hbm, ⟨53, _⟩ => ⟨S8x4x2048x1, .f32⟩
  | .hbm, ⟨54, _⟩ => ⟨S8x4x2048x256, .f32⟩
  | .hbm, ⟨55, _⟩ => ⟨S8x4x2048x256, .f32⟩
  | .hbm, ⟨56, _⟩ => ⟨S8x4x2048x256, .f32⟩
  | .hbm, ⟨57, _⟩ => ⟨S_, .f32⟩
  | .hbm, ⟨58, _⟩ => ⟨S8x4x2048, .f32⟩
  | .hbm, ⟨59, _⟩ => ⟨S8x4x2048x1, .f32⟩
  | .hbm, ⟨60, _⟩ => ⟨S8x4x2048x256, .f32⟩
  | .hbm, ⟨61, _⟩ => ⟨S8x4x2048x256, .f32⟩
  | .hbm, ⟨62, _⟩ => ⟨S8x4x64x2048, .f32⟩
  | .hbm, ⟨63, _⟩ => ⟨S8x2048x4x64, .f32⟩
  | .hbm, ⟨64, _⟩ => ⟨S8x2048x256, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048x1024, .f32⟩
  | .hbm, ⟨70, _⟩ => ⟨S8x2048x1024, .f32⟩
  | .hbm, ⟨71, _⟩ => ⟨S_, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S1024x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S1x1x1024, .f32⟩
  | .hbm, ⟨93, _⟩ => ⟨S8x2048x1024, .f32⟩
  | .hbm, ⟨94, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1024x1536 : Shape := ⟨2, ![1024, 1536]⟩
abbrev S832x1024 : Shape := ⟨2, ![832, 1024]⟩
abbrev S16x1024 : Shape := ⟨2, ![16, 1024]⟩
abbrev S8x2048x1536 : Shape := ⟨3, ![8, 2048, 1536]⟩
abbrev S8x4x512x1536 : Shape := ⟨4, ![8, 4, 512, 1536]⟩
abbrev S8x16x128x1536 : Shape := ⟨4, ![8, 16, 128, 1536]⟩
abbrev S8x832x2048 : Shape := ⟨3, ![8, 832, 2048]⟩
abbrev S8x16x2048 : Shape := ⟨3, ![8, 16, 2048]⟩
abbrev S1x512x1024 : Shape := ⟨3, ![1, 512, 1024]⟩
abbrev S1x512x1536 : Shape := ⟨3, ![1, 512, 1536]⟩
abbrev S1x4x128x1536 : Shape := ⟨4, ![1, 4, 128, 1536]⟩
abbrev S1x16x32x1536 : Shape := ⟨4, ![1, 16, 32, 1536]⟩
abbrev S1x832x512 : Shape := ⟨3, ![1, 832, 512]⟩
abbrev S1x16x512 : Shape := ⟨3, ![1, 16, 512]⟩
abbrev S12x512x128 : Shape := ⟨3, ![12, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩
abbrev S832x512 : Shape := ⟨2, ![832, 512]⟩
abbrev S16x512 : Shape := ⟨2, ![16, 512]⟩

abbrev nBuf : Space → Nat
  | .hbm => 12
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x1536, .bf16⟩
  | .hbm, ⟨3, _⟩ => ⟨S1024x1536, .bf16⟩
  | .hbm, ⟨4, _⟩ => ⟨S832x1024, .bf16⟩
  | .hbm, ⟨5, _⟩ => ⟨S16x1024, .bf16⟩
  | .hbm, ⟨6, _⟩ => ⟨S8x2048x1536, .bf16⟩
  | .hbm, ⟨7, _⟩ => ⟨S8x4x512x1536, .bf16⟩
  | .hbm, ⟨8, _⟩ => ⟨S8x16x128x1536, .bf16⟩
  | .hbm, ⟨9, _⟩ => ⟨S8x2048x1536, .bf16⟩
  | .hbm, ⟨10, _⟩ => ⟨S8x832x2048, .bf16⟩
  | .hbm, ⟨11, _⟩ => ⟨S8x16x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S832x1024, .bf16⟩
  | .local _ .vmem, ⟨6, _⟩ => ⟨S16x1024, .bf16⟩
  | .local _ .vmem, ⟨7, _⟩ => ⟨S1x512x1536, .bf16⟩
  | .local _ .vmem, ⟨8, _⟩ => ⟨S1x512x1536, .bf16⟩
  | .local _ .vmem, ⟨9, _⟩ => ⟨S1x4x128x1536, .bf16⟩
  | .local _ .vmem, ⟨10, _⟩ => ⟨S1x4x128x1536, .bf16⟩
  | .local _ .vmem, ⟨11, _⟩ => ⟨S1x16x32x1536, .bf16⟩
  | .local _ .vmem, ⟨12, _⟩ => ⟨S1x16x32x1536, .bf16⟩
  | .local _ .vmem, ⟨13, _⟩ => ⟨S1x512x1536, .bf16⟩
  | .local _ .vmem, ⟨14, _⟩ => ⟨S1x512x1536, .bf16⟩
  | .local _ .vmem, ⟨15, _⟩ => ⟨S1x832x512, .bf16⟩
  | .local _ .vmem, ⟨16, _⟩ => ⟨S1x832x512, .bf16⟩
  | .local _ .vmem, ⟨17, _⟩ => ⟨S1x16x512, .f32⟩
  | .local _ .vmem, ⟨18, _⟩ => ⟨S1x16x512, .f32⟩
  | .local _ .vmem, ⟨19, _⟩ => ⟨S12x512x128, .f32⟩
  | .local _ .vmem, ⟨20, _⟩ => ⟨S12x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S832x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x32x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x832x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2048x1024 : Shape := ⟨3, ![8, 2048, 1024]⟩
abbrev S1x1024 : Shape := ⟨2, ![1, 1024]⟩
abbrev S1024x1536 : Shape := ⟨2, ![1024, 1536]⟩
abbrev S832x1024 : Shape := ⟨2, ![832, 1024]⟩
abbrev S16x1024 : Shape := ⟨2, ![16, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1536 : Shape := ⟨3, ![8, 2048, 1536]⟩
abbrev S1024x832 : Shape := ⟨2, ![1024, 832]⟩
abbrev S8x2048x832 : Shape := ⟨3, ![8, 2048, 832]⟩
abbrev S1024x16 : Shape := ⟨2, ![1024, 16]⟩
abbrev S8x2048x16 : Shape := ⟨3, ![8, 2048, 16]⟩
abbrev S8x512x4x1536 : Shape := ⟨4, ![8, 512, 4, 1536]⟩
abbrev S8x4x512x1536 : Shape := ⟨4, ![8, 4, 512, 1536]⟩
abbrev S8x128x16x1536 : Shape := ⟨4, ![8, 128, 16, 1536]⟩
abbrev S8x16x128x1536 : Shape := ⟨4, ![8, 16, 128, 1536]⟩
abbrev S8x832x2048 : Shape := ⟨3, ![8, 832, 2048]⟩
abbrev S8x16x2048 : Shape := ⟨3, ![8, 16, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x1536, .bf16⟩
  | .hbm, ⟨3, _⟩ => ⟨S1024x1536, .bf16⟩
  | .hbm, ⟨4, _⟩ => ⟨S832x1024, .bf16⟩
  | .hbm, ⟨5, _⟩ => ⟨S16x1024, .bf16⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x1536, .f32⟩
  | .hbm, ⟨24, _⟩ => ⟨S8x2048x1536, .f32⟩
  | .hbm, ⟨25, _⟩ => ⟨S1024x1536, .f32⟩
  | .hbm, ⟨26, _⟩ => ⟨S8x2048x1536, .f32⟩
  | .hbm, ⟨27, _⟩ => ⟨S832x1024, .f32⟩
  | .hbm, ⟨28, _⟩ => ⟨S1024x832, .f32⟩
  | .hbm, ⟨29, _⟩ => ⟨S8x2048x832, .f32⟩
  | .hbm, ⟨30, _⟩ => ⟨S16x1024, .f32⟩
  | .hbm, ⟨31, _⟩ => ⟨S1024x16, .f32⟩
  | .hbm, ⟨32, _⟩ => ⟨S8x2048x16, .f32⟩
  | .hbm, ⟨33, _⟩ => ⟨S8x2048x1536, .bf16⟩
  | .hbm, ⟨34, _⟩ => ⟨S8x512x4x1536, .f32⟩
  | .hbm, ⟨35, _⟩ => ⟨S8x4x512x1536, .f32⟩
  | .hbm, ⟨36, _⟩ => ⟨S8x4x512x1536, .bf16⟩
  | .hbm, ⟨37, _⟩ => ⟨S8x128x16x1536, .f32⟩
  | .hbm, ⟨38, _⟩ => ⟨S8x16x128x1536, .f32⟩
  | .hbm, ⟨39, _⟩ => ⟨S8x16x128x1536, .bf16⟩
  | .hbm, ⟨40, _⟩ => ⟨S8x2048x1536, .bf16⟩
  | .hbm, ⟨41, _⟩ => ⟨S8x832x2048, .f32⟩
  | .hbm, ⟨42, _⟩ => ⟨S8x832x2048, .bf16⟩
  | .hbm, ⟨43, _⟩ => ⟨S8x16x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel3.lean ====
abbrev S8 : Shape := ⟨1, ![8]⟩
abbrev S8x2048x1536 : Shape := ⟨3, ![8, 2048, 1536]⟩
abbrev S8x2048x512 : Shape := ⟨3, ![8, 2048, 512]⟩
abbrev S1x2048x128 : Shape := ⟨3, ![1, 2048, 128]⟩
abbrev S2x3x2064x128 : Shape := ⟨4, ![2, 3, 2064, 128]⟩
abbrev S3x2x3x128x256 : Shape := ⟨5, ![3, 2, 3, 128, 256]⟩
abbrev S2x2x16x128x256 : Shape := ⟨5, ![2, 2, 16, 128, 256]⟩
abbrev S1x128 : Shape := ⟨2, ![1, 128]⟩
abbrev S128x128 : Shape := ⟨2, ![128, 128]⟩
abbrev S1 : Shape := ⟨1, ![1]⟩
abbrev S1x1x1x128x128 : Shape := ⟨5, ![1, 1, 1, 128, 128]⟩
abbrev S1x256x128 : Shape := ⟨3, ![1, 256, 128]⟩
abbrev S256x128 : Shape := ⟨2, ![256, 128]⟩
abbrev S1x128x128 : Shape := ⟨3, ![1, 128, 128]⟩
abbrev S128x256 : Shape := ⟨2, ![128, 256]⟩
abbrev S1x1x1x128x256 : Shape := ⟨5, ![1, 1, 1, 128, 256]⟩
abbrev S128 : Shape := ⟨1, ![128]⟩
abbrev S128x1 : Shape := ⟨2, ![128, 1]⟩
abbrev S1x1x128x128 : Shape := ⟨4, ![1, 1, 128, 128]⟩
abbrev S1x1x256x128 : Shape := ⟨4, ![1, 1, 256, 128]⟩
abbrev S1x1x16x128 : Shape := ⟨4, ![1, 1, 16, 128]⟩
abbrev S16x128 : Shape := ⟨2, ![16, 128]⟩

abbrev nBuf : Space → Nat
  | .hbm => 5
  | .vmem => 24
  | .smem => 1
  | _ => 0

abbrev bufTy : (tb : Table) → Fin (tcTables nBuf tb) → BufTy
  | .hbm, ⟨0, _⟩ => ⟨S8, .f32⟩
  | .hbm, ⟨1, _⟩ => ⟨S8x2048x1536, .bf16⟩
  | .hbm, ⟨2, _⟩ => ⟨S8x2048x1536, .bf16⟩
  | .hbm, ⟨3, _⟩ => ⟨S8x2048x1536, .bf16⟩
  | .hbm, ⟨4, _⟩ => ⟨S8x2048x512, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .f32⟩
  | .local _ .vmem, ⟨19, _⟩ => ⟨S1x2048x128, .f32⟩
  | .local _ .vmem, ⟨20, _⟩ => ⟨S2x3x2064x128, .f32⟩
  | .local _ .vmem, ⟨21, _⟩ => ⟨S2x3x2064x128, .f32⟩
  | .local _ .vmem, ⟨22, _⟩ => ⟨S3x2x3x128x256, .f32⟩
  | .local _ .vmem, ⟨23, _⟩ => ⟨S2x2x16x128x256, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 1 → Nat :=
  let arg1 : BitVec 32 := BitVec.ofNat 32 (i 1).val
  let c2_i32 : BitVec 32 := 2#32
  let v11 : BitVec 32 := Scalar.muli arg1 c2_i32
  let v12 : BitVec 32 := Scalar.addi v11 c0_i32
  let v13 : Index := Scalar.indexCast v12
  ![v13.toNat]
@[reducible] def k0_t1_loop : Scf.Loop 32 :=
  let c0_i32_187 : BitVec 32 := 0#32
  let c16_i32 : BitVec 32 := 16#32
  let v195 : BitVec 32 := Scalar.addi c0_i32_187 c16_i32
  let c1_i32_188 : BitVec 32 := 1#32
  ⟨c0_i32_187, v195, c1_i32_188⟩
def k0_mult1 (k0_t1 : Fin k0_t1_loop.trips) : BitVec 32 :=
  let c0_i32_187 : BitVec 32 := 0#32
  let c1_i32_188 : BitVec 32 := 1#32
  let arg17 : BitVec 32 := Scf.iv c0_i32_187 c1_i32_188 k0_t1
  let c1_i32_210 : BitVec 32 := 1#32
  let v200 : BitVec 32 := Scalar.addi arg17 c1_i32_210
  let c128_i32 : BitVec 32 := 128#32
  let v201 : BitVec 32 := Scalar.muli v200 c128_i32
  let c256_i32 : BitVec 32 := 256#32
  let v202 : BitVec 32 := Scalar.subi v201 c256_i32
  let c0_i32_211 : BitVec 32 := 0#32
  let v203 : BitVec 32 := Scalar.maxsi v202 c0_i32_211
  v203
def k0_off2 (k0_t1 : Fin k0_t1_loop.trips) : Fin 3 → Nat :=
  let c0_212 : Index := 0#32
  let c0_i32_187 : BitVec 32 := 0#32
  let c1_i32_188 : BitVec 32 := 1#32
  let arg17 : BitVec 32 := Scf.iv c0_i32_187 c1_i32_188 k0_t1
  let c1_i32_210 : BitVec 32 := 1#32
  let v200 : BitVec 32 := Scalar.addi arg17 c1_i32_210
  let c128_i32 : BitVec 32 := 128#32
  let v201 : BitVec 32 := Scalar.muli v200 c128_i32
  let c256_i32 : BitVec 32 := 256#32
  let v202 : BitVec 32 := Scalar.subi v201 c256_i32
  let c0_i32_211 : BitVec 32 := 0#32
  let v203 : BitVec 32 := Scalar.maxsi v202 c0_i32_211
  let v204 : BitVec 32 := v203
  let v205 : Index := Scalar.indexCast v204
  let c0_213 : Index := 0#32
  ![0, v205.toNat, 0]
def k0_mult2 (k0_t1 : Fin k0_t1_loop.trips) : BitVec 32 :=
  let c0_i32_187 : BitVec 32 := 0#32
  let c1_i32_188 : BitVec 32 := 1#32
  let arg17 : BitVec 32 := Scf.iv c0_i32_187 c1_i32_188 k0_t1
  let c128_i32_214 : BitVec 32 := 128#32
  let v208 : BitVec 32 := Scalar.muli arg17 c128_i32_214
  v208
def k0_off3 (k0_t1 : Fin k0_t1_loop.trips) : Fin 3 → Nat :=
  let c0_215 : Index := 0#32
  let c0_i32_187 : BitVec 32 := 0#32
  let c1_i32_188 : BitVec 32 := 1#32
  let arg17 : BitVec 32 := Scf.iv c0_i32_187 c1_i32_188 k0_t1
  let c128_i32_214 : BitVec 32 := 128#32
  let v208 : BitVec 32 := Scalar.muli arg17 c128_i32_214
  let v209 : BitVec 32 := v208
  let v210 : Index := Scalar.indexCast v209
  let c0_216 : Index := 0#32
  ![0, v210.toNat, 0]
def k0_off4 (k0_t1 : Fin k0_t1_loop.trips) : Fin 5 → Nat :=
  let c0_229 : Index := 0#32
  let c0_230 : Index := 0#32
  let c0_i32_187 : BitVec 32 := 0#32
  let c1_i32_188 : BitVec 32 := 1#32
  let arg17 : BitVec 32 := Scf.iv c0_i32_187 c1_i32_188 k0_t1
  let c0_i32_218 : BitVec 32 := 0#32
  let v218 : BitVec 1 := Scalar.cmpi .eq arg17 c0_i32_218
  let c2_i32_228 : BitVec 32 := 2#32
  let c16_i32_219 : BitVec 32 := 16#32
  let c0_i32_220 : BitVec 32 := 0#32
  let v219 : BitVec 1 := Scalar.cmpi .eq c16_i32_219 c0_i32_220
  let c1_i32_221 : BitVec 32 := 1#32
  let v220 : BitVec 32 := Scalar.select v219 c1_i32_221 c16_i32_219
  let v221 : BitVec 32 := Scalar.remsi arg17 v220
  let c0_i32_223 : BitVec 32 := 0#32
  let v223 : BitVec 1 := Scalar.cmpi .slt v221 c0_i32_223
  let c0_i32_224 : BitVec 32 := 0#32
  let v224 : BitVec 1 := Scalar.cmpi .slt v220 c0_i32_224
  let v225 : BitVec 1 := Scalar.xori v223 v224
  let c0_i32_222 : BitVec 32 := 0#32
  let v222 : BitVec 1 := Scalar.cmpi .ne v221 c0_i32_222
  let v226 : BitVec 1 := Scalar.andi v225 v222
  let v227 : BitVec 32 := Scalar.addi v221 v220
  let v228 : BitVec 32 := Scalar.select v226 v227 v221
  let c0_i32_225 : BitVec 32 := 0#32
  let v229 : BitVec 1 := Scalar.cmpi .eq v228 c0_i32_225
  let c1_i32_226 : BitVec 32 := 1#32
  let c0_i32_227 : BitVec 32 := 0#32
  let v230 : BitVec 32 := Scalar.select v229 c1_i32_226 c0_i32_227
  let v231 : BitVec 32 := Scalar.select v218 c2_i32_228 v230
  let v232 : Index := Scalar.indexCast v231
  let c0_231 : Index := 0#32
  let c0_232 : Index := 0#32
  ![0, 0, v232.toNat, 0, 0]
def k0_off5 (k0_t1 : Fin k0_t1_loop.trips) : Fin 5 → Nat :=
  let c0_234 : Index := 0#32
  let c0_235 : Index := 0#32
  let c0_i32_187 : BitVec 32 := 0#32
  let c1_i32_188 : BitVec 32 := 1#32
  let arg17 : BitVec 32 := Scf.iv c0_i32_187 c1_i32_188 k0_t1
  let v242 : Index := Scalar.indexCast arg17
  let c0_236 : Index := 0#32
  let c0_237 : Index := 0#32
  ![0, 0, v242.toNat, 0, 0]
def k0_mult3 (k0_t1 : Fin k0_t1_loop.trips) : BitVec 32 :=
  let c0_i32_187 : BitVec 32 := 0#32
  let c1_i32_188 : BitVec 32 := 1#32
  let arg17 : BitVec 32 := Scf.iv c0_i32_187 c1_i32_188 k0_t1
  let c0_i32_239 : BitVec 32 := 0#32
  let v249 : BitVec 1 := Scalar.cmpi .sgt arg17 c0_i32_239
  let v250 : BitVec 32 := Scalar.extui v249
  let c0_i32_240 : BitVec 32 := 0#32
  let v251 : BitVec 1 := Scalar.cmpi .slt arg17 c0_i32_240
  let v252 : BitVec 32 := Scalar.extui v251
  let v253 : BitVec 32 := Scalar.subi v250 v252
  let c16_i32_238 : BitVec 32 := 16#32
  let c0_i32_241 : BitVec 32 := 0#32
  let v254 : BitVec 1 := Scalar.cmpi .sgt c16_i32_238 c0_i32_241
  let v255 : BitVec 32 := Scalar.extui v254
  let c0_i32_242 : BitVec 32 := 0#32
  let v256 : BitVec 1 := Scalar.cmpi .slt c16_i32_238 c0_i32_242
  let v257 : BitVec 32 := Scalar.extui v256
  let v258 : BitVec 32 := Scalar.subi v255 v257
  let v259 : BitVec 1 := Scalar.cmpi .ne v253 v258
  let v260 : BitVec 32 := Scalar.remsi arg17 c16_i32_238
  let c0_i32_243 : BitVec 32 := 0#32
  let v261 : BitVec 1 := Scalar.cmpi .ne v260 c0_i32_243
  let v262 : BitVec 1 := Scalar.andi v259 v261
  let v248 : BitVec 32 := Scalar.divsi arg17 c16_i32_238
  let c1_i32_244 : BitVec 32 := 1#32
  let v263 : BitVec 32 := Scalar.subi v248 c1_i32_244
  let v264 : BitVec 32 := Scalar.select v262 v263 v248
  let c16_i32_245 : BitVec 32 := 16#32
  let c0_i32_246 : BitVec 32 := 0#32
  let v265 : BitVec 1 := Scalar.cmpi .eq c16_i32_245 c0_i32_246
  let c1_i32_247 : BitVec 32 := 1#32
  let v266 : BitVec 32 := Scalar.select v265 c1_i32_247 c16_i32_245
  let v267 : BitVec 32 := Scalar.remsi arg17 v266
  let c0_i32_249 : BitVec 32 := 0#32
  let v269 : BitVec 1 := Scalar.cmpi .slt v267 c0_i32_249
  let c0_i32_250 : BitVec 32 := 0#32
  let v270 : BitVec 1 := Scalar.cmpi .slt v266 c0_i32_250
  let v271 : BitVec 1 := Scalar.xori v269 v270
  let c0_i32_248 : BitVec 32 := 0#32
  let v268 : BitVec 1 := Scalar.cmpi .ne v267 c0_i32_248
  let v272 : BitVec 1 := Scalar.andi v271 v268
  let v273 : BitVec 32 := Scalar.addi v267 v266
  let v274 : BitVec 32 := Scalar.select v272 v273 v267
  let c128_i32_251 : BitVec 32 := 128#32
  let v275 : BitVec 32 := Scalar.muli v274 c128_i32_251
  let v276 : BitVec 32 := Scalar.addi v264 v275
  v276
def k0_off6 (k0_t1 : Fin k0_t1_loop.trips) : Fin 4 → Nat :=
  let c0_252 : Index := 0#32
  let c0_253 : Index := 0#32
  let c0_i32_187 : BitVec 32 := 0#32
  let c1_i32_188 : BitVec 32 := 1#32
  let arg17 : BitVec 32 := Scf.iv c0_i32_187 c1_i32_188 k0_t1
  let c0_i32_239 : BitVec 32 := 0#32
  let v249 : BitVec 1 := Scalar.cmpi .sgt arg17 c0_i32_239
  let v250 : BitVec 32 := Scalar.extui v249
  let c0_i32_240 : BitVec 32 := 0#32
  let v251 : BitVec 1 := Scalar.cmpi .slt arg17 c0_i32_240
  let v252 : BitVec 32 := Scalar.extui v251
  let v253 : BitVec 32 := Scalar.subi v250 v252
  let c16_i32_238 : BitVec 32 := 16#32
  let c0_i32_241 : BitVec 32 := 0#32
  let v254 : BitVec 1 := Scalar.cmpi .sgt c16_i32_238 c0_i32_241
  let v255 : BitVec 32 := Scalar.extui v254
  let c0_i32_242 : BitVec 32 := 0#32
  let v256 : BitVec 1 := Scalar.cmpi .slt c16_i32_238 c0_i32_242
  let v257 : BitVec 32 := Scalar.extui v256
  let v258 : BitVec 32 := Scalar.subi v255 v257
  let v259 : BitVec 1 := Scalar.cmpi .ne v253 v258
  let v260 : BitVec 32 := Scalar.remsi arg17 c16_i32_238
  let c0_i32_243 : BitVec 32 := 0#32
  let v261 : BitVec 1 := Scalar.cmpi .ne v260 c0_i32_243
  let v262 : BitVec 1 := Scalar.andi v259 v261
  let v248 : BitVec 32 := Scalar.divsi arg17 c16_i32_238
  let c1_i32_244 : BitVec 32 := 1#32
  let v263 : BitVec 32 := Scalar.subi v248 c1_i32_244
  let v264 : BitVec 32 := Scalar.select v262 v263 v248
  let c16_i32_245 : BitVec 32 := 16#32
  let c0_i32_246 : BitVec 32 := 0#32
  let v265 : BitVec 1 := Scalar.cmpi .eq c16_i32_245 c0_i32_246
  let c1_i32_247 : BitVec 32 := 1#32
  let v266 : BitVec 32 := Scalar.select v265 c1_i32_247 c16_i32_245
  let v267 : BitVec 32 := Scalar.remsi arg17 v266
  let c0_i32_249 : BitVec 32 := 0#32
  let v269 : BitVec 1 := Scalar.cmpi .slt v267 c0_i32_249
  let c0_i32_250 : BitVec 32 := 0#32
  let v270 : BitVec 1 := Scalar.cmpi .slt v266 c0_i32_250
  let v271 : BitVec 1 := Scalar.xori v269 v270
  let c0_i32_248 : BitVec 32 := 0#32
  let v268 : BitVec 1 := Scalar.cmpi .ne v267 c0_i32_248
  let v272 : BitVec 1 := Scalar.andi v271 v268
  let v273 : BitVec 32 := Scalar.addi v267 v266
  let v274 : BitVec 32 := Scalar.select v272 v273 v267
  let c128_i32_251 : BitVec 32 := 128#32
  let v275 : BitVec 32 := Scalar.muli v274 c128_i32_251
  let v276 : BitVec 32 := Scalar.addi v264 v275
  let v277 : BitVec 32 := v276
  let v278 : Index := Scalar.indexCast v277
  let c0_254 : Index := 0#32
  ![0, 0, v278.toNat, 0]
def k0_off7 (k0_t1 : Fin k0_t1_loop.trips) : Fin 5 → Nat :=
  let c0_267 : Index := 0#32
  let c1_268 : Index := 1#32
  let c0_i32_187 : BitVec 32 := 0#32
  let c1_i32_188 : BitVec 32 := 1#32
  let arg17 : BitVec 32 := Scf.iv c0_i32_187 c1_i32_188 k0_t1
  let c0_i32_256 : BitVec 32 := 0#32
  let v287 : BitVec 1 := Scalar.cmpi .eq arg17 c0_i32_256
  let c2_i32_266 : BitVec 32 := 2#32
  let c16_i32_257 : BitVec 32 := 16#32
  let c0_i32_258 : BitVec 32 := 0#32
  let v288 : BitVec 1 := Scalar.cmpi .eq c16_i32_257 c0_i32_258
  let c1_i32_259 : BitVec 32 := 1#32
  let v289 : BitVec 32 := Scalar.select v288 c1_i32_259 c16_i32_257
  let v290 : BitVec 32 := Scalar.remsi arg17 v289
  let c0_i32_261 : BitVec 32 := 0#32
  let v292 : BitVec 1 := Scalar.cmpi .slt v290 c0_i32_261
  let c0_i32_262 : BitVec 32 := 0#32
  let v293 : BitVec 1 := Scalar.cmpi .slt v289 c0_i32_262
  let v294 : BitVec 1 := Scalar.xori v292 v293
  let c0_i32_260 : BitVec 32 := 0#32
  let v291 : BitVec 1 := Scalar.cmpi .ne v290 c0_i32_260
  let v295 : BitVec 1 := Scalar.andi v294 v291
  let v296 : BitVec 32 := Scalar.addi v290 v289
  let v297 : BitVec 32 := Scalar.select v295 v296 v290
  let c0_i32_263 : BitVec 32 := 0#32
  let v298 : BitVec 1 := Scalar.cmpi .eq v297 c0_i32_263
  let c1_i32_264 : BitVec 32 := 1#32
  let c0_i32_265 : BitVec 32 := 0#32
  let v299 : BitVec 32 := Scalar.select v298 c1_i32_264 c0_i32_265
  let v300 : BitVec 32 := Scalar.select v287 c2_i32_266 v299
  let v301 : Index := Scalar.indexCast v300
  let c0_269 : Index := 0#32
  let c0_270 : Index := 0#32
  ![0, 1, v301.toNat, 0, 0]
def k0_off8 (k0_t1 : Fin k0_t1_loop.trips) : Fin 5 → Nat :=
  let c0_272 : Index := 0#32
  let c1_273 : Index := 1#32
  let c0_i32_187 : BitVec 32 := 0#32
  let c1_i32_188 : BitVec 32 := 1#32
  let arg17 : BitVec 32 := Scf.iv c0_i32_187 c1_i32_188 k0_t1
  let v311 : Index := Scalar.indexCast arg17
  let c0_274 : Index := 0#32
  let c0_275 : Index := 0#32
  ![0, 1, v311.toNat, 0, 0]
def k0_mult4 (k0_t1 : Fin k0_t1_loop.trips) : BitVec 32 :=
  let c0_i32_187 : BitVec 32 := 0#32
  let c1_i32_188 : BitVec 32 := 1#32
  let arg17 : BitVec 32 := Scf.iv c0_i32_187 c1_i32_188 k0_t1
  let c0_i32_277 : BitVec 32 := 0#32
  let v318 : BitVec 1 := Scalar.cmpi .sgt arg17 c0_i32_277
  let v319 : BitVec 32 := Scalar.extui v318
  let c0_i32_278 : BitVec 32 := 0#32
  let v320 : BitVec 1 := Scalar.cmpi .slt arg17 c0_i32_278
  let v321 : BitVec 32 := Scalar.extui v320
  let v322 : BitVec 32 := Scalar.subi v319 v321
  let c16_i32_276 : BitVec 32 := 16#32
  let c0_i32_279 : BitVec 32 := 0#32
  let v323 : BitVec 1 := Scalar.cmpi .sgt c16_i32_276 c0_i32_279
  let v324 : BitVec 32 := Scalar.extui v323
  let c0_i32_280 : BitVec 32 := 0#32
  let v325 : BitVec 1 := Scalar.cmpi .slt c16_i32_276 c0_i32_280
  let v326 : BitVec 32 := Scalar.extui v325
  let v327 : BitVec 32 := Scalar.subi v324 v326
  let v328 : BitVec 1 := Scalar.cmpi .ne v322 v327
  let v329 : BitVec 32 := Scalar.remsi arg17 c16_i32_276
  let c0_i32_281 : BitVec 32 := 0#32
  let v330 : BitVec 1 := Scalar.cmpi .ne v329 c0_i32_281
  let v331 : BitVec 1 := Scalar.andi v328 v330
  let v317 : BitVec 32 := Scalar.divsi arg17 c16_i32_276
  let c1_i32_282 : BitVec 32 := 1#32
  let v332 : BitVec 32 := Scalar.subi v317 c1_i32_282
  let v333 : BitVec 32 := Scalar.select v331 v332 v317
  let c16_i32_283 : BitVec 32 := 16#32
  let c0_i32_284 : BitVec 32 := 0#32
  let v334 : BitVec 1 := Scalar.cmpi .eq c16_i32_283 c0_i32_284
  let c1_i32_285 : BitVec 32 := 1#32
  let v335 : BitVec 32 := Scalar.select v334 c1_i32_285 c16_i32_283
  let v336 : BitVec 32 := Scalar.remsi arg17 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c128_i32_289 : BitVec 32 := 128#32
  let v344 : BitVec 32 := Scalar.muli v343 c128_i32_289
  let v345 : BitVec 32 := Scalar.addi v333 v344
  v345
def k0_off9 (k0_t1 : Fin k0_t1_loop.trips) : Fin 4 → Nat :=
  let c1_290 : Index := 1#32
  let c0_291 : Index := 0#32
  let c0_i32_187 : BitVec 32 := 0#32
  let c1_i32_188 : BitVec 32 := 1#32
  let arg17 : BitVec 32 := Scf.iv c0_i32_187 c1_i32_188 k0_t1
  let c0_i32_277 : BitVec 32 := 0#32
  let v318 : BitVec 1 := Scalar.cmpi .sgt arg17 c0_i32_277
  let v319 : BitVec 32 := Scalar.extui v318
  let c0_i32_278 : BitVec 32 := 0#32
  let v320 : BitVec 1 := Scalar.cmpi .slt arg17 c0_i32_278
  let v321 : BitVec 32 := Scalar.extui v320
  let v322 : BitVec 32 := Scalar.subi v319 v321
  let c16_i32_276 : BitVec 32 := 16#32
  let c0_i32_279 : BitVec 32 := 0#32
  let v323 : BitVec 1 := Scalar.cmpi .sgt c16_i32_276 c0_i32_279
  let v324 : BitVec 32 := Scalar.extui v323
  let c0_i32_280 : BitVec 32 := 0#32
  let v325 : BitVec 1 := Scalar.cmpi .slt c16_i32_276 c0_i32_280
  let v326 : BitVec 32 := Scalar.extui v325
  let v327 : BitVec 32 := Scalar.subi v324 v326
  let v328 : BitVec 1 := Scalar.cmpi .ne v322 v327
  let v329 : BitVec 32 := Scalar.remsi arg17 c16_i32_276
  let c0_i32_281 : BitVec 32 := 0#32
  let v330 : BitVec 1 := Scalar.cmpi .ne v329 c0_i32_281
  let v331 : BitVec 1 := Scalar.andi v328 v330
  let v317 : BitVec 32 := Scalar.divsi arg17 c16_i32_276
  let c1_i32_282 : BitVec 32 := 1#32
  let v332 : BitVec 32 := Scalar.subi v317 c1_i32_282
  let v333 : BitVec 32 := Scalar.select v331 v332 v317
  let c16_i32_283 : BitVec 32 := 16#32
  let c0_i32_284 : BitVec 32 := 0#32
  let v334 : BitVec 1 := Scalar.cmpi .eq c16_i32_283 c0_i32_284
  let c1_i32_285 : BitVec 32 := 1#32
  let v335 : BitVec 32 := Scalar.select v334 c1_i32_285 c16_i32_283
  let v336 : BitVec 32 := Scalar.remsi arg17 v335
  let c0_i32_287 : BitVec 32 := 0#32
  let v338 : BitVec 1 := Scalar.cmpi .slt v336 c0_i32_287
  let c0_i32_288 : BitVec 32 := 0#32
  let v339 : BitVec 1 := Scalar.cmpi .slt v335 c0_i32_288
  let v340 : BitVec 1 := Scalar.xori v338 v339
  let c0_i32_286 : BitVec 32 := 0#32
  let v337 : BitVec 1 := Scalar.cmpi .ne v336 c0_i32_286
  let v341 : BitVec 1 := Scalar.andi v340 v337
  let v342 : BitVec 32 := Scalar.addi v336 v335
  let v343 : BitVec 32 := Scalar.select v341 v342 v336
  let c128_i32_289 : BitVec 32 := 128#32
  let v344 : BitVec 32 := Scalar.muli v343 c128_i32_289
  let v345 : BitVec 32 := Scalar.addi v333 v344
  let v346 : BitVec 32 := v345
  let v347 : Index := Scalar.indexCast v346
  let c0_292 : Index := 0#32
  ![1, 0, v347.toNat, 0]
@[reducible] def k0_t2_loop : Scf.Loop 32 :=
  let c0_i32_192 : BitVec 32 := 0#32
  let c16_i32_193 : BitVec 32 := 16#32
  let v196 : BitVec 32 := Scalar.addi c0_i32_192 c16_i32_193
  let c1_i32_194 : BitVec 32 := 1#32
  ⟨c0_i32_192, v196, c1_i32_194⟩
def k0_mult5 (k0_t2 : Fin k0_t2_loop.trips) : BitVec 32 :=
  let c0_i32_192 : BitVec 32 := 0#32
  let c1_i32_194 : BitVec 32 := 1#32
  let arg17 : BitVec 32 := Scf.iv c0_i32_192 c1_i32_194 k0_t2
  let c1_i32_210 : BitVec 32 := 1#32
  let v200 : BitVec 32 := Scalar.addi arg17 c1_i32_210
  let c128_i32 : BitVec 32 := 128#32
  let v201 : BitVec 32 := Scalar.muli v200 c128_i32
  let c256_i32 : BitVec 32 := 256#32
  let v202 : BitVec 32 := Scalar.subi v201 c256_i32
  let c0_i32_211 : BitVec 32 := 0#32
  let v203 : BitVec 32 := Scalar.maxsi v202 c0_i32_211
  v203
def k0_off10 (k0_t2 : Fin k0_t2_loop.trips) : Fin 3 → Nat :=
  let c0_212 : Index := 0#32
  let c0_i32_192 : BitVec 32 := 0#32
  let c1_i32_194 : BitVec 32 := 1#32
  let arg17 : BitVec 32 := Scf.iv c0_i32_192 c1_i32_194 k0_t2
  let c1_i32_210 : BitVec 32 := 1#32
  let v200 : BitVec 32 := Scalar.addi arg17 c1_i32_210
  let c128_i32 : BitVec 32 := 128#32
  let v201 : BitVec 32 := Scalar.muli v200 c128_i32
  let c256_i32 : BitVec 32 := 256#32
  let v202 : BitVec 32 := Scalar.subi v201 c256_i32
  let c0_i32_211 : BitVec 32 := 0#32
  let v203 : BitVec 32 := Scalar.maxsi v202 c0_i32_211
  let v204 : BitVec 32 := v203
  let v205 : Index := Scalar.indexCast v204
  let c0_213 : Index := 0#32
  ![0, v205.toNat, 0]
def k0_off11 (k0_t2 : Fin k0_t2_loop.trips) : Fin 5 → Nat :=
  let c0_214 : Index := 0#32
  let c0_215 : Index := 0#32
  let c0_i32_192 : BitVec 32 := 0#32
  let c1_i32_194 : BitVec 32 := 1#32
  let arg17 : BitVec 32 := Scf.iv c0_i32_192 c1_i32_194 k0_t2
  let v208 : Index := Scalar.indexCast arg17
  let c0_216 : Index := 0#32
  let c0_217 : Index := 0#32
  ![0, 0, v208.toNat, 0, 0]
def k0_mult6 (k0_t2 : Fin k0_t2_loop.trips) : BitVec 32 :=
  let c0_i32_192 : BitVec 32 := 0#32
  let c1_i32_194 : BitVec 32 := 1#32
  let arg17 : BitVec 32 := Scf.iv c0_i32_192 c1_i32_194 k0_t2
  let c0_i32_220 : BitVec 32 := 0#32
  let v217 : BitVec 1 := Scalar.cmpi .sgt arg17 c0_i32_220
  let v218 : BitVec 32 := Scalar.extui v217
  let c0_i32_221 : BitVec 32 := 0#32
  let v219 : BitVec 1 := Scalar.cmpi .slt arg17 c0_i32_221
  let v220 : BitVec 32 := Scalar.extui v219
  let v221 : BitVec 32 := Scalar.subi v218 v220
  let c16_i32_219 : BitVec 32 := 16#32
  let c0_i32_222 : BitVec 32 := 0#32
  let v222 : BitVec 1 := Scalar.cmpi .sgt c16_i32_219 c0_i32_222
  let v223 : BitVec 32 := Scalar.extui v222
  let c0_i32_223 : BitVec 32 := 0#32
  let v224 : BitVec 1 := Scalar.cmpi .slt c16_i32_219 c0_i32_223
  let v225 : BitVec 32 := Scalar.extui v224
  let v226 : BitVec 32 := Scalar.subi v223 v225
  let v227 : BitVec 1 := Scalar.cmpi .ne v221 v226
  let v228 : BitVec 32 := Scalar.remsi arg17 c16_i32_219
  let c0_i32_224 : BitVec 32 := 0#32
  let v229 : BitVec 1 := Scalar.cmpi .ne v228 c0_i32_224
  let v230 : BitVec 1 := Scalar.andi v227 v229
  let v216 : BitVec 32 := Scalar.divsi arg17 c16_i32_219
  let c1_i32_225 : BitVec 32 := 1#32
  let v231 : BitVec 32 := Scalar.subi v216 c1_i32_225
  let v232 : BitVec 32 := Scalar.select v230 v231 v216
  let c16_i32_226 : BitVec 32 := 16#32
  let c0_i32_227 : BitVec 32 := 0#32
  let v233 : BitVec 1 := Scalar.cmpi .eq c16_i32_226 c0_i32_227
  let c1_i32_228 : BitVec 32 := 1#32
  let v234 : BitVec 32 := Scalar.select v233 c1_i32_228 c16_i32_226
  let v235 : BitVec 32 := Scalar.remsi arg17 v234
  let c0_i32_230 : BitVec 32 := 0#32
  let v237 : BitVec 1 := Scalar.cmpi .slt v235 c0_i32_230
  let c0_i32_231 : BitVec 32 := 0#32
  let v238 : BitVec 1 := Scalar.cmpi .slt v234 c0_i32_231
  let v239 : BitVec 1 := Scalar.xori v237 v238
  let c0_i32_229 : BitVec 32 := 0#32
  let v236 : BitVec 1 := Scalar.cmpi .ne v235 c0_i32_229
  let v240 : BitVec 1 := Scalar.andi v239 v236
  let v241 : BitVec 32 := Scalar.addi v235 v234
  let v242 : BitVec 32 := Scalar.select v240 v241 v235
  let c128_i32_232 : BitVec 32 := 128#32
  let v243 : BitVec 32 := Scalar.muli v242 c128_i32_232
  let v244 : BitVec 32 := Scalar.addi v232 v243
  v244
def k0_off12 (k0_t2 : Fin k0_t2_loop.trips) : Fin 4 → Nat :=
  let c0_233 : Index := 0#32
  let c0_234 : Index := 0#32
  let c0_i32_192 : BitVec 32 := 0#32
  let c1_i32_194 : BitVec 32 := 1#32
  let arg17 : BitVec 32 := Scf.iv c0_i32_192 c1_i32_194 k0_t2
  let c0_i32_220 : BitVec 32 := 0#32
  let v217 : BitVec 1 := Scalar.cmpi .sgt arg17 c0_i32_220
  let v218 : BitVec 32 := Scalar.extui v217
  let c0_i32_221 : BitVec 32 := 0#32
  let v219 : BitVec 1 := Scalar.cmpi .slt arg17 c0_i32_221
  let v220 : BitVec 32 := Scalar.extui v219
  let v221 : BitVec 32 := Scalar.subi v218 v220
  let c16_i32_219 : BitVec 32 := 16#32
  let c0_i32_222 : BitVec 32 := 0#32
  let v222 : BitVec 1 := Scalar.cmpi .sgt c16_i32_219 c0_i32_222
  let v223 : BitVec 32 := Scalar.extui v222
  let c0_i32_223 : BitVec 32 := 0#32
  let v224 : BitVec 1 := Scalar.cmpi .slt c16_i32_219 c0_i32_223
  let v225 : BitVec 32 := Scalar.extui v224
  let v226 : BitVec 32 := Scalar.subi v223 v225
  let v227 : BitVec 1 := Scalar.cmpi .ne v221 v226
  let v228 : BitVec 32 := Scalar.remsi arg17 c16_i32_219
  let c0_i32_224 : BitVec 32 := 0#32
  let v229 : BitVec 1 := Scalar.cmpi .ne v228 c0_i32_224
  let v230 : BitVec 1 := Scalar.andi v227 v229
  let v216 : BitVec 32 := Scalar.divsi arg17 c16_i32_219
  let c1_i32_225 : BitVec 32 := 1#32
  let v231 : BitVec 32 := Scalar.subi v216 c1_i32_225
  let v232 : BitVec 32 := Scalar.select v230 v231 v216
  let c16_i32_226 : BitVec 32 := 16#32
  let c0_i32_227 : BitVec 32 := 0#32
  let v233 : BitVec 1 := Scalar.cmpi .eq c16_i32_226 c0_i32_227
  let c1_i32_228 : BitVec 32 := 1#32
  let v234 : BitVec 32 := Scalar.select v233 c1_i32_228 c16_i32_226
  let v235 : BitVec 32 := Scalar.remsi arg17 v234
  let c0_i32_230 : BitVec 32 := 0#32
  let v237 : BitVec 1 := Scalar.cmpi .slt v235 c0_i32_230
  let c0_i32_231 : BitVec 32 := 0#32
  let v238 : BitVec 1 := Scalar.cmpi .slt v234 c0_i32_231
  let v239 : BitVec 1 := Scalar.xori v237 v238
  let c0_i32_229 : BitVec 32 := 0#32
  let v236 : BitVec 1 := Scalar.cmpi .ne v235 c0_i32_229
  let v240 : BitVec 1 := Scalar.andi v239 v236
  let v241 : BitVec 32 := Scalar.addi v235 v234
  let v242 : BitVec 32 := Scalar.select v240 v241 v235
  let c128_i32_232 : BitVec 32 := 128#32
  let v243 : BitVec 32 := Scalar.muli v242 c128_i32_232
  let v244 : BitVec 32 := Scalar.addi v232 v243
  let v245 : BitVec 32 := v244
  let v246 : Index := Scalar.indexCast v245
  let c0_235 : Index := 0#32
  ![0, 0, v246.toNat, 0]
def k0_off13 (k0_t2 : Fin k0_t2_loop.trips) : Fin 5 → Nat :=
  let c0_236 : Index := 0#32
  let c1_237 : Index := 1#32
  let c0_i32_192 : BitVec 32 := 0#32
  let c1_i32_194 : BitVec 32 := 1#32
  let arg17 : BitVec 32 := Scf.iv c0_i32_192 c1_i32_194 k0_t2
  let v250 : Index := Scalar.indexCast arg17
  let c0_238 : Index := 0#32
  let c0_239 : Index := 0#32
  ![0, 1, v250.toNat, 0, 0]
def k0_mult7 (k0_t2 : Fin k0_t2_loop.trips) : BitVec 32 :=
  let c0_i32_192 : BitVec 32 := 0#32
  let c1_i32_194 : BitVec 32 := 1#32
  let arg17 : BitVec 32 := Scf.iv c0_i32_192 c1_i32_194 k0_t2
  let c0_i32_242 : BitVec 32 := 0#32
  let v259 : BitVec 1 := Scalar.cmpi .sgt arg17 c0_i32_242
  let v260 : BitVec 32 := Scalar.extui v259
  let c0_i32_243 : BitVec 32 := 0#32
  let v261 : BitVec 1 := Scalar.cmpi .slt arg17 c0_i32_243
  let v262 : BitVec 32 := Scalar.extui v261
  let v263 : BitVec 32 := Scalar.subi v260 v262
  let c16_i32_241 : BitVec 32 := 16#32
  let c0_i32_244 : BitVec 32 := 0#32
  let v264 : BitVec 1 := Scalar.cmpi .sgt c16_i32_241 c0_i32_244
  let v265 : BitVec 32 := Scalar.extui v264
  let c0_i32_245 : BitVec 32 := 0#32
  let v266 : BitVec 1 := Scalar.cmpi .slt c16_i32_241 c0_i32_245
  let v267 : BitVec 32 := Scalar.extui v266
  let v268 : BitVec 32 := Scalar.subi v265 v267
  let v269 : BitVec 1 := Scalar.cmpi .ne v263 v268
  let v270 : BitVec 32 := Scalar.remsi arg17 c16_i32_241
  let c0_i32_246 : BitVec 32 := 0#32
  let v271 : BitVec 1 := Scalar.cmpi .ne v270 c0_i32_246
  let v272 : BitVec 1 := Scalar.andi v269 v271
  let v258 : BitVec 32 := Scalar.divsi arg17 c16_i32_241
  let c1_i32_247 : BitVec 32 := 1#32
  let v273 : BitVec 32 := Scalar.subi v258 c1_i32_247
  let v274 : BitVec 32 := Scalar.select v272 v273 v258
  let c16_i32_248 : BitVec 32 := 16#32
  let c0_i32_249 : BitVec 32 := 0#32
  let v275 : BitVec 1 := Scalar.cmpi .eq c16_i32_248 c0_i32_249
  let c1_i32_250 : BitVec 32 := 1#32
  let v276 : BitVec 32 := Scalar.select v275 c1_i32_250 c16_i32_248
  let v277 : BitVec 32 := Scalar.remsi arg17 v276
  let c0_i32_252 : BitVec 32 := 0#32
  let v279 : BitVec 1 := Scalar.cmpi .slt v277 c0_i32_252
  let c0_i32_253 : BitVec 32 := 0#32
  let v280 : BitVec 1 := Scalar.cmpi .slt v276 c0_i32_253
  let v281 : BitVec 1 := Scalar.xori v279 v280
  let c0_i32_251 : BitVec 32 := 0#32
  let v278 : BitVec 1 := Scalar.cmpi .ne v277 c0_i32_251
  let v282 : BitVec 1 := Scalar.andi v281 v278
  let v283 : BitVec 32 := Scalar.addi v277 v276
  let v284 : BitVec 32 := Scalar.select v282 v283 v277
  let c128_i32_254 : BitVec 32 := 128#32
  let v285 : BitVec 32 := Scalar.muli v284 c128_i32_254
  let v286 : BitVec 32 := Scalar.addi v274 v285
  v286
def k0_off14 (k0_t2 : Fin k0_t2_loop.trips) : Fin 4 → Nat :=
  let c1_255 : Index := 1#32
  let c0_256 : Index := 0#32
  let c0_i32_192 : BitVec 32 := 0#32
  let c1_i32_194 : BitVec 32 := 1#32
  let arg17 : BitVec 32 := Scf.iv c0_i32_192 c1_i32_194 k0_t2
  let c0_i32_242 : BitVec 32 := 0#32
  let v259 : BitVec 1 := Scalar.cmpi .sgt arg17 c0_i32_242
  let v260 : BitVec 32 := Scalar.extui v259
  let c0_i32_243 : BitVec 32 := 0#32
  let v261 : BitVec 1 := Scalar.cmpi .slt arg17 c0_i32_243
  let v262 : BitVec 32 := Scalar.extui v261
  let v263 : BitVec 32 := Scalar.subi v260 v262
  let c16_i32_241 : BitVec 32 := 16#32
  let c0_i32_244 : BitVec 32 := 0#32
  let v264 : BitVec 1 := Scalar.cmpi .sgt c16_i32_241 c0_i32_244
  let v265 : BitVec 32 := Scalar.extui v264
  let c0_i32_245 : BitVec 32 := 0#32
  let v266 : BitVec 1 := Scalar.cmpi .slt c16_i32_241 c0_i32_245
  let v267 : BitVec 32 := Scalar.extui v266
  let v268 : BitVec 32 := Scalar.subi v265 v267
  let v269 : BitVec 1 := Scalar.cmpi .ne v263 v268
  let v270 : BitVec 32 := Scalar.remsi arg17 c16_i32_241
  let c0_i32_246 : BitVec 32 := 0#32
  let v271 : BitVec 1 := Scalar.cmpi .ne v270 c0_i32_246
  let v272 : BitVec 1 := Scalar.andi v269 v271
  let v258 : BitVec 32 := Scalar.divsi arg17 c16_i32_241
  let c1_i32_247 : BitVec 32 := 1#32
  let v273 : BitVec 32 := Scalar.subi v258 c1_i32_247
  let v274 : BitVec 32 := Scalar.select v272 v273 v258
  let c16_i32_248 : BitVec 32 := 16#32
  let c0_i32_249 : BitVec 32 := 0#32
  let v275 : BitVec 1 := Scalar.cmpi .eq c16_i32_248 c0_i32_249
  let c1_i32_250 : BitVec 32 := 1#32
  let v276 : BitVec 32 := Scalar.select v275 c1_i32_250 c16_i32_248
  let v277 : BitVec 32 := Scalar.remsi arg17 v276
  let c0_i32_252 : BitVec 32 := 0#32
  let v279 : BitVec 1 := Scalar.cmpi .slt v277 c0_i32_252
  let c0_i32_253 : BitVec 32 := 0#32
  let v280 : BitVec 1 := Scalar.cmpi .slt v276 c0_i32_253
  let v281 : BitVec 1 := Scalar.xori v279 v280
  let c0_i32_251 : BitVec 32 := 0#32
  let v278 : BitVec 1 := Scalar.cmpi .ne v277 c0_i32_251
  let v282 : BitVec 1 := Scalar.andi v281 v278
  let v283 : BitVec 32 := Scalar.addi v277 v276
  let v284 : BitVec 32 := Scalar.select v282 v283 v277
  let c128_i32_254 : BitVec 32 := 128#32
  let v285 : BitVec 32 := Scalar.muli v284 c128_i32_254
  let v286 : BitVec 32 := Scalar.addi v274 v285
  let v287 : BitVec 32 := v286
  let v288 : Index := Scalar.indexCast v287
  let c0_257 : Index := 0#32
  ![1, 0, v288.toNat, 0]
def k0_mult8 (k0_t2 : Fin k0_t2_loop.trips) : BitVec 32 :=
  let c0_i32_192 : BitVec 32 := 0#32
  let c1_i32_194 : BitVec 32 := 1#32
  let arg17 : BitVec 32 := Scf.iv c0_i32_192 c1_i32_194 k0_t2
  let c1_i32_258 : BitVec 32 := 1#32
  let v292 : BitVec 32 := Scalar.addi arg17 c1_i32_258
  let c128_i32_259 : BitVec 32 := 128#32
  let v293 : BitVec 32 := Scalar.muli v292 c128_i32_259
  let c256_i32_260 : BitVec 32 := 256#32
  let v294 : BitVec 32 := Scalar.subi v293 c256_i32_260
  let c0_i32_261 : BitVec 32 := 0#32
  let v295 : BitVec 32 := Scalar.maxsi v294 c0_i32_261
  v295
def k0_mult9 (k0_t2 : Fin k0_t2_loop.trips) : BitVec 32 :=
  let c0_i32_192 : BitVec 32 := 0#32
  let c1_i32_194 : BitVec 32 := 1#32
  let arg17 : BitVec 32 := Scf.iv c0_i32_192 c1_i32_194 k0_t2
  let c128_i32_264 : BitVec 32 := 128#32
  let v300 : BitVec 32 := Scalar.muli arg17 c128_i32_264
  v300
def k0_off15 (k0_t2 : Fin k0_t2_loop.trips) : Fin 3 → Nat :=
  let c0_265 : Index := 0#32
  let c0_i32_192 : BitVec 32 := 0#32
  let c1_i32_194 : BitVec 32 := 1#32
  let arg17 : BitVec 32 := Scf.iv c0_i32_192 c1_i32_194 k0_t2
  let c128_i32_264 : BitVec 32 := 128#32
  let v300 : BitVec 32 := Scalar.muli arg17 c128_i32_264
  let v301 : BitVec 32 := v300
  let v302 : Index := Scalar.indexCast v301
  let c0_266 : Index := 0#32
  ![0, v302.toNat, 0]
def k0_off16 (k0_t2 : Fin k0_t2_loop.trips) : Fin 5 → Nat :=
  let c1_278 : Index := 1#32
  let c0_279 : Index := 0#32
  let c0_i32_192 : BitVec 32 := 0#32
  let c1_i32_194 : BitVec 32 := 1#32
  let arg17 : BitVec 32 := Scf.iv c0_i32_192 c1_i32_194 k0_t2
  let c0_i32_268 : BitVec 32 := 0#32
  let v310 : BitVec 1 := Scalar.cmpi .eq arg17 c0_i32_268
  let c2_i32_277 : BitVec 32 := 2#32
  let c4_i32 : BitVec 32 := 4#32
  let c0_i32_269 : BitVec 32 := 0#32
  let v311 : BitVec 1 := Scalar.cmpi .eq c4_i32 c0_i32_269
  let c1_i32_270 : BitVec 32 := 1#32
  let v312 : BitVec 32 := Scalar.select v311 c1_i32_270 c4_i32
  let v313 : BitVec 32 := Scalar.remsi arg17 v312
  let c0_i32_272 : BitVec 32 := 0#32
  let v315 : BitVec 1 := Scalar.cmpi .slt v313 c0_i32_272
  let c0_i32_273 : BitVec 32 := 0#32
  let v316 : BitVec 1 := Scalar.cmpi .slt v312 c0_i32_273
  let v317 : BitVec 1 := Scalar.xori v315 v316
  let c0_i32_271 : BitVec 32 := 0#32
  let v314 : BitVec 1 := Scalar.cmpi .ne v313 c0_i32_271
  let v318 : BitVec 1 := Scalar.andi v317 v314
  let v319 : BitVec 32 := Scalar.addi v313 v312
  let v320 : BitVec 32 := Scalar.select v318 v319 v313
  let c0_i32_274 : BitVec 32 := 0#32
  let v321 : BitVec 1 := Scalar.cmpi .eq v320 c0_i32_274
  let c1_i32_275 : BitVec 32 := 1#32
  let c0_i32_276 : BitVec 32 := 0#32
  let v322 : BitVec 32 := Scalar.select v321 c1_i32_275 c0_i32_276
  let v323 : BitVec 32 := Scalar.select v310 c2_i32_277 v322
  let v324 : Index := Scalar.indexCast v323
  let c0_280 : Index := 0#32
  let c0_281 : Index := 0#32
  ![1, 0, v324.toNat, 0, 0]
def k0_off17 (k0_t2 : Fin k0_t2_loop.trips) : Fin 5 → Nat :=
  let c1_283 : Index := 1#32
  let c0_284 : Index := 0#32
  let c0_i32_192 : BitVec 32 := 0#32
  let c1_i32_194 : BitVec 32 := 1#32
  let arg17 : BitVec 32 := Scf.iv c0_i32_192 c1_i32_194 k0_t2
  let v334 : Index := Scalar.indexCast arg17
  let c0_285 : Index := 0#32
  let c0_286 : Index := 0#32
  ![1, 0, v334.toNat, 0, 0]
def k0_off18 (k0_t2 : Fin k0_t2_loop.trips) : Fin 4 → Nat :=
  let c0_300 : Index := 0#32
  let c1_301 : Index := 1#32
  let c0_i32_192 : BitVec 32 := 0#32
  let c1_i32_194 : BitVec 32 := 1#32
  let arg17 : BitVec 32 := Scf.iv c0_i32_192 c1_i32_194 k0_t2
  let c0_i32_288 : BitVec 32 := 0#32
  let v341 : BitVec 1 := Scalar.cmpi .sgt arg17 c0_i32_288
  let v342 : BitVec 32 := Scalar.extui v341
  let c0_i32_289 : BitVec 32 := 0#32
  let v343 : BitVec 1 := Scalar.cmpi .slt arg17 c0_i32_289
  let v344 : BitVec 32 := Scalar.extui v343
  let v345 : BitVec 32 := Scalar.subi v342 v344
  let c4_i32_287 : BitVec 32 := 4#32
  let c0_i32_290 : BitVec 32 := 0#32
  let v346 : BitVec 1 := Scalar.cmpi .sgt c4_i32_287 c0_i32_290
  let v347 : BitVec 32 := Scalar.extui v346
  let c0_i32_291 : BitVec 32 := 0#32
  let v348 : BitVec 1 := Scalar.cmpi .slt c4_i32_287 c0_i32_291
  let v349 : BitVec 32 := Scalar.extui v348
  let v350 : BitVec 32 := Scalar.subi v347 v349
  let v351 : BitVec 1 := Scalar.cmpi .ne v345 v350
  let v352 : BitVec 32 := Scalar.remsi arg17 c4_i32_287
  let c0_i32_292 : BitVec 32 := 0#32
  let v353 : BitVec 1 := Scalar.cmpi .ne v352 c0_i32_292
  let v354 : BitVec 1 := Scalar.andi v351 v353
  let v340 : BitVec 32 := Scalar.divsi arg17 c4_i32_287
  let c1_i32_293 : BitVec 32 := 1#32
  let v355 : BitVec 32 := Scalar.subi v340 c1_i32_293
  let v356 : BitVec 32 := Scalar.select v354 v355 v340
  let c4_i32_294 : BitVec 32 := 4#32
  let c0_i32_295 : BitVec 32 := 0#32
  let v357 : BitVec 1 := Scalar.cmpi .eq c4_i32_294 c0_i32_295
  let c1_i32_296 : BitVec 32 := 1#32
  let v358 : BitVec 32 := Scalar.select v357 c1_i32_296 c4_i32_294
  let v359 : BitVec 32 := Scalar.remsi arg17 v358
  let c0_i32_298 : BitVec 32 := 0#32
  let v361 : BitVec 1 := Scalar.cmpi .slt v359 c0_i32_298
  let c0_i32_299 : BitVec 32 := 0#32
  let v362 : BitVec 1 := Scalar.cmpi .slt v358 c0_i32_299
  let v363 : BitVec 1 := Scalar.xori v361 v362
  let c0_i32_297 : BitVec 32 := 0#32
  let v360 : BitVec 1 := Scalar.cmpi .ne v359 c0_i32_297
  let v364 : BitVec 1 := Scalar.andi v363 v360
  let v365 : BitVec 32 := Scalar.addi v359 v358
  let v366 : BitVec 32 := Scalar.select v364 v365 v359
  let c512_i32 : BitVec 32 := 512#32
  let v367 : BitVec 32 := Scalar.muli v366 c512_i32
  let v368 : BitVec 32 := Scalar.addi v356 v367
  let v369 : Index := Scalar.indexCast v368
  let c0_302 : Index := 0#32
  ![0, 1, v369.toNat, 0]
def k0_off19 (k0_t2 : Fin k0_t2_loop.trips) : Fin 5 → Nat :=
  let c1_315 : Index := 1#32
  let c1_316 : Index := 1#32
  let c0_i32_192 : BitVec 32 := 0#32
  let c1_i32_194 : BitVec 32 := 1#32
  let arg17 : BitVec 32 := Scf.iv c0_i32_192 c1_i32_194 k0_t2
  let c0_i32_304 : BitVec 32 := 0#32
  let v378 : BitVec 1 := Scalar.cmpi .eq arg17 c0_i32_304
  let c2_i32_314 : BitVec 32 := 2#32
  let c4_i32_305 : BitVec 32 := 4#32
  let c0_i32_306 : BitVec 32 := 0#32
  let v379 : BitVec 1 := Scalar.cmpi .eq c4_i32_305 c0_i32_306
  let c1_i32_307 : BitVec 32 := 1#32
  let v380 : BitVec 32 := Scalar.select v379 c1_i32_307 c4_i32_305
  let v381 : BitVec 32 := Scalar.remsi arg17 v380
  let c0_i32_309 : BitVec 32 := 0#32
  let v383 : BitVec 1 := Scalar.cmpi .slt v381 c0_i32_309
  let c0_i32_310 : BitVec 32 := 0#32
  let v384 : BitVec 1 := Scalar.cmpi .slt v380 c0_i32_310
  let v385 : BitVec 1 := Scalar.xori v383 v384
  let c0_i32_308 : BitVec 32 := 0#32
  let v382 : BitVec 1 := Scalar.cmpi .ne v381 c0_i32_308
  let v386 : BitVec 1 := Scalar.andi v385 v382
  let v387 : BitVec 32 := Scalar.addi v381 v380
  let v388 : BitVec 32 := Scalar.select v386 v387 v381
  let c0_i32_311 : BitVec 32 := 0#32
  let v389 : BitVec 1 := Scalar.cmpi .eq v388 c0_i32_311
  let c1_i32_312 : BitVec 32 := 1#32
  let c0_i32_313 : BitVec 32 := 0#32
  let v390 : BitVec 32 := Scalar.select v389 c1_i32_312 c0_i32_313
  let v391 : BitVec 32 := Scalar.select v378 c2_i32_314 v390
  let v392 : Index := Scalar.indexCast v391
  let c0_317 : Index := 0#32
  let c0_318 : Index := 0#32
  ![1, 1, v392.toNat, 0, 0]
def k0_off20 (k0_t2 : Fin k0_t2_loop.trips) : Fin 5 → Nat :=
  let c1_320 : Index := 1#32
  let c1_321 : Index := 1#32
  let c0_i32_192 : BitVec 32 := 0#32
  let c1_i32_194 : BitVec 32 := 1#32
  let arg17 : BitVec 32 := Scf.iv c0_i32_192 c1_i32_194 k0_t2
  let v402 : Index := Scalar.indexCast arg17
  let c0_322 : Index := 0#32
  let c0_323 : Index := 0#32
  ![1, 1, v402.toNat, 0, 0]
def k0_off21 (k0_t2 : Fin k0_t2_loop.trips) : Fin 4 → Nat :=
  let c1_338 : Index := 1#32
  let c1_339 : Index := 1#32
  let c0_i32_192 : BitVec 32 := 0#32
  let c1_i32_194 : BitVec 32 := 1#32
  let arg17 : BitVec 32 := Scf.iv c0_i32_192 c1_i32_194 k0_t2
  let c0_i32_325 : BitVec 32 := 0#32
  let v409 : BitVec 1 := Scalar.cmpi .sgt arg17 c0_i32_325
  let v410 : BitVec 32 := Scalar.extui v409
  let c0_i32_326 : BitVec 32 := 0#32
  let v411 : BitVec 1 := Scalar.cmpi .slt arg17 c0_i32_326
  let v412 : BitVec 32 := Scalar.extui v411
  let v413 : BitVec 32 := Scalar.subi v410 v412
  let c4_i32_324 : BitVec 32 := 4#32
  let c0_i32_327 : BitVec 32 := 0#32
  let v414 : BitVec 1 := Scalar.cmpi .sgt c4_i32_324 c0_i32_327
  let v415 : BitVec 32 := Scalar.extui v414
  let c0_i32_328 : BitVec 32 := 0#32
  let v416 : BitVec 1 := Scalar.cmpi .slt c4_i32_324 c0_i32_328
  let v417 : BitVec 32 := Scalar.extui v416
  let v418 : BitVec 32 := Scalar.subi v415 v417
  let v419 : BitVec 1 := Scalar.cmpi .ne v413 v418
  let v420 : BitVec 32 := Scalar.remsi arg17 c4_i32_324
  let c0_i32_329 : BitVec 32 := 0#32
  let v421 : BitVec 1 := Scalar.cmpi .ne v420 c0_i32_329
  let v422 : BitVec 1 := Scalar.andi v419 v421
  let v408 : BitVec 32 := Scalar.divsi arg17 c4_i32_324
  let c1_i32_330 : BitVec 32 := 1#32
  let v423 : BitVec 32 := Scalar.subi v408 c1_i32_330
  let v424 : BitVec 32 := Scalar.select v422 v423 v408
  let c4_i32_331 : BitVec 32 := 4#32
  let c0_i32_332 : BitVec 32 := 0#32
  let v425 : BitVec 1 := Scalar.cmpi .eq c4_i32_331 c0_i32_332
  let c1_i32_333 : BitVec 32 := 1#32
  let v426 : BitVec 32 := Scalar.select v425 c1_i32_333 c4_i32_331
  let v427 : BitVec 32 := Scalar.remsi arg17 v426
  let c0_i32_335 : BitVec 32 := 0#32
  let v429 : BitVec 1 := Scalar.cmpi .slt v427 c0_i32_335
  let c0_i32_336 : BitVec 32 := 0#32
  let v430 : BitVec 1 := Scalar.cmpi .slt v426 c0_i32_336
  let v431 : BitVec 1 := Scalar.xori v429 v430
  let c0_i32_334 : BitVec 32 := 0#32
  let v428 : BitVec 1 := Scalar.cmpi .ne v427 c0_i32_334
  let v432 : BitVec 1 := Scalar.andi v431 v428
  let v433 : BitVec 32 := Scalar.addi v427 v426
  let v434 : BitVec 32 := Scalar.select v432 v433 v427
  let c512_i32_337 : BitVec 32 := 512#32
  let v435 : BitVec 32 := Scalar.muli v434 c512_i32_337
  let v436 : BitVec 32 := Scalar.addi v424 v435
  let v437 : Index := Scalar.indexCast v436
  let c0_340 : Index := 0#32
  ![1, 1, v437.toNat, 0]
@[reducible] def k0_t3_loop : Scf.Loop 32 :=
  let c0_i32_198 : BitVec 32 := 0#32
  let c16_i32_199 : BitVec 32 := 16#32
  let v197 : BitVec 32 := Scalar.addi c0_i32_198 c16_i32_199
  let c1_i32_200 : BitVec 32 := 1#32
  ⟨c0_i32_198, v197, c1_i32_200⟩
def k0_mult10 (k0_t3 : Fin k0_t3_loop.trips) : BitVec 32 :=
  let c0_i32_198 : BitVec 32 := 0#32
  let c1_i32_200 : BitVec 32 := 1#32
  let arg17 : BitVec 32 := Scf.iv c0_i32_198 c1_i32_200 k0_t3
  let c1_i32_210 : BitVec 32 := 1#32
  let v200 : BitVec 32 := Scalar.addi arg17 c1_i32_210
  let c128_i32 : BitVec 32 := 128#32
  let v201 : BitVec 32 := Scalar.muli v200 c128_i32
  let c256_i32 : BitVec 32 := 256#32
  let v202 : BitVec 32 := Scalar.subi v201 c256_i32
  let c0_i32_211 : BitVec 32 := 0#32
  let v203 : BitVec 32 := Scalar.maxsi v202 c0_i32_211
  v203
def k0_off22 (k0_t3 : Fin k0_t3_loop.trips) : Fin 3 → Nat :=
  let c0_212 : Index := 0#32
  let c0_i32_198 : BitVec 32 := 0#32
  let c1_i32_200 : BitVec 32 := 1#32
  let arg17 : BitVec 32 := Scf.iv c0_i32_198 c1_i32_200 k0_t3
  let c1_i32_210 : BitVec 32 := 1#32
  let v200 : BitVec 32 := Scalar.addi arg17 c1_i32_210
  let c128_i32 : BitVec 32 := 128#32
  let v201 : BitVec 32 := Scalar.muli v200 c128_i32
  let c256_i32 : BitVec 32 := 256#32
  let v202 : BitVec 32 := Scalar.subi v201 c256_i32
  let c0_i32_211 : BitVec 32 := 0#32
  let v203 : BitVec 32 := Scalar.maxsi v202 c0_i32_211
  let v204 : BitVec 32 := v203
  let v205 : Index := Scalar.indexCast v204
  let c0_213 : Index := 0#32
  ![0, v205.toNat, 0]
def k0_off23 (k0_t3 : Fin k0_t3_loop.trips) : Fin 5 → Nat :=
  let c1_214 : Index := 1#32
  let c0_215 : Index := 0#32
  let c0_i32_198 : BitVec 32 := 0#32
  let c1_i32_200 : BitVec 32 := 1#32
  let arg17 : BitVec 32 := Scf.iv c0_i32_198 c1_i32_200 k0_t3
  let v208 : Index := Scalar.indexCast arg17
  let c0_216 : Index := 0#32
  let c0_217 : Index := 0#32
  ![1, 0, v208.toNat, 0, 0]
def k0_off24 (k0_t3 : Fin k0_t3_loop.trips) : Fin 4 → Nat :=
  let c0_231 : Index := 0#32
  let c1_232 : Index := 1#32
  let c0_i32_198 : BitVec 32 := 0#32
  let c1_i32_200 : BitVec 32 := 1#32
  let arg17 : BitVec 32 := Scf.iv c0_i32_198 c1_i32_200 k0_t3
  let c0_i32_219 : BitVec 32 := 0#32
  let v217 : BitVec 1 := Scalar.cmpi .sgt arg17 c0_i32_219
  let v218 : BitVec 32 := Scalar.extui v217
  let c0_i32_220 : BitVec 32 := 0#32
  let v219 : BitVec 1 := Scalar.cmpi .slt arg17 c0_i32_220
  let v220 : BitVec 32 := Scalar.extui v219
  let v221 : BitVec 32 := Scalar.subi v218 v220
  let c4_i32 : BitVec 32 := 4#32
  let c0_i32_221 : BitVec 32 := 0#32
  let v222 : BitVec 1 := Scalar.cmpi .sgt c4_i32 c0_i32_221
  let v223 : BitVec 32 := Scalar.extui v222
  let c0_i32_222 : BitVec 32 := 0#32
  let v224 : BitVec 1 := Scalar.cmpi .slt c4_i32 c0_i32_222
  let v225 : BitVec 32 := Scalar.extui v224
  let v226 : BitVec 32 := Scalar.subi v223 v225
  let v227 : BitVec 1 := Scalar.cmpi .ne v221 v226
  let v228 : BitVec 32 := Scalar.remsi arg17 c4_i32
  let c0_i32_223 : BitVec 32 := 0#32
  let v229 : BitVec 1 := Scalar.cmpi .ne v228 c0_i32_223
  let v230 : BitVec 1 := Scalar.andi v227 v229
  let v216 : BitVec 32 := Scalar.divsi arg17 c4_i32
  let c1_i32_224 : BitVec 32 := 1#32
  let v231 : BitVec 32 := Scalar.subi v216 c1_i32_224
  let v232 : BitVec 32 := Scalar.select v230 v231 v216
  let c4_i32_225 : BitVec 32 := 4#32
  let c0_i32_226 : BitVec 32 := 0#32
  let v233 : BitVec 1 := Scalar.cmpi .eq c4_i32_225 c0_i32_226
  let c1_i32_227 : BitVec 32 := 1#32
  let v234 : BitVec 32 := Scalar.select v233 c1_i32_227 c4_i32_225
  let v235 : BitVec 32 := Scalar.remsi arg17 v234
  let c0_i32_229 : BitVec 32 := 0#32
  let v237 : BitVec 1 := Scalar.cmpi .slt v235 c0_i32_229
  let c0_i32_230 : BitVec 32 := 0#32
  let v238 : BitVec 1 := Scalar.cmpi .slt v234 c0_i32_230
  let v239 : BitVec 1 := Scalar.xori v237 v238
  let c0_i32_228 : BitVec 32 := 0#32
  let v236 : BitVec 1 := Scalar.cmpi .ne v235 c0_i32_228
  let v240 : BitVec 1 := Scalar.andi v239 v236
  let v241 : BitVec 32 := Scalar.addi v235 v234
  let v242 : BitVec 32 := Scalar.select v240 v241 v235
  let c512_i32 : BitVec 32 := 512#32
  let v243 : BitVec 32 := Scalar.muli v242 c512_i32
  let v244 : BitVec 32 := Scalar.addi v232 v243
  let v245 : Index := Scalar.indexCast v244
  let c0_233 : Index := 0#32
  ![0, 1, v245.toNat, 0]
def k0_off25 (k0_t3 : Fin k0_t3_loop.trips) : Fin 5 → Nat :=
  let c1_234 : Index := 1#32
  let c1_235 : Index := 1#32
  let c0_i32_198 : BitVec 32 := 0#32
  let c1_i32_200 : BitVec 32 := 1#32
  let arg17 : BitVec 32 := Scf.iv c0_i32_198 c1_i32_200 k0_t3
  let v249 : Index := Scalar.indexCast arg17
  let c0_236 : Index := 0#32
  let c0_237 : Index := 0#32
  ![1, 1, v249.toNat, 0, 0]
def k0_off26 (k0_t3 : Fin k0_t3_loop.trips) : Fin 4 → Nat :=
  let c1_253 : Index := 1#32
  let c1_254 : Index := 1#32
  let c0_i32_198 : BitVec 32 := 0#32
  let c1_i32_200 : BitVec 32 := 1#32
  let arg17 : BitVec 32 := Scf.iv c0_i32_198 c1_i32_200 k0_t3
  let c0_i32_240 : BitVec 32 := 0#32
  let v258 : BitVec 1 := Scalar.cmpi .sgt arg17 c0_i32_240
  let v259 : BitVec 32 := Scalar.extui v258
  let c0_i32_241 : BitVec 32 := 0#32
  let v260 : BitVec 1 := Scalar.cmpi .slt arg17 c0_i32_241
  let v261 : BitVec 32 := Scalar.extui v260
  let v262 : BitVec 32 := Scalar.subi v259 v261
  let c4_i32_239 : BitVec 32 := 4#32
  let c0_i32_242 : BitVec 32 := 0#32
  let v263 : BitVec 1 := Scalar.cmpi .sgt c4_i32_239 c0_i32_242
  let v264 : BitVec 32 := Scalar.extui v263
  let c0_i32_243 : BitVec 32 := 0#32
  let v265 : BitVec 1 := Scalar.cmpi .slt c4_i32_239 c0_i32_243
  let v266 : BitVec 32 := Scalar.extui v265
  let v267 : BitVec 32 := Scalar.subi v264 v266
  let v268 : BitVec 1 := Scalar.cmpi .ne v262 v267
  let v269 : BitVec 32 := Scalar.remsi arg17 c4_i32_239
  let c0_i32_244 : BitVec 32 := 0#32
  let v270 : BitVec 1 := Scalar.cmpi .ne v269 c0_i32_244
  let v271 : BitVec 1 := Scalar.andi v268 v270
  let v257 : BitVec 32 := Scalar.divsi arg17 c4_i32_239
  let c1_i32_245 : BitVec 32 := 1#32
  let v272 : BitVec 32 := Scalar.subi v257 c1_i32_245
  let v273 : BitVec 32 := Scalar.select v271 v272 v257
  let c4_i32_246 : BitVec 32 := 4#32
  let c0_i32_247 : BitVec 32 := 0#32
  let v274 : BitVec 1 := Scalar.cmpi .eq c4_i32_246 c0_i32_247
  let c1_i32_248 : BitVec 32 := 1#32
  let v275 : BitVec 32 := Scalar.select v274 c1_i32_248 c4_i32_246
  let v276 : BitVec 32 := Scalar.remsi arg17 v275
  let c0_i32_250 : BitVec 32 := 0#32
  let v278 : BitVec 1 := Scalar.cmpi .slt v276 c0_i32_250
  let c0_i32_251 : BitVec 32 := 0#32
  let v279 : BitVec 1 := Scalar.cmpi .slt v275 c0_i32_251
  let v280 : BitVec 1 := Scalar.xori v278 v279
  let c0_i32_249 : BitVec 32 := 0#32
  let v277 : BitVec 1 := Scalar.cmpi .ne v276 c0_i32_249
  let v281 : BitVec 1 := Scalar.andi v280 v277
  let v282 : BitVec 32 := Scalar.addi v276 v275
  let v283 : BitVec 32 := Scalar.select v281 v282 v276
  let c512_i32_252 : BitVec 32 := 512#32
  let v284 : BitVec 32 := Scalar.muli v283 c512_i32_252
  let v285 : BitVec 32 := Scalar.addi v273 v284
  let v286 : Index := Scalar.indexCast v285
  let c0_255 : Index := 0#32
  ![1, 1, v286.toNat, 0]
def k0_mult11 (k0_t3 : Fin k0_t3_loop.trips) : BitVec 32 :=
  let c0_i32_198 : BitVec 32 := 0#32
  let c1_i32_200 : BitVec 32 := 1#32
  let arg17 : BitVec 32 := Scf.iv c0_i32_198 c1_i32_200 k0_t3
  let c1_i32_256 : BitVec 32 := 1#32
  let v290 : BitVec 32 := Scalar.addi arg17 c1_i32_256
  let c128_i32_257 : BitVec 32 := 128#32
  let v291 : BitVec 32 := Scalar.muli v290 c128_i32_257
  let c128_i32_258 : BitVec 32 := 128#32
  let v292 : BitVec 32 := Scalar.subi v291 c128_i32_258
  let c0_i32_259 : BitVec 32 := 0#32
  let v293 : BitVec 32 := Scalar.maxsi v292 c0_i32_259
  v293
def k0_off27 (k0_t3 : Fin k0_t3_loop.trips) : Fin 3 → Nat :=
  let c0_260 : Index := 0#32
  let c0_i32_198 : BitVec 32 := 0#32
  let c1_i32_200 : BitVec 32 := 1#32
  let arg17 : BitVec 32 := Scf.iv c0_i32_198 c1_i32_200 k0_t3
  let c1_i32_256 : BitVec 32 := 1#32
  let v290 : BitVec 32 := Scalar.addi arg17 c1_i32_256
  let c128_i32_257 : BitVec 32 := 128#32
  let v291 : BitVec 32 := Scalar.muli v290 c128_i32_257
  let c128_i32_258 : BitVec 32 := 128#32
  let v292 : BitVec 32 := Scalar.subi v291 c128_i32_258
  let c0_i32_259 : BitVec 32 := 0#32
  let v293 : BitVec 32 := Scalar.maxsi v292 c0_i32_259
  let v294 : BitVec 32 := v293
  let v295 : Index := Scalar.indexCast v294
  let c0_261 : Index := 0#32
  ![0, v295.toNat, 0]
def k0_mult12 (k0_t3 : Fin k0_t3_loop.trips) : BitVec 32 :=
  let c0_i32_198 : BitVec 32 := 0#32
  let c1_i32_200 : BitVec 32 := 1#32
  let arg17 : BitVec 32 := Scf.iv c0_i32_198 c1_i32_200 k0_t3
  let c128_i32_262 : BitVec 32 := 128#32
  let v298 : BitVec 32 := Scalar.muli arg17 c128_i32_262
  v298
def k0_off28 (k0_t3 : Fin k0_t3_loop.trips) : Fin 3 → Nat :=
  let c0_263 : Index := 0#32
  let c0_i32_198 : BitVec 32 := 0#32
  let c1_i32_200 : BitVec 32 := 1#32
  let arg17 : BitVec 32 := Scf.iv c0_i32_198 c1_i32_200 k0_t3
  let c128_i32_262 : BitVec 32 := 128#32
  let v298 : BitVec 32 := Scalar.muli arg17 c128_i32_262
  let v299 : BitVec 32 := v298
  let v300 : Index := Scalar.indexCast v299
  let c0_264 : Index := 0#32
  ![0, v300.toNat, 0]
def k0_off29 (k0_t3 : Fin k0_t3_loop.trips) : Fin 5 → Nat :=
  let c2_277 : Index := 2#32
  let c0_278 : Index := 0#32
  let c0_i32_198 : BitVec 32 := 0#32
  let c1_i32_200 : BitVec 32 := 1#32
  let arg17 : BitVec 32 := Scf.iv c0_i32_198 c1_i32_200 k0_t3
  let c0_i32_266 : BitVec 32 := 0#32
  let v308 : BitVec 1 := Scalar.cmpi .eq arg17 c0_i32_266
  let c2_i32_276 : BitVec 32 := 2#32
  let c1_i32_267 : BitVec 32 := 1#32
  let c0_i32_268 : BitVec 32 := 0#32
  let v309 : BitVec 1 := Scalar.cmpi .eq c1_i32_267 c0_i32_268
  let c1_i32_269 : BitVec 32 := 1#32
  let v310 : BitVec 32 := Scalar.select v309 c1_i32_269 c1_i32_267
  let v311 : BitVec 32 := Scalar.remsi arg17 v310
  let c0_i32_271 : BitVec 32 := 0#32
  let v313 : BitVec 1 := Scalar.cmpi .slt v311 c0_i32_271
  let c0_i32_272 : BitVec 32 := 0#32
  let v314 : BitVec 1 := Scalar.cmpi .slt v310 c0_i32_272
  let v315 : BitVec 1 := Scalar.xori v313 v314
  let c0_i32_270 : BitVec 32 := 0#32
  let v312 : BitVec 1 := Scalar.cmpi .ne v311 c0_i32_270
  let v316 : BitVec 1 := Scalar.andi v315 v312
  let v317 : BitVec 32 := Scalar.addi v311 v310
  let v318 : BitVec 32 := Scalar.select v316 v317 v311
  let c0_i32_273 : BitVec 32 := 0#32
  let v319 : BitVec 1 := Scalar.cmpi .eq v318 c0_i32_273
  let c1_i32_274 : BitVec 32 := 1#32
  let c0_i32_275 : BitVec 32 := 0#32
  let v320 : BitVec 32 := Scalar.select v319 c1_i32_274 c0_i32_275
  let v321 : BitVec 32 := Scalar.select v308 c2_i32_276 v320
  let v322 : Index := Scalar.indexCast v321
  let c0_279 : Index := 0#32
  let c128_280 : Index := 128#32
  ![2, 0, v322.toNat, 0, 128]
def k0_off30 (k0_t3 : Fin k0_t3_loop.trips) : Fin 5 → Nat :=
  let c0_282 : Index := 0#32
  let c0_283 : Index := 0#32
  let c0_i32_198 : BitVec 32 := 0#32
  let c1_i32_200 : BitVec 32 := 1#32
  let arg17 : BitVec 32 := Scf.iv c0_i32_198 c1_i32_200 k0_t3
  let v332 : Index := Scalar.indexCast arg17
  let c0_284 : Index := 0#32
  let c0_285 : Index := 0#32
  ![0, 0, v332.toNat, 0, 0]
def k0_off31 (k0_t3 : Fin k0_t3_loop.trips) : Fin 4 → Nat :=
  let c0_299 : Index := 0#32
  let c2_300 : Index := 2#32
  let c0_i32_198 : BitVec 32 := 0#32
  let c1_i32_200 : BitVec 32 := 1#32
  let arg17 : BitVec 32 := Scf.iv c0_i32_198 c1_i32_200 k0_t3
  let c0_i32_287 : BitVec 32 := 0#32
  let v339 : BitVec 1 := Scalar.cmpi .sgt arg17 c0_i32_287
  let v340 : BitVec 32 := Scalar.extui v339
  let c0_i32_288 : BitVec 32 := 0#32
  let v341 : BitVec 1 := Scalar.cmpi .slt arg17 c0_i32_288
  let v342 : BitVec 32 := Scalar.extui v341
  let v343 : BitVec 32 := Scalar.subi v340 v342
  let c1_i32_286 : BitVec 32 := 1#32
  let c0_i32_289 : BitVec 32 := 0#32
  let v344 : BitVec 1 := Scalar.cmpi .sgt c1_i32_286 c0_i32_289
  let v345 : BitVec 32 := Scalar.extui v344
  let c0_i32_290 : BitVec 32 := 0#32
  let v346 : BitVec 1 := Scalar.cmpi .slt c1_i32_286 c0_i32_290
  let v347 : BitVec 32 := Scalar.extui v346
  let v348 : BitVec 32 := Scalar.subi v345 v347
  let v349 : BitVec 1 := Scalar.cmpi .ne v343 v348
  let v350 : BitVec 32 := Scalar.remsi arg17 c1_i32_286
  let c0_i32_291 : BitVec 32 := 0#32
  let v351 : BitVec 1 := Scalar.cmpi .ne v350 c0_i32_291
  let v352 : BitVec 1 := Scalar.andi v349 v351
  let v338 : BitVec 32 := Scalar.divsi arg17 c1_i32_286
  let c1_i32_292 : BitVec 32 := 1#32
  let v353 : BitVec 32 := Scalar.subi v338 c1_i32_292
  let v354 : BitVec 32 := Scalar.select v352 v353 v338
  let c1_i32_293 : BitVec 32 := 1#32
  let c0_i32_294 : BitVec 32 := 0#32
  let v355 : BitVec 1 := Scalar.cmpi .eq c1_i32_293 c0_i32_294
  let c1_i32_295 : BitVec 32 := 1#32
  let v356 : BitVec 32 := Scalar.select v355 c1_i32_295 c1_i32_293
  let v357 : BitVec 32 := Scalar.remsi arg17 v356
  let c0_i32_297 : BitVec 32 := 0#32
  let v359 : BitVec 1 := Scalar.cmpi .slt v357 c0_i32_297
  let c0_i32_298 : BitVec 32 := 0#32
  let v360 : BitVec 1 := Scalar.cmpi .slt v356 c0_i32_298
  let v361 : BitVec 1 := Scalar.xori v359 v360
  let c0_i32_296 : BitVec 32 := 0#32
  let v358 : BitVec 1 := Scalar.cmpi .ne v357 c0_i32_296
  let v362 : BitVec 1 := Scalar.andi v361 v358
  let v363 : BitVec 32 := Scalar.addi v357 v356
  let v364 : BitVec 32 := Scalar.select v362 v363 v357
  let c2048_i32 : BitVec 32 := 2048#32
  let v365 : BitVec 32 := Scalar.muli v364 c2048_i32
  let v366 : BitVec 32 := Scalar.addi v354 v365
  let c129_i32 : BitVec 32 := 129#32
  let v367 : BitVec 32 := Scalar.muli v366 c129_i32
  let v368 : Index := Scalar.indexCast v367
  let c0_301 : Index := 0#32
  ![0, 2, v368.toNat, 0]
def k0_off32 (k0_t3 : Fin k0_t3_loop.trips) : Fin 5 → Nat :=
  let c2_314 : Index := 2#32
  let c1_315 : Index := 1#32
  let c0_i32_198 : BitVec 32 := 0#32
  let c1_i32_200 : BitVec 32 := 1#32
  let arg17 : BitVec 32 := Scf.iv c0_i32_198 c1_i32_200 k0_t3
  let c0_i32_303 : BitVec 32 := 0#32
  let v377 : BitVec 1 := Scalar.cmpi .eq arg17 c0_i32_303
  let c2_i32_313 : BitVec 32 := 2#32
  let c1_i32_304 : BitVec 32 := 1#32
  let c0_i32_305 : BitVec 32 := 0#32
  let v378 : BitVec 1 := Scalar.cmpi .eq c1_i32_304 c0_i32_305
  let c1_i32_306 : BitVec 32 := 1#32
  let v379 : BitVec 32 := Scalar.select v378 c1_i32_306 c1_i32_304
  let v380 : BitVec 32 := Scalar.remsi arg17 v379
  let c0_i32_308 : BitVec 32 := 0#32
  let v382 : BitVec 1 := Scalar.cmpi .slt v380 c0_i32_308
  let c0_i32_309 : BitVec 32 := 0#32
  let v383 : BitVec 1 := Scalar.cmpi .slt v379 c0_i32_309
  let v384 : BitVec 1 := Scalar.xori v382 v383
  let c0_i32_307 : BitVec 32 := 0#32
  let v381 : BitVec 1 := Scalar.cmpi .ne v380 c0_i32_307
  let v385 : BitVec 1 := Scalar.andi v384 v381
  let v386 : BitVec 32 := Scalar.addi v380 v379
  let v387 : BitVec 32 := Scalar.select v385 v386 v380
  let c0_i32_310 : BitVec 32 := 0#32
  let v388 : BitVec 1 := Scalar.cmpi .eq v387 c0_i32_310
  let c1_i32_311 : BitVec 32 := 1#32
  let c0_i32_312 : BitVec 32 := 0#32
  let v389 : BitVec 32 := Scalar.select v388 c1_i32_311 c0_i32_312
  let v390 : BitVec 32 := Scalar.select v377 c2_i32_313 v389
  let v391 : Index := Scalar.indexCast v390
  let c0_316 : Index := 0#32
  let c128_317 : Index := 128#32
  ![2, 1, v391.toNat, 0, 128]
def k0_off33 (k0_t3 : Fin k0_t3_loop.trips) : Fin 5 → Nat :=
  let c0_319 : Index := 0#32
  let c1_320 : Index := 1#32
  let c0_i32_198 : BitVec 32 := 0#32
  let c1_i32_200 : BitVec 32 := 1#32
  let arg17 : BitVec 32 := Scf.iv c0_i32_198 c1_i32_200 k0_t3
  let v401 : Index := Scalar.indexCast arg17
  let c0_321 : Index := 0#32
  let c0_322 : Index := 0#32
  ![0, 1, v401.toNat, 0, 0]
def k0_off34 (k0_t3 : Fin k0_t3_loop.trips) : Fin 4 → Nat :=
  let c1_338 : Index := 1#32
  let c2_339 : Index := 2#32
  let c0_i32_198 : BitVec 32 := 0#32
  let c1_i32_200 : BitVec 32 := 1#32
  let arg17 : BitVec 32 := Scf.iv c0_i32_198 c1_i32_200 k0_t3
  let c0_i32_324 : BitVec 32 := 0#32
  let v408 : BitVec 1 := Scalar.cmpi .sgt arg17 c0_i32_324
  let v409 : BitVec 32 := Scalar.extui v408
  let c0_i32_325 : BitVec 32 := 0#32
  let v410 : BitVec 1 := Scalar.cmpi .slt arg17 c0_i32_325
  let v411 : BitVec 32 := Scalar.extui v410
  let v412 : BitVec 32 := Scalar.subi v409 v411
  let c1_i32_323 : BitVec 32 := 1#32
  let c0_i32_326 : BitVec 32 := 0#32
  let v413 : BitVec 1 := Scalar.cmpi .sgt c1_i32_323 c0_i32_326
  let v414 : BitVec 32 := Scalar.extui v413
  let c0_i32_327 : BitVec 32 := 0#32
  let v415 : BitVec 1 := Scalar.cmpi .slt c1_i32_323 c0_i32_327
  let v416 : BitVec 32 := Scalar.extui v415
  let v417 : BitVec 32 := Scalar.subi v414 v416
  let v418 : BitVec 1 := Scalar.cmpi .ne v412 v417
  let v419 : BitVec 32 := Scalar.remsi arg17 c1_i32_323
  let c0_i32_328 : BitVec 32 := 0#32
  let v420 : BitVec 1 := Scalar.cmpi .ne v419 c0_i32_328
  let v421 : BitVec 1 := Scalar.andi v418 v420
  let v407 : BitVec 32 := Scalar.divsi arg17 c1_i32_323
  let c1_i32_329 : BitVec 32 := 1#32
  let v422 : BitVec 32 := Scalar.subi v407 c1_i32_329
  let v423 : BitVec 32 := Scalar.select v421 v422 v407
  let c1_i32_330 : BitVec 32 := 1#32
  let c0_i32_331 : BitVec 32 := 0#32
  let v424 : BitVec 1 := Scalar.cmpi .eq c1_i32_330 c0_i32_331
  let c1_i32_332 : BitVec 32 := 1#32
  let v425 : BitVec 32 := Scalar.select v424 c1_i32_332 c1_i32_330
  let v426 : BitVec 32 := Scalar.remsi arg17 v425
  let c0_i32_334 : BitVec 32 := 0#32
  let v428 : BitVec 1 := Scalar.cmpi .slt v426 c0_i32_334
  let c0_i32_335 : BitVec 32 := 0#32
  let v429 : BitVec 1 := Scalar.cmpi .slt v425 c0_i32_335
  let v430 : BitVec 1 := Scalar.xori v428 v429
  let c0_i32_333 : BitVec 32 := 0#32
  let v427 : BitVec 1 := Scalar.cmpi .ne v426 c0_i32_333
  let v431 : BitVec 1 := Scalar.andi v430 v427
  let v432 : BitVec 32 := Scalar.addi v426 v425
  let v433 : BitVec 32 := Scalar.select v431 v432 v426
  let c2048_i32_336 : BitVec 32 := 2048#32
  let v434 : BitVec 32 := Scalar.muli v433 c2048_i32_336
  let v435 : BitVec 32 := Scalar.addi v423 v434
  let c129_i32_337 : BitVec 32 := 129#32
  let v436 : BitVec 32 := Scalar.muli v435 c129_i32_337
  let v437 : Index := Scalar.indexCast v436
  let c0_340 : Index := 0#32
  ![1, 2, v437.toNat, 0]
@[reducible] def k0_t4_loop : Scf.Loop 32 :=
  let c0_i32_203 : BitVec 32 := 0#32
  let c16_i32_204 : BitVec 32 := 16#32
  let v198 : BitVec 32 := Scalar.addi c0_i32_203 c16_i32_204
  let c1_i32_205 : BitVec 32 := 1#32
  ⟨c0_i32_203, v198, c1_i32_205⟩
def k0_mult13 (k0_t4 : Fin k0_t4_loop.trips) : BitVec 32 :=
  let c0_i32_203 : BitVec 32 := 0#32
  let c1_i32_205 : BitVec 32 := 1#32
  let arg17 : BitVec 32 := Scf.iv c0_i32_203 c1_i32_205 k0_t4
  let c1_i32_210 : BitVec 32 := 1#32
  let v200 : BitVec 32 := Scalar.addi arg17 c1_i32_210
  let c128_i32 : BitVec 32 := 128#32
  let v201 : BitVec 32 := Scalar.muli v200 c128_i32
  let c128_i32_211 : BitVec 32 := 128#32
  let v202 : BitVec 32 := Scalar.subi v201 c128_i32_211
  let c0_i32_212 : BitVec 32 := 0#32
  let v203 : BitVec 32 := Scalar.maxsi v202 c0_i32_212
  v203
def k0_off35 (k0_t4 : Fin k0_t4_loop.trips) : Fin 3 → Nat :=
  let c0_213 : Index := 0#32
  let c0_i32_203 : BitVec 32 := 0#32
  let c1_i32_205 : BitVec 32 := 1#32
  let arg17 : BitVec 32 := Scf.iv c0_i32_203 c1_i32_205 k0_t4
  let c1_i32_210 : BitVec 32 := 1#32
  let v200 : BitVec 32 := Scalar.addi arg17 c1_i32_210
  let c128_i32 : BitVec 32 := 128#32
  let v201 : BitVec 32 := Scalar.muli v200 c128_i32
  let c128_i32_211 : BitVec 32 := 128#32
  let v202 : BitVec 32 := Scalar.subi v201 c128_i32_211
  let c0_i32_212 : BitVec 32 := 0#32
  let v203 : BitVec 32 := Scalar.maxsi v202 c0_i32_212
  let v204 : BitVec 32 := v203
  let v205 : Index := Scalar.indexCast v204
  let c0_214 : Index := 0#32
  ![0, v205.toNat, 0]
def k0_off36 (k0_t4 : Fin k0_t4_loop.trips) : Fin 5 → Nat :=
  let c0_215 : Index := 0#32
  let c0_216 : Index := 0#32
  let c0_i32_203 : BitVec 32 := 0#32
  let c1_i32_205 : BitVec 32 := 1#32
  let arg17 : BitVec 32 := Scf.iv c0_i32_203 c1_i32_205 k0_t4
  let v208 : Index := Scalar.indexCast arg17
  let c0_217 : Index := 0#32
  let c0_218 : Index := 0#32
  ![0, 0, v208.toNat, 0, 0]
def k0_off37 (k0_t4 : Fin k0_t4_loop.trips) : Fin 4 → Nat :=
  let c0_233 : Index := 0#32
  let c2_234 : Index := 2#32
  let c0_i32_203 : BitVec 32 := 0#32
  let c1_i32_205 : BitVec 32 := 1#32
  let arg17 : BitVec 32 := Scf.iv c0_i32_203 c1_i32_205 k0_t4
  let c0_i32_221 : BitVec 32 := 0#32
  let v217 : BitVec 1 := Scalar.cmpi .sgt arg17 c0_i32_221
  let v218 : BitVec 32 := Scalar.extui v217
  let c0_i32_222 : BitVec 32 := 0#32
  let v219 : BitVec 1 := Scalar.cmpi .slt arg17 c0_i32_222
  let v220 : BitVec 32 := Scalar.extui v219
  let v221 : BitVec 32 := Scalar.subi v218 v220
  let c1_i32_220 : BitVec 32 := 1#32
  let c0_i32_223 : BitVec 32 := 0#32
  let v222 : BitVec 1 := Scalar.cmpi .sgt c1_i32_220 c0_i32_223
  let v223 : BitVec 32 := Scalar.extui v222
  let c0_i32_224 : BitVec 32 := 0#32
  let v224 : BitVec 1 := Scalar.cmpi .slt c1_i32_220 c0_i32_224
  let v225 : BitVec 32 := Scalar.extui v224
  let v226 : BitVec 32 := Scalar.subi v223 v225
  let v227 : BitVec 1 := Scalar.cmpi .ne v221 v226
  let v228 : BitVec 32 := Scalar.remsi arg17 c1_i32_220
  let c0_i32_225 : BitVec 32 := 0#32
  let v229 : BitVec 1 := Scalar.cmpi .ne v228 c0_i32_225
  let v230 : BitVec 1 := Scalar.andi v227 v229
  let v216 : BitVec 32 := Scalar.divsi arg17 c1_i32_220
  let c1_i32_226 : BitVec 32 := 1#32
  let v231 : BitVec 32 := Scalar.subi v216 c1_i32_226
  let v232 : BitVec 32 := Scalar.select v230 v231 v216
  let c1_i32_227 : BitVec 32 := 1#32
  let c0_i32_228 : BitVec 32 := 0#32
  let v233 : BitVec 1 := Scalar.cmpi .eq c1_i32_227 c0_i32_228
  let c1_i32_229 : BitVec 32 := 1#32
  let v234 : BitVec 32 := Scalar.select v233 c1_i32_229 c1_i32_227
  let v235 : BitVec 32 := Scalar.remsi arg17 v234
  let c0_i32_231 : BitVec 32 := 0#32
  let v237 : BitVec 1 := Scalar.cmpi .slt v235 c0_i32_231
  let c0_i32_232 : BitVec 32 := 0#32
  let v238 : BitVec 1 := Scalar.cmpi .slt v234 c0_i32_232
  let v239 : BitVec 1 := Scalar.xori v237 v238
  let c0_i32_230 : BitVec 32 := 0#32
  let v236 : BitVec 1 := Scalar.cmpi .ne v235 c0_i32_230
  let v240 : BitVec 1 := Scalar.andi v239 v236
  let v241 : BitVec 32 := Scalar.addi v235 v234
  let v242 : BitVec 32 := Scalar.select v240 v241 v235
  let c2048_i32 : BitVec 32 := 2048#32
  let v243 : BitVec 32 := Scalar.muli v242 c2048_i32
  let v244 : BitVec 32 := Scalar.addi v232 v243
  let c129_i32 : BitVec 32 := 129#32
  let v245 : BitVec 32 := Scalar.muli v244 c129_i32
  let v246 : Index := Scalar.indexCast v245
  let c0_235 : Index := 0#32
  ![0, 2, v246.toNat, 0]
def k0_off38 (k0_t4 : Fin k0_t4_loop.trips) : Fin 5 → Nat :=
  let c0_236 : Index := 0#32
  let c1_237 : Index := 1#32
  let c0_i32_203 : BitVec 32 := 0#32
  let c1_i32_205 : BitVec 32 := 1#32
  let arg17 : BitVec 32 := Scf.iv c0_i32_203 c1_i32_205 k0_t4
  let v250 : Index := Scalar.indexCast arg17
  let c0_238 : Index := 0#32
  let c0_239 : Index := 0#32
  ![0, 1, v250.toNat, 0, 0]
def k0_off39 (k0_t4 : Fin k0_t4_loop.trips) : Fin 4 → Nat :=
  let c1_256 : Index := 1#32
  let c2_257 : Index := 2#32
  let c0_i32_203 : BitVec 32 := 0#32
  let c1_i32_205 : BitVec 32 := 1#32
  let arg17 : BitVec 32 := Scf.iv c0_i32_203 c1_i32_205 k0_t4
  let c0_i32_242 : BitVec 32 := 0#32
  let v259 : BitVec 1 := Scalar.cmpi .sgt arg17 c0_i32_242
  let v260 : BitVec 32 := Scalar.extui v259
  let c0_i32_243 : BitVec 32 := 0#32
  let v261 : BitVec 1 := Scalar.cmpi .slt arg17 c0_i32_243
  let v262 : BitVec 32 := Scalar.extui v261
  let v263 : BitVec 32 := Scalar.subi v260 v262
  let c1_i32_241 : BitVec 32 := 1#32
  let c0_i32_244 : BitVec 32 := 0#32
  let v264 : BitVec 1 := Scalar.cmpi .sgt c1_i32_241 c0_i32_244
  let v265 : BitVec 32 := Scalar.extui v264
  let c0_i32_245 : BitVec 32 := 0#32
  let v266 : BitVec 1 := Scalar.cmpi .slt c1_i32_241 c0_i32_245
  let v267 : BitVec 32 := Scalar.extui v266
  let v268 : BitVec 32 := Scalar.subi v265 v267
  let v269 : BitVec 1 := Scalar.cmpi .ne v263 v268
  let v270 : BitVec 32 := Scalar.remsi arg17 c1_i32_241
  let c0_i32_246 : BitVec 32 := 0#32
  let v271 : BitVec 1 := Scalar.cmpi .ne v270 c0_i32_246
  let v272 : BitVec 1 := Scalar.andi v269 v271
  let v258 : BitVec 32 := Scalar.divsi arg17 c1_i32_241
  let c1_i32_247 : BitVec 32 := 1#32
  let v273 : BitVec 32 := Scalar.subi v258 c1_i32_247
  let v274 : BitVec 32 := Scalar.select v272 v273 v258
  let c1_i32_248 : BitVec 32 := 1#32
  let c0_i32_249 : BitVec 32 := 0#32
  let v275 : BitVec 1 := Scalar.cmpi .eq c1_i32_248 c0_i32_249
  let c1_i32_250 : BitVec 32 := 1#32
  let v276 : BitVec 32 := Scalar.select v275 c1_i32_250 c1_i32_248
  let v277 : BitVec 32 := Scalar.remsi arg17 v276
  let c0_i32_252 : BitVec 32 := 0#32
  let v279 : BitVec 1 := Scalar.cmpi .slt v277 c0_i32_252
  let c0_i32_253 : BitVec 32 := 0#32
  let v280 : BitVec 1 := Scalar.cmpi .slt v276 c0_i32_253
  let v281 : BitVec 1 := Scalar.xori v279 v280
  let c0_i32_251 : BitVec 32 := 0#32
  let v278 : BitVec 1 := Scalar.cmpi .ne v277 c0_i32_251
  let v282 : BitVec 1 := Scalar.andi v281 v278
  let v283 : BitVec 32 := Scalar.addi v277 v276
  let v284 : BitVec 32 := Scalar.select v282 v283 v277
  let c2048_i32_254 : BitVec 32 := 2048#32
  let v285 : BitVec 32 := Scalar.muli v284 c2048_i32_254
  let v286 : BitVec 32 := Scalar.addi v274 v285
  let c129_i32_255 : BitVec 32 := 129#32
  let v287 : BitVec 32 := Scalar.muli v286 c129_i32_255
  let v288 : Index := Scalar.indexCast v287
  let c0_258 : Index := 0#32
  ![1, 2, v288.toNat, 0]
@[reducible] def k0_t5_loop : Scf.Loop 32 :=
  let c0_i32_207 : BitVec 32 := 0#32
  let c8_i32 : BitVec 32 := 8#32
  let v199 : BitVec 32 := Scalar.addi c0_i32_207 c8_i32
  let c1_i32_208 : BitVec 32 := 1#32
  ⟨c0_i32_207, v199, c1_i32_208⟩
def k0_mult14 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32 : BitVec 32 := 256#32
  let v200 : BitVec 32 := Scalar.muli arg17 c256_i32
  v200
def k0_mult15 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32_210 : BitVec 32 := 256#32
  let v202 : BitVec 32 := Scalar.muli arg17 c256_i32_210
  v202
def k0_off40 (k0_t5 : Fin k0_t5_loop.trips) : Fin 4 → Nat :=
  let c0_211 : Index := 0#32
  let c0_212 : Index := 0#32
  let c0_i32_207 : BitVec 32 := 0#32
  let c1_i32_208 : BitVec 32 := 1#32
  let arg17 : BitVec 32 := Scf.iv c0_i32_207 c1_i32_208 k0_t5
  let c256_i32_210 : BitVec 32 := 256#32
  let v202 : BitVec 32 := Scalar.muli arg17 c256_i32_210
  let v203 : BitVec 32 := v202
  let v204 : Index := Scalar.indexCast v203
  let c0_213 : Index := 0#32
  ![0, 0, v204.toNat, 0]
def k0_mult16 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32_214 : BitVec 32 := 256#32
  let v207 : BitVec 32 := Scalar.muli arg17 c256_i32_214
  v207
def k0_off41 (k0_t5 : Fin k0_t5_loop.trips) : Fin 4 → Nat :=
  let c0_215 : Index := 0#32
  let c1_216 : Index := 1#32
  let c0_i32_207 : BitVec 32 := 0#32
  let c1_i32_208 : BitVec 32 := 1#32
  let arg17 : BitVec 32 := Scf.iv c0_i32_207 c1_i32_208 k0_t5
  let c256_i32_214 : BitVec 32 := 256#32
  let v207 : BitVec 32 := Scalar.muli arg17 c256_i32_214
  let v208 : BitVec 32 := v207
  let v209 : Index := Scalar.indexCast v208
  let c0_217 : Index := 0#32
  ![0, 1, v209.toNat, 0]
def k0_off42 (k0_t5 : Fin k0_t5_loop.trips) (c0_i32_219 : BitVec 32) : Fin 4 → Nat :=
  let c0_220 : Index := 0#32
  let c2_221 : Index := 2#32
  let c0_i32_207 : BitVec 32 := 0#32
  let c1_i32_208 : BitVec 32 := 1#32
  let arg17 : BitVec 32 := Scf.iv c0_i32_207 c1_i32_208 k0_t5
  let c16_i32_218 : BitVec 32 := 16#32
  let v212 : BitVec 32 := Scalar.muli arg17 c16_i32_218
  let v213 : BitVec 32 := Scalar.addi v212 c0_i32_219
  let v214 : Index := Scalar.indexCast v213
  let c0_222 : Index := 0#32
  ![0, 2, v214.toNat, 0]
def k0_mult17 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32_286 : BitVec 32 := 256#32
  let v297 : BitVec 32 := Scalar.muli arg17 c256_i32_286
  v297
def k0_mult18 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32_291 : BitVec 32 := 256#32
  let v307 : BitVec 32 := Scalar.muli arg17 c256_i32_291
  v307
def k0_mult19 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32_375 : BitVec 32 := 256#32
  let v399 : BitVec 32 := Scalar.muli arg17 c256_i32_375
  v399
def k0_off43 (k0_t5 : Fin k0_t5_loop.trips) : Fin 4 → Nat :=
  let c1_376 : Index := 1#32
  let c0_377 : Index := 0#32
  let c0_i32_207 : BitVec 32 := 0#32
  let c1_i32_208 : BitVec 32 := 1#32
  let arg17 : BitVec 32 := Scf.iv c0_i32_207 c1_i32_208 k0_t5
  let c256_i32_375 : BitVec 32 := 256#32
  let v399 : BitVec 32 := Scalar.muli arg17 c256_i32_375
  let v400 : BitVec 32 := v399
  let v401 : Index := Scalar.indexCast v400
  let c0_378 : Index := 0#32
  ![1, 0, v401.toNat, 0]
def k0_mult20 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32_379 : BitVec 32 := 256#32
  let v404 : BitVec 32 := Scalar.muli arg17 c256_i32_379
  v404
def k0_off44 (k0_t5 : Fin k0_t5_loop.trips) : Fin 4 → Nat :=
  let c1_380 : Index := 1#32
  let c1_381 : Index := 1#32
  let c0_i32_207 : BitVec 32 := 0#32
  let c1_i32_208 : BitVec 32 := 1#32
  let arg17 : BitVec 32 := Scf.iv c0_i32_207 c1_i32_208 k0_t5
  let c256_i32_379 : BitVec 32 := 256#32
  let v404 : BitVec 32 := Scalar.muli arg17 c256_i32_379
  let v405 : BitVec 32 := v404
  let v406 : Index := Scalar.indexCast v405
  let c0_382 : Index := 0#32
  ![1, 1, v406.toNat, 0]
def k0_off45 (k0_t5 : Fin k0_t5_loop.trips) (c0_i32_384 : BitVec 32) : Fin 4 → Nat :=
  let c1_385 : Index := 1#32
  let c2_386 : Index := 2#32
  let c0_i32_207 : BitVec 32 := 0#32
  let c1_i32_208 : BitVec 32 := 1#32
  let arg17 : BitVec 32 := Scf.iv c0_i32_207 c1_i32_208 k0_t5
  let c16_i32_383 : BitVec 32 := 16#32
  let v409 : BitVec 32 := Scalar.muli arg17 c16_i32_383
  let v410 : BitVec 32 := Scalar.addi v409 c0_i32_384
  let v411 : Index := Scalar.indexCast v410
  let c0_387 : Index := 0#32
  ![1, 2, v411.toNat, 0]
def k0_mult21 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32_463 : BitVec 32 := 256#32
  let v494 : BitVec 32 := Scalar.muli arg17 c256_i32_463
  v494
def k0_mult22 (k0_t5 : Fin k0_t5_loop.trips) : BitVec 32 :=
  let c0_i32_207 : BitVec 32 := 0#32
  let c1_i32_208 : BitVec 32 := 1#32
  let arg17 : BitVec 32 := Scf.iv c0_i32_207 c1_i32_208 k0_t5
  let c256_i32_468 : BitVec 32 := 256#32
  let v504 : BitVec 32 := Scalar.muli arg17 c256_i32_468
  v504
def k0_off46 (k0_t5 : Fin k0_t5_loop.trips) : Fin 3 → Nat :=
  let c0_553 : Index := 0#32
  let c0_i32_207 : BitVec 32 := 0#32
  let c1_i32_208 : BitVec 32 := 1#32
  let arg17 : BitVec 32 := Scf.iv c0_i32_207 c1_i32_208 k0_t5
  let c256_i32 : BitVec 32 := 256#32
  let v200 : BitVec 32 := Scalar.muli arg17 c256_i32
  let v201 : BitVec 32 := v200
  let v604 : Index := Scalar.indexCast v201
  let c0_554 : Index := 0#32
  ![0, v604.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4.lean ====
abbrev S1x1024x3784 : Shape := ⟨3, ![1, 1024, 3784]⟩
abbrev S1024x3784 : Shape := ⟨2, ![1024, 3784]⟩
abbrev S3784x1024 : Shape := ⟨2, ![3784, 1024]⟩
abbrev S1024x1536 : Shape := ⟨2, ![1024, 1536]⟩
abbrev S832x1024 : Shape := ⟨2, ![832, 1024]⟩
abbrev S16x1024 : Shape := ⟨2, ![16, 1024]⟩
abbrev S3784x128 : Shape := ⟨2, ![3784, 128]⟩
abbrev S128x1536 : Shape := ⟨2, ![128, 1536]⟩
abbrev S832x128 : Shape := ⟨2, ![832, 128]⟩
abbrev S16x128 : Shape := ⟨2, ![16, 128]⟩
abbrev S512x128 : Shape := ⟨2, ![512, 128]⟩
abbrev S128x512 : Shape := ⟨2, ![128, 512]⟩
abbrev S256x128 : Shape := ⟨2, ![256, 128]⟩
abbrev S128x256 : Shape := ⟨2, ![128, 256]⟩
abbrev S64x128 : Shape := ⟨2, ![64, 128]⟩
abbrev S128x128 : Shape := ⟨2, ![128, 128]⟩
abbrev S8x128 : Shape := ⟨2, ![8, 128]⟩

abbrev nBuf : Space → Nat
  | .hbm => 7
  | .vmem => 10
  | .smem => 0
  | _ => 0

abbrev bufTy : (tb : Table) → Fin (tcTables nBuf tb) → BufTy
  | .hbm, ⟨0, _⟩ => ⟨S1x1024x3784, .f32⟩
  | .hbm, ⟨1, _⟩ => ⟨S1024x3784, .f32⟩
  | .hbm, ⟨2, _⟩ => ⟨S3784x1024, .f32⟩
  | .hbm, ⟨3, _⟩ => ⟨S1024x1536, .bf16⟩
  | .hbm, ⟨4, _⟩ => ⟨S1024x1536, .bf16⟩
  | .hbm, ⟨5, _⟩ => ⟨S832x1024, .bf16⟩
  | .hbm, ⟨6, _⟩ => ⟨S16x1024, .bf16⟩
  | .local _ .vmem, ⟨0, _⟩ => ⟨S3784x128, .f32⟩
  | .local _ .vmem, ⟨1, _⟩ => ⟨S3784x128, .f32⟩
  | .local _ .vmem, ⟨2, _⟩ => ⟨S128x1536, .bf16⟩
  | .local _ .vmem, ⟨3, _⟩ => ⟨S128x1536, .bf16⟩
  | .local _ .vmem, ⟨4, _⟩ => ⟨S128x1536, .bf16⟩
  | .local _ .vmem, ⟨5, _⟩ => ⟨S128x1536, .bf16⟩
  | .local _ .vmem, ⟨6, _⟩ => ⟨S832x128, .bf16⟩
  | .local _ .vmem, ⟨7, _⟩ => ⟨S832x128, .bf16⟩
  | .local _ .vmem, ⟨8, _⟩ => ⟨S16x128, .bf16⟩
  | .local _ .vmem, ⟨9, _⟩ => ⟨S16x128, .bf16⟩
  | _, _ => ⟨S1x1024x3784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3784x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S832x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S1x1024x3784 : Shape := ⟨3, ![1, 1024, 3784]⟩
abbrev S1024x3784 : Shape := ⟨2, ![1024, 3784]⟩
abbrev S1024x512 : Shape := ⟨2, ![1024, 512]⟩
abbrev S1024x256 : Shape := ⟨2, ![1024, 256]⟩
abbrev S1024x64 : Shape := ⟨2, ![1024, 64]⟩
abbrev S1024x1024 : Shape := ⟨2, ![1024, 1024]⟩
abbrev S1024x8 : Shape := ⟨2, ![1024, 8]⟩
abbrev S_ : Shape := ⟨0, ![]⟩
abbrev S1024x1536 : Shape := ⟨2, ![1024, 1536]⟩
abbrev S1024x832 : Shape := ⟨2, ![1024, 832]⟩
abbrev S832x1024 : Shape := ⟨2, ![832, 1024]⟩
abbrev S1024x16 : Shape := ⟨2, ![1024, 16]⟩
abbrev S16x1024 : Shape := ⟨2, ![16, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x3784, .f32⟩
  | .hbm, ⟨1, _⟩ => ⟨S1024x3784, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x64, .f32⟩
  | .hbm, ⟨7, _⟩ => ⟨S1024x64, .f32⟩
  | .hbm, ⟨8, _⟩ => ⟨S1024x256, .f32⟩
  | .hbm, ⟨9, _⟩ => ⟨S1024x1024, .f32⟩
  | .hbm, ⟨10, _⟩ => ⟨S1024x512, .f32⟩
  | .hbm, ⟨11, _⟩ => ⟨S1024x64, .f32⟩
  | .hbm, ⟨12, _⟩ => ⟨S1024x8, .f32⟩
  | .hbm, ⟨13, _⟩ => ⟨S_, .f32⟩
  | .hbm, ⟨14, _⟩ => ⟨S1024x64, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x1536, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x1536, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x832, .f32⟩
  | .hbm, ⟨30, _⟩ => ⟨S832x1024, .f32⟩
  | .hbm, ⟨31, _⟩ => ⟨S_, .f32⟩
  | .hbm, ⟨32, _⟩ => ⟨S1024x8, .f32⟩
  | .hbm, ⟨33, _⟩ => ⟨S1024x16, .f32⟩
  | .hbm, ⟨34, _⟩ => ⟨S16x1024, .f32⟩
  | .hbm, ⟨35, _⟩ => ⟨S1024x1536, .bf16⟩
  | .hbm, ⟨36, _⟩ => ⟨S1024x1536, .bf16⟩
  | .hbm, ⟨37, _⟩ => ⟨S832x1024, .bf16⟩
  | .hbm, ⟨38, _⟩ => ⟨S16x1024, .bf16⟩
  | _, _ => ⟨S1x1024x3784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel5.lean ====
abbrev S8x2048x1024 : Shape := ⟨3, ![8, 2048, 1024]⟩
abbrev S1x1024 : Shape := ⟨2, ![1, 1024]⟩
abbrev S1x1024x3784 : Shape := ⟨3, ![1, 1024, 3784]⟩
abbrev S1024x3784 : Shape := ⟨2, ![1024, 3784]⟩
abbrev S3784x1024 : Shape := ⟨2, ![3784, 1024]⟩
abbrev S1024x1536 : Shape := ⟨2, ![1024, 1536]⟩
abbrev S832x1024 : Shape := ⟨2, ![832, 1024]⟩
abbrev S16x1024 : Shape := ⟨2, ![16, 1024]⟩
abbrev S3784x128 : Shape := ⟨2, ![3784, 128]⟩
abbrev S128x1536 : Shape := ⟨2, ![128, 1536]⟩
abbrev S832x128 : Shape := ⟨2, ![832, 128]⟩
abbrev S16x128 : Shape := ⟨2, ![16, 128]⟩
abbrev S512x128 : Shape := ⟨2, ![512, 128]⟩
abbrev S128x512 : Shape := ⟨2, ![128, 512]⟩
abbrev S256x128 : Shape := ⟨2, ![256, 128]⟩
abbrev S128x256 : Shape := ⟨2, ![128, 256]⟩
abbrev S64x128 : Shape := ⟨2, ![64, 128]⟩
abbrev S128x128 : Shape := ⟨2, ![128, 128]⟩
abbrev S8x128 : Shape := ⟨2, ![8, 128]⟩
abbrev S8x2048x1536 : Shape := ⟨3, ![8, 2048, 1536]⟩
abbrev S8x4x512x1536 : Shape := ⟨4, ![8, 4, 512, 1536]⟩
abbrev S8x16x128x1536 : Shape := ⟨4, ![8, 16, 128, 1536]⟩
abbrev S8x832x2048 : Shape := ⟨3, ![8, 832, 2048]⟩
abbrev S8x16x2048 : Shape := ⟨3, ![8, 16, 2048]⟩
abbrev S1x512x1024 : Shape := ⟨3, ![1, 512, 1024]⟩
abbrev S1x512x1536 : Shape := ⟨3, ![1, 512, 1536]⟩
abbrev S1x4x128x1536 : Shape := ⟨4, ![1, 4, 128, 1536]⟩
abbrev S1x16x32x1536 : Shape := ⟨4, ![1, 16, 32, 1536]⟩
abbrev S1x832x512 : Shape := ⟨3, ![1, 832, 512]⟩
abbrev S1x16x512 : Shape := ⟨3, ![1, 16, 512]⟩
abbrev S12x512x128 : Shape := ⟨3, ![12, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S1x512x128 : Shape := ⟨3, ![1, 512, 128]⟩
abbrev S1x128x128 : Shape := ⟨3, ![1, 128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩
abbrev S832x512 : Shape := ⟨2, ![832, 512]⟩
abbrev S16x512 : Shape := ⟨2, ![16, 512]⟩

abbrev nBuf : Space → Nat
  | .hbm => 15
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3784, .f32⟩
  | .hbm, ⟨3, _⟩ => ⟨S1024x3784, .f32⟩
  | .hbm, ⟨4, _⟩ => ⟨S3784x1024, .f32⟩
  | .hbm, ⟨5, _⟩ => ⟨S1024x1536, .bf16⟩
  | .hbm, ⟨6, _⟩ => ⟨S1024x1536, .bf16⟩
  | .hbm, ⟨7, _⟩ => ⟨S832x1024, .bf16⟩
  | .hbm, ⟨8, _⟩ => ⟨S16x1024, .bf16⟩
  | .hbm, ⟨9, _⟩ => ⟨S8x2048x1536, .bf16⟩
  | .hbm, ⟨10, _⟩ => ⟨S8x4x512x1536, .bf16⟩
  | .hbm, ⟨11, _⟩ => ⟨S8x16x128x1536, .bf16⟩
  | .hbm, ⟨12, _⟩ => ⟨S8x2048x1536, .bf16⟩
  | .hbm, ⟨13, _⟩ => ⟨S8x832x2048, .bf16⟩
  | .hbm, ⟨14, _⟩ => ⟨S8x16x2048, .f32⟩
  | .local _ .vmem, ⟨0, _⟩ => ⟨S3784x128, .f32⟩
  | .local _ .vmem, ⟨1, _⟩ => ⟨S3784x128, .f32⟩
  | .local _ .vmem, ⟨2, _⟩ => ⟨S128x1536, .bf16⟩
  | .local _ .vmem, ⟨3, _⟩ => ⟨S128x1536, .bf16⟩
  | .local _ .vmem, ⟨4, _⟩ => ⟨S128x1536, .bf16⟩
  | .local _ .vmem, ⟨5, _⟩ => ⟨S128x1536, .bf16⟩
  | .local _ .vmem, ⟨6, _⟩ => ⟨S832x128, .bf16⟩
  | .local _ .vmem, ⟨7, _⟩ => ⟨S832x128, .bf16⟩
  | .local _ .vmem, ⟨8, _⟩ => ⟨S16x128, .bf16⟩
  | .local _ .vmem, ⟨9, _⟩ => ⟨S16x128, .bf16⟩
  | .local _ .vmem, ⟨10, _⟩ => ⟨S1x512x1024, .f32⟩
  | .local _ .vmem, ⟨11, _⟩ => ⟨S1x512x1024, .f32⟩
  | .local _ .vmem, ⟨12, _⟩ => ⟨S1x1024, .f32⟩
  | .local _ .vmem, ⟨13, _⟩ => ⟨S1024x1536, .bf16⟩
  | .local _ .vmem, ⟨14, _⟩ => ⟨S1024x1536, .bf16⟩
  | .local _ .vmem, ⟨15, _⟩ => ⟨S832x1024, .bf16⟩
  | .local _ .vmem, ⟨16, _⟩ => ⟨S16x1024, .bf16⟩
  | .local _ .vmem, ⟨17, _⟩ => ⟨S1x512x1536, .bf16⟩
  | .local _ .vmem, ⟨18, _⟩ => ⟨S1x512x1536, .bf16⟩
  | .local _ .vmem, ⟨19, _⟩ => ⟨S1x4x128x1536, .bf16⟩
  | .local _ .vmem, ⟨20, _⟩ => ⟨S1x4x128x1536, .bf16⟩
  | .local _ .vmem, ⟨21, _⟩ => ⟨S1x16x32x1536, .bf16⟩
  | .local _ .vmem, ⟨22, _⟩ => ⟨S1x16x32x1536, .bf16⟩
  | .local _ .vmem, ⟨23, _⟩ => ⟨S1x512x1536, .bf16⟩
  | .local _ .vmem, ⟨24, _⟩ => ⟨S1x512x1536, .bf16⟩
  | .local _ .vmem, ⟨25, _⟩ => ⟨S1x832x512, .bf16⟩
  | .local _ .vmem, ⟨26, _⟩ => ⟨S1x832x512, .bf16⟩
  | .local _ .vmem, ⟨27, _⟩ => ⟨S1x16x512, .f32⟩
  | .local _ .vmem, ⟨28, _⟩ => ⟨S1x16x512, .f32⟩
  | .local _ .vmem, ⟨29, _⟩ => ⟨S12x512x128, .f32⟩
  | .local _ .vmem, ⟨30, _⟩ => ⟨S12x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_scratch0 : Ref sig .tc := ⟨.vmem, 29, rfl⟩
abbrev cc1_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3784x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S832x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1536 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1536 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S832x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x1536 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4x128x1536 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x16x32x1536 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x1536 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x832x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x16x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]
-- ==== Reference5Ideal.lean ====
abbrev S8x2048x1024 : Shape := ⟨3, ![8, 2048, 1024]⟩
abbrev S1x1024 : Shape := ⟨2, ![1, 1024]⟩
abbrev S1x1024x3784 : Shape := ⟨3, ![1, 1024, 3784]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3784 : Shape := ⟨2, ![1024, 3784]⟩
abbrev S8x2048x3784 : Shape := ⟨3, ![8, 2048, 3784]⟩
abbrev S8x2048x512 : Shape := ⟨3, ![8, 2048, 512]⟩
abbrev S8x2048x256 : Shape := ⟨3, ![8, 2048, 256]⟩
abbrev S8x2048x64 : Shape := ⟨3, ![8, 2048, 64]⟩
abbrev S8x2048x8 : Shape := ⟨3, ![8, 2048, 8]⟩
abbrev S8x2048x1536 : Shape := ⟨3, ![8, 2048, 1536]⟩
abbrev S8x2048x832 : Shape := ⟨3, ![8, 2048, 832]⟩
abbrev S8x2048x16 : Shape := ⟨3, ![8, 2048, 16]⟩
abbrev S8x512x4x1536 : Shape := ⟨4, ![8, 512, 4, 1536]⟩
abbrev S8x4x512x1536 : Shape := ⟨4, ![8, 4, 512, 1536]⟩
abbrev S8x128x16x1536 : Shape := ⟨4, ![8, 128, 16, 1536]⟩
abbrev S8x16x128x1536 : Shape := ⟨4, ![8, 16, 128, 1536]⟩
abbrev S8x832x2048 : Shape := ⟨3, ![8, 832, 2048]⟩
abbrev S8x16x2048 : Shape := ⟨3, ![8, 16, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3784, .f32⟩
  | .hbm, ⟨3, _⟩ => ⟨S1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x3784, .f32⟩
  | .hbm, ⟨21, _⟩ => ⟨S8x2048x3784, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x256, .f32⟩
  | .hbm, ⟨26, _⟩ => ⟨S8x2048x64, .f32⟩
  | .hbm, ⟨27, _⟩ => ⟨S8x2048x64, .f32⟩
  | .hbm, ⟨28, _⟩ => ⟨S8x2048x256, .f32⟩
  | .hbm, ⟨29, _⟩ => ⟨S8x2048x1024, .f32⟩
  | .hbm, ⟨30, _⟩ => ⟨S8x2048x512, .f32⟩
  | .hbm, ⟨31, _⟩ => ⟨S8x2048x64, .f32⟩
  | .hbm, ⟨32, _⟩ => ⟨S8x2048x8, .f32⟩
  | .hbm, ⟨33, _⟩ => ⟨S_, .f32⟩
  | .hbm, ⟨34, _⟩ => ⟨S8x2048x64, .f32⟩
  | .hbm, ⟨35, _⟩ => ⟨S_, .f32⟩
  | .hbm, ⟨36, _⟩ => ⟨S8x2048x512, .f32⟩
  | .hbm, ⟨37, _⟩ => ⟨S8x2048x512, .f32⟩
  | .hbm, ⟨38, _⟩ => ⟨S8x2048x1536, .f32⟩
  | .hbm, ⟨39, _⟩ => ⟨S_, .f32⟩
  | .hbm, ⟨40, _⟩ => ⟨S8x2048x256, .f32⟩
  | .hbm, ⟨41, _⟩ => ⟨S8x2048x256, .f32⟩
  | .hbm, ⟨42, _⟩ => ⟨S8x2048x1536, .f32⟩
  | .hbm, ⟨43, _⟩ => ⟨S_, .f32⟩
  | .hbm, ⟨44, _⟩ => ⟨S8x2048x512, .f32⟩
  | .hbm, ⟨45, _⟩ => ⟨S8x2048x512, .f32⟩
  | .hbm, ⟨46, _⟩ => ⟨S_, .f32⟩
  | .hbm, ⟨47, _⟩ => ⟨S8x2048x256, .f32⟩
  | .hbm, ⟨48, _⟩ => ⟨S8x2048x256, .f32⟩
  | .hbm, ⟨49, _⟩ => ⟨S8x2048x832, .f32⟩
  | .hbm, ⟨50, _⟩ => ⟨S_, .f32⟩
  | .hbm, ⟨51, _⟩ => ⟨S8x2048x8, .f32⟩
  | .hbm, ⟨52, _⟩ => ⟨S8x2048x16, .f32⟩
  | .hbm, ⟨53, _⟩ => ⟨S8x2048x1536, .bf16⟩
  | .hbm, ⟨54, _⟩ => ⟨S8x512x4x1536, .f32⟩
  | .hbm, ⟨55, _⟩ => ⟨S8x4x512x1536, .f32⟩
  | .hbm, ⟨56, _⟩ => ⟨S8x4x512x1536, .bf16⟩
  | .hbm, ⟨57, _⟩ => ⟨S8x128x16x1536, .f32⟩
  | .hbm, ⟨58, _⟩ => ⟨S8x16x128x1536, .f32⟩
  | .hbm, ⟨59, _⟩ => ⟨S8x16x128x1536, .bf16⟩
  | .hbm, ⟨60, _⟩ => ⟨S8x2048x1536, .bf16⟩
  | .hbm, ⟨61, _⟩ => ⟨S8x832x2048, .f32⟩
  | .hbm, ⟨62, _⟩ => ⟨S8x832x2048, .bf16⟩
  | .hbm, ⟨63, _⟩ => ⟨S8x16x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Proof.Scalars.lean ====
module

public import Idealize.ShloMosaic.Lib.Pointwise
public import Idealize.ShloMosaic.Lib.KernelVsHost

@[expose] public section

noncomputable section

namespace Cert.Scalars

open Idealize.ShloMosaic

/-- The natural exponential of `ln 2` times a number is the power of two of that number, at every extended real. -/
theorem exp_log_two_mul (y : EReal) : Ideal.exp ((Real.log 2 : ℝ) * y) = Ideal.exp2 y := by
  have hl : (0 : ℝ) < Real.log 2 := Real.log_pos (by norm_num)
  induction y with
  | bot => rw [EReal.coe_mul_bot_of_pos hl]; rfl
  | top => rw [EReal.coe_mul_top_of_pos hl]; rfl
  | coe r =>
    rw [← EReal.coe_mul, Ideal.exp_coe, Ideal.exp2_coe]
    congr 1
    exact (Real.rpow_def_of_pos (by norm_num) r).symm

/-- A non-negative real factor moves out of a finite sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (by exact_mod_cast hr) (EReal.coe_ne_top r), ih]

/-- A positive real factor moves out of a difference of extended reals. -/
theorem coe_mul_sub (r : ℝ) (hr : 0 ≤ r) (x y : EReal) : (r : EReal) * x - r * y = r * (x - y) := by
  rw [sub_eq_add_neg, sub_eq_add_neg, ← mul_neg, ← EReal.left_distrib_of_nonneg_of_ne_top (by exact_mod_cast hr) (EReal.coe_ne_top r)]

/-- A positive real factor moves out of a maximum that starts at `⊥`. -/
theorem fold_max_coe_mul {n : ℕ} (r : ℝ) (hr : 0 < r) (f : Fin n → EReal) :
    Finset.univ.fold max ⊥ (fun i => (r : EReal) * f i) = r * Finset.univ.fold max ⊥ f := by
  have hm : Monotone fun x : EReal => (r : EReal) * x := fun a b h => mul_le_mul_of_nonneg_left h (by exact_mod_cast hr.le)
  have := Finset.fold_hom (s := Finset.univ) (op := max) (op' := max) (f := f) (b := ⊥) (m := fun x : EReal => (r : EReal) * x)
    (fun x y => hm.map_max)
  rw [EReal.coe_mul_bot_of_pos hr] at this
  exact this

/-- The f32 word of two. -/
theorem two_f32 : Ideal.ofBits .f32 1073741824#32 = ((2 : ℝ) : EReal) := by
  simp [Ideal.ofBits, Ideal.ieee, -EReal.coe_mul]; norm_num

/-- The f32 word of eight. -/
theorem eight_f32 : Ideal.ofBits .f32 1090519040#32 = ((8 : ℝ) : EReal) := by
  simp [Ideal.ofBits, Ideal.ieee, -EReal.coe_mul]; norm_num

/-- The f32 word of an eighth. -/
theorem eighth_f32 : Ideal.ofBits .f32 1040187392#32 = ((1 / 8 : ℝ) : EReal) := by
  simp [Ideal.ofBits, Ideal.ieee, -EReal.coe_mul]; norm_num

/-- The f32 word of minus infinity. -/
theorem ninf_f32 : Ideal.ofBits .f32 4286578688#32 = ⊥ := by
  simp [Ideal.ofBits, Ideal.ieee]

/-- The logarithm of two's f32 word is the real logarithm of two. -/
theorem log_two_f32 : Ideal.log (Ideal.ofBits .f32 1073741824#32) = ((Real.log 2 : ℝ) : EReal) := by
  rw [two_f32, Ideal.log_coe, if_neg (by norm_num)]

variable {n0 n1 n2 n3 : ℕ}

/-- A host maximum along the last of four axes is, at a position, the maximum from the initial element over that row. -/
theorem hostMax_last (x : FVec Ideal ⟨4, ![n0, n1, n2, n3]⟩ .f32) {u : Shape} (i : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x i h hu (ix3 a b c)
      = (Finset.univ : Finset (Fin n3)).fold max (i (Shape.Idx.first hu)) fun k => x (ix4 a b c k) := by
  have e : (FloatOps.maximumf : Ideal .f32 → Ideal .f32 → Ideal .f32) = (max : EReal → EReal → EReal) := rfl
  rw [e]
  exact (Host.reduce_eq_fold (max : EReal → EReal → EReal) x i h hu (ix3 a b c)).trans (h.fold_fiber_r4_a3 _ _ _ _)

end Cert.Scalars

end
-- ==== Proof.Spec.lean ====
module

public import proofs.«01_k».proof.Proof.Scalars

@[expose] public section

set_option maxRecDepth 16384

noncomputable section

namespace Cert.Spec

open Idealize.ShloMosaic Cert.Scalars

/-- The reciprocal root mean square of a row of 1024 numbers. -/
def scaleOf (f : Fin 1024 → EReal) : EReal :=
  Ideal.rsqrt (Ideal.div (∑ x, f x * f x) (Ideal.ofBits .f32 1149239296#32) + Ideal.ofBits .f32 897988541#32)

/-- One key or value of a memory row: the row normalised, scaled by g, times a weight column. -/
def kvOf (f g w : Fin 1024 → EReal) : EReal := ∑ x, f x * scaleOf f * g x * w x

/-- The score of a query against one memory row for head h: the 64 lanes of that head multiplied and added. -/
def scoreOf (q : Fin 256 → EReal) (k : Fin 512 → EReal) (h : Fin 4) : EReal :=
  ∑ j : Fin 64, q ⟨h * 64 + j, by omega⟩ * k ⟨h * 64 + j, by omega⟩

/-- The exponential with base two of a score less the largest score of its row. -/
def powOf (s : Fin 256 → EReal) (r : Fin 256) : EReal := Ideal.exp2 (s r - Finset.univ.fold max ⊥ s)

/-- The softmax with base two of a row of scores. -/
def softOf (s : Fin 256 → EReal) (r : Fin 256) : EReal := Ideal.div (powOf s r) (∑ x, powOf s x)

/-- The memory attention of one query at lane c: its head's softmax against the values at that lane. -/
def memOf (q : Fin 256 → EReal) (kv : Fin 256 → Fin 512 → EReal) (c : Fin 256) : EReal :=
  ∑ x, softOf (fun r => scoreOf q (kv r) ⟨c / 64, by omega⟩) x * kv x ⟨256 + c, by omega⟩

/-- A gate's SiLU. -/
def siluOf (p : EReal) : EReal := p * Ideal.logistic p

/-- The three attentions side by side, each times its gate's SiLU. -/
def mixOf (oa : Fin 512 → EReal) (ob q : Fin 256 → EReal) (kv : Fin 256 → Fin 512 → EReal) (p : Fin 1024 → EReal) (c : Fin 1024) : EReal :=
  (if h : c.val < 512 then oa ⟨c, h⟩ else if h' : c.val - 512 < 256 then ob ⟨c - 512, h'⟩ else memOf q kv ⟨c - 512 - 256, by omega⟩) * siluOf (p c)

/-- The residual row: the input row plus the mixed row times the output weight. -/
def resOf (x mix : Fin 1024 → EReal) (w : Fin 1024 → Fin 1024 → EReal) (c : Fin 1024) : EReal := x c + ∑ k, mix k * w k c

/-- A row normalised and scaled. -/
def normOf (f g : Fin 1024 → EReal) (c : Fin 1024) : EReal := f c * scaleOf f * g c

/-- The layer's result for one token: its input row x, its two local attentions, its memory query q, its gate p, the memory
    rows with their scale and weight, the output weight and the last scale. -/
def outOf (x : Fin 1024 → EReal) (oa : Fin 512 → EReal) (ob q : Fin 256 → EReal) (p : Fin 1024 → EReal) (mem : Fin 256 → Fin 1024 → EReal)
    (gm : Fin 1024 → EReal) (wm : Fin 1024 → Fin 512 → EReal) (wo : Fin 1024 → Fin 1024 → EReal) (gf : Fin 1024 → EReal) (c : Fin 1024) : EReal :=
  normOf (resOf x (mixOf oa ob q (fun r n => kvOf (mem r) gm fun k => wm k n) p) wo) gf c

/-- A query scaled by eight times the logarithm of two, multiplied with the keys and divided by eight, is the plain score times that logarithm. -/
theorem scaled_score (q k : Fin 64 → EReal) :
    (∑ x, q x * (Ideal.ofBits .f32 1090519040#32 * Ideal.log (Ideal.ofBits .f32 1073741824#32)) * k x) * Ideal.ofBits .f32 1040187392#32
      = ((Real.log 2 : ℝ) : EReal) * ∑ x, q x * k x := by
  have hl : (0 : ℝ) < Real.log 2 := Real.log_pos (by norm_num)
  rw [log_two_f32, eight_f32, eighth_f32, ← EReal.coe_mul]
  have e : ∀ x, q x * ((8 * Real.log 2 : ℝ) : EReal) * k x = ((8 * Real.log 2 : ℝ) : EReal) * (q x * k x) := fun x => by
    rw [mul_comm (q x), mul_assoc]
  simp only [e]
  rw [← coe_mul_sum _ _ (by positivity), mul_comm, ← mul_assoc, ← EReal.coe_mul]
  congr 2
  ring

/-- The natural exponential of scores scaled by the logarithm of two, less their maximum, is the power of two of the scores less theirs. -/
theorem scaled_pow (s : Fin 256 → EReal) (r : Fin 256) :
    Ideal.exp (((Real.log 2 : ℝ) : EReal) * s r - max ⊥ (Finset.univ.fold max ⊥ fun x => ((Real.log 2 : ℝ) : EReal) * s x)) = powOf s r := by
  have hl : (0 : ℝ) < Real.log 2 := Real.log_pos (by norm_num)
  rw [max_eq_right bot_le, fold_max_coe_mul _ hl, coe_mul_sub _ hl.le, exp_log_two_mul]
  rfl

end Cert.Spec

end
-- ==== Proof.OutPay.lean ====
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Out

open Idealize.ShloMosaic Idealize.ShloMosaic.TcCoe Idealize.SL.Sem
open Cert.KernelIdeal Cert.KernelIdeal.Gen

variable {F : FTy → Type} [FloatOps F]

/-- The head's lanes kept, the other lanes zero. -/
def keep (mk : IVec S1x256 1) (v : FVec F S256x256 .bf16) : FVec F S256x256 .bf16 :=
  select (broadcastTo S256x256 (shapeCast S1x256 mk shapeCasts_S1x256_S1x256) broadcasts_S1x256_S256x256) v
    (broadcast S256x256 (Scalar.ofBits .bf16 0x0000#16))

/-- One head's scores of 256 query rows against the 256 memory rows. -/
def score (mk : IVec S1x256 1) (q km : FVec F S256x256 .bf16) : FVec F S256x256 .f32 :=
  matmul dot_S256x256_S256x256_S256x256_1_1_0_0_n_n none (keep mk q) km (constant S256x256 .f32 0x00000000#32)

/-- Base-two softmax of the scores, row by row, before the division. -/
def power (s : FVec F S256x256 .f32) : FVec F S256x256 .f32 :=
  exp2 (subf s (broadcastTo S256x256 (shapeCast S256x1 (multiReduction .maximumf [1] S256 s 0xFF800000#32 reduces_S256x256_S256 (.inl rfl) rfl)
    shapeCasts_S256_S256x1) broadcasts_S256x1_S256x256))

/-- A row divided by its sum. -/
def weight (e : FVec F S256x256 .f32) : FVec F S256x256 .f32 :=
  divf e (broadcastTo S256x256 (shapeCast S256x1 (multiReduction .add [1] S256 e 0x00000000#32 reduces_S256x256_S256 (.inl rfl) rfl)
    shapeCasts_S256_S256x1) broadcasts_S256x1_S256x256)

/-- One head's attention over the memory rows, its values standing in the head's lanes only. -/
def headOut (mk : IVec S1x256 1) (q km vm : FVec F S256x256 .bf16) : FVec F S256x256 .f32 :=
  matmul dot_S256x256_S256x256_S256x256_1_0_0_1_n_n none (truncf .bf16 (weight (power (score mk q km))) bitsLt_bf16_f32) (keep mk vm)
    (constant S256x256 .f32 0x00000000#32)

/-- A gate's SiLU. -/
def silu (g : Vec F S1x256x256 .bf16) : FVec F S256x256 .f32 :=
  mulf (extf .f32 (shapeCast S256x256 g shapeCasts_S1x256x256_S256x256) bitsLt_bf16_f32)
    (logistic (extf .f32 (shapeCast S256x256 g shapeCasts_S1x256x256_S256x256) bitsLt_bf16_f32))

/-- A block of already computed attention, gated. -/
def gated (a : Vec F S1x256x256 .f32) (g : Vec F S1x256x256 .bf16) : FVec F S256x256 .bf16 :=
  shapeCast S256x256 (truncf .bf16 (mulf (shapeCast S256x256 a shapeCasts_S1x256x256_S256x256) (silu g)) bitsLt_bf16_f32) shapeCasts_S256x256_S256x256

/-- Lane c belongs to the head whose lanes start at `lo` and end before `hi`. -/
def lanes (lo hi : BitVec 32) : IVec S1x256 1 :=
  andi (cmpi .sge (iota .tc S1x256 32 [1] iota_S1x256_d1_w32) (broadcast S1x256 lo))
    (cmpi .slt (iota .tc S1x256 32 [1] iota_S1x256_d1_w32) (broadcast S1x256 hi))

/-- The four heads' memory attention of 256 query rows, added and gated. -/
def memGated (q : Vec F S1x256x256 .bf16) (km vm : FVec F S256x256 .bf16) (g : Vec F S1x256x256 .bf16) : FVec F S256x256 .bf16 :=
  shapeCast S256x256 (truncf .bf16 (mulf (addf (addf (addf
    (headOut (lanes 0#32 64#32) (shapeCast S256x256 q shapeCasts_S1x256x256_S256x256) km vm)
    (headOut (lanes 64#32 128#32) (shapeCast S256x256 q shapeCasts_S1x256x256_S256x256) km vm))
    (headOut (lanes 128#32 192#32) (shapeCast S256x256 q shapeCasts_S1x256x256_S256x256) km vm))
    (headOut (lanes 192#32 256#32) (shapeCast S256x256 q shapeCasts_S1x256x256_S256x256) km vm)) (silu g)) bitsLt_bf16_f32) shapeCasts_S256x256_S256x256

/-- Mixed rows times the output weight. -/
def projected (a : Vec F S256x1024 .bf16) (w : Vec F S1024x1024 .bf16) : FVec F S1x256x1024 .f32 := k0_pay44 a w

/-- A row block after the residual, normalised and scaled. -/
def normed (x y : Vec F S1x256x1024 .f32) (g : Vec F S1x1024 .f32) : FVec F S1x256x1024 .f32 := k0_pay56 x y g

/-- The stored memory attention of the first 256 query rows. -/
theorem sub0 (q g : Vec F S1x256x256 .bf16) (km vm : Vec F S256x256 .bf16) :
    k0_pay18 (k0_pay12 (iota .tc S1x256 32 [1] iota_S1x256_d1_w32) vm)
      (k0_pay15 k0_pay4 (k0_pay7 k0_pay5 k0_pay6) km (k0_pay10 k0_pay4 vm) (k0_pay11 k0_pay5 k0_pay6 vm) (k0_pay13 q) (k0_pay14 k0_pay3 km vm q))
      (k0_pay16 (k0_pay8 (iota .tc S1x256 32 [1] iota_S1x256_d1_w32)) km (k0_pay13 q))
      (k0_pay17 (k0_pay8 (iota .tc S1x256 32 [1] iota_S1x256_d1_w32)) km (k0_pay13 q)) g
    = memGated (F := F) q km vm g := rfl

/-- The stored memory attention of the second 256 query rows. -/
theorem sub1 (q g : Vec F S1x256x256 .bf16) (km vm : Vec F S256x256 .bf16) :
    k0_pay24 (k0_pay22 (k0_pay7 k0_pay5 k0_pay6) (k0_pay8 (iota .tc S1x256 32 [1] iota_S1x256_d1_w32)) km (k0_pay10 k0_pay4 vm)
      (k0_pay11 k0_pay5 k0_pay6 vm) (k0_pay12 (iota .tc S1x256 32 [1] iota_S1x256_d1_w32) vm) (k0_pay19 q)
      (k0_pay20 k0_pay3 km (k0_pay9 k0_pay3 vm) q) (k0_pay21 k0_pay4 km q)) (k0_pay23 g)
    = memGated (F := F) q km vm g := rfl

/-- The stored memory attention of the third 256 query rows. -/
theorem sub2 (q g : Vec F S1x256x256 .bf16) (km vm : Vec F S256x256 .bf16) :
    k0_pay28 (k0_pay8 (iota .tc S1x256 32 [1] iota_S1x256_d1_w32)) km (k0_pay11 k0_pay5 k0_pay6 vm)
      (k0_pay12 (iota .tc S1x256 32 [1] iota_S1x256_d1_w32) vm) (k0_pay25 q)
      (k0_pay26 k0_pay3 k0_pay4 km (k0_pay9 k0_pay3 vm) (k0_pay10 k0_pay4 vm) q) (Scalar.ofBits .bf16 0x0000#16)
      (k0_pay27 (k0_pay7 k0_pay5 k0_pay6)) g
    = memGated (F := F) q km vm g := rfl

/-- The stored memory attention of the fourth 256 query rows. -/
theorem sub3 (q g : Vec F S1x256x256 .bf16) (km vm : Vec F S256x256 .bf16) :
    k0_pay32 (k0_pay8 (iota .tc S1x256 32 [1] iota_S1x256_d1_w32)) km (k0_pay11 k0_pay5 k0_pay6 vm)
      (k0_pay12 (iota .tc S1x256 32 [1] iota_S1x256_d1_w32) vm) (k0_pay29 q)
      (k0_pay30 k0_pay3 k0_pay4 km (k0_pay9 k0_pay3 vm) (k0_pay10 k0_pay4 vm) q) (k0_pay31 (k0_pay7 k0_pay5 k0_pay6) km q) g
    = memGated (F := F) q km vm g := rfl

/-- A stored block of gated local attention. -/
theorem gated34 (a : Vec F S1x256x256 .f32) (g : Vec F S1x256x256 .bf16) :
    k0_pay34 (k0_pay33 a g) = gated (F := F) a g := rfl

/-- A stored block of gated local attention. -/
theorem gated35 (a : Vec F S1x256x256 .f32) (g : Vec F S1x256x256 .bf16) :
    k0_pay35 a g = gated (F := F) a g := rfl

/-- A stored block of gated local attention. -/
theorem gated36 (a : Vec F S1x256x256 .f32) (g : Vec F S1x256x256 .bf16) :
    k0_pay36 a g = gated (F := F) a g := rfl

/-- A stored block of gated local attention. -/
theorem gated39 (a : Vec F S1x256x256 .f32) (g : Vec F S1x256x256 .bf16) :
    k0_pay39 a g = gated (F := F) a g := rfl

/-- A stored block of gated local attention. -/
theorem gated40 (a : Vec F S1x256x256 .f32) (g : Vec F S1x256x256 .bf16) :
    k0_pay40 a g = gated (F := F) a g := rfl

/-- A stored block of gated local attention. -/
theorem gated43 (a : Vec F S1x256x256 .f32) (g : Vec F S1x256x256 .bf16) :
    k0_pay43 (k0_pay41 a) (k0_pay42 g) = gated (F := F) a g := rfl

/-- A stored block of gated local attention. -/
theorem gated45 (a : Vec F S1x256x256 .f32) (g : Vec F S1x256x256 .bf16) :
    k0_pay45 a g = gated (F := F) a g := rfl

/-- A stored block of gated local attention. -/
theorem gated47 (a : Vec F S1x256x256 .f32) (g : Vec F S1x256x256 .bf16) :
    k0_pay47 (k0_pay46 a g) = gated (F := F) a g := rfl

/-- A stored block of gated local attention. -/
theorem gated48 (a : Vec F S1x256x256 .f32) (g : Vec F S1x256x256 .bf16) :
    k0_pay48 a g = gated (F := F) a g := rfl

/-- A stored block of gated local attention. -/
theorem gated51 (a : Vec F S1x256x256 .f32) (g : Vec F S1x256x256 .bf16) :
    k0_pay51 (k0_pay50 a g) = gated (F := F) a g := rfl

/-- A stored block of gated local attention. -/
theorem gated52 (a : Vec F S1x256x256 .f32) (g : Vec F S1x256x256 .bf16) :
    k0_pay52 a g = gated (F := F) a g := rfl

/-- A stored block of gated local attention. -/
theorem gated53 (a : Vec F S1x256x256 .f32) (g : Vec F S1x256x256 .bf16) :
    k0_pay53 a g = gated (F := F) a g := rfl

/-- A stored block of mixed rows times the output weight. -/
theorem projected38 (a : Vec F S256x1024 .bf16) (w : Vec F S1024x1024 .bf16) :
    k0_pay38 (k0_pay37 a w) = projected (F := F) a w := rfl

/-- A stored block of mixed rows times the output weight. -/
theorem projected44 (a : Vec F S256x1024 .bf16) (w : Vec F S1024x1024 .bf16) :
    k0_pay44 a w = projected (F := F) a w := rfl

/-- A stored block of mixed rows times the output weight. -/
theorem projected49 (a : Vec F S256x1024 .bf16) (w : Vec F S1024x1024 .bf16) :
    k0_pay49 a w = projected (F := F) a w := rfl

/-- A stored block of mixed rows times the output weight. -/
theorem projected55 (a : Vec F S256x1024 .bf16) (w : Vec F S1024x1024 .bf16) :
    k0_pay55 (k0_pay54 a w) = projected (F := F) a w := rfl

/-- A stored block of normalised rows. -/
theorem normed56 (x y : Vec F S1x256x1024 .f32) (g : Vec F S1x1024 .f32) :
    k0_pay56 x y g = normed (F := F) x y g := rfl

/-- A stored block of normalised rows. -/
theorem normed61 (x y : Vec F S1x256x1024 .f32) (g : Vec F S1x1024 .f32) :
    k0_pay61 (k0_pay57 x y) (k0_pay58 g) (k0_pay59 x y) k0_pay60 = normed (F := F) x y g := rfl

/-- A stored block of normalised rows. -/
theorem normed62 (x y : Vec F S1x256x1024 .f32) (g : Vec F S1x1024 .f32) :
    k0_pay62 x y g = normed (F := F) x y g := rfl

/-- A stored block of normalised rows. -/
theorem normed1 (x y : Vec F S1x256x1024 .f32) (g : Vec F S1x1024 .f32) :
    k0_pay1 (k0_pay63 x) y g = normed (F := F) x y g := rfl

/-- The mask of head h's lanes is true at lane c exactly when c lies in the h-th group of 64. -/
theorem lane_bit : ∀ (h : Fin 4) (c : Fin 256),
    IntOp.andi (IntOp.cmpi .sge (BitVec.ofNat 32 ↑c) (BitVec.ofNat 32 (64 * h))) (IntOp.cmpi .slt (BitVec.ofNat 32 ↑c) (BitVec.ofNat 32 (64 * h + 64)))
      = if (c : ℕ) / 64 = h then 1#1 else 0#1 := by decide +kernel

/-- The lanes of head h. -/
def headLanes (h : Fin 4) : IVec S1x256 1 := lanes (BitVec.ofNat 32 (64 * h)) (BitVec.ofNat 32 (64 * h + 64))

/-- A block with only head h's lanes kept, at a row and a lane. -/
theorem keep_at (h : Fin 4) (v : FVec Ideal S256x256 .bf16) (r c : Fin 256) :
    keep (headLanes h) v (ix2 r c) = if (c : ℕ) / 64 = h then v (ix2 r c) else 0 := by
  have e : keep (headLanes h) v (ix2 r c) = Scalar.select (IntOp.andi (IntOp.cmpi .sge (BitVec.ofNat 32 ↑c) (BitVec.ofNat 32 (64 * h)))
      (IntOp.cmpi .slt (BitVec.ofNat 32 ↑c) (BitVec.ofNat 32 (64 * h + 64)))) (v (ix2 r c)) 0 := by
    pointwise [keep, headLanes, lanes]
  rw [e, lane_bit]
  split <;> rfl

/-- A head's score: its 64 lanes of the query times those of the key. -/
theorem score_at (h : Fin 4) (q km : FVec Ideal S256x256 .bf16) (KV : Fin 256 → Fin 512 → EReal)
    (hk : ∀ r c : Fin 256, km (ix2 r c) = KV r ⟨c, by omega⟩) (r n : Fin 256) :
    score (headLanes h) q km (ix2 r n) = Spec.scoreOf (fun c => q (ix2 r c)) (KV n) h := by
  have e : score (headLanes h) q km (ix2 r n) = ∑ x : Fin 256, keep (headLanes h) q (ix2 r x) * km (ix2 n x) := by
    pointwise [score]
  rw [e]
  simp only [keep_at, hk]
  refine (Fin.sum_univ_tiles 4 64 rfl _).trans ?_
  rw [Finset.sum_eq_single h]
  · unfold Spec.scoreOf
    refine Finset.sum_congr rfl fun t _ => ?_
    rw [if_pos (by show ((h : ℕ) * 64 + t) / 64 = h; omega)]
  · intro j _ hj
    refine Finset.sum_eq_zero fun t _ => ?_
    have hj' : (j : ℕ) ≠ h := fun e => hj (Fin.ext e)
    rw [if_neg (by show ¬ ((j : ℕ) * 64 + t) / 64 = h; omega), zero_mul]
  · intro hn; exact absurd (Finset.mem_univ h) hn

/-- A softmax weight of a row of scores. -/
theorem weight_at (s : FVec Ideal S256x256 .f32) (r n : Fin 256) :
    weight (power s) (ix2 r n) = Spec.softOf (fun x => s (ix2 r x)) n := by
  unfold Spec.softOf Spec.powOf
  rw [← Scalars.ninf_f32]
  pointwise [weight, power]
  rfl

/-- A head's attention at a lane: the softmax against the values at that lane if the lane is the head's, zero otherwise. -/
theorem headOut_at (h : Fin 4) (q km vm : FVec Ideal S256x256 .bf16) (KV : Fin 256 → Fin 512 → EReal)
    (hk : ∀ r c : Fin 256, km (ix2 r c) = KV r ⟨c, by omega⟩) (hv : ∀ r c : Fin 256, vm (ix2 r c) = KV r ⟨256 + c, by omega⟩) (r c : Fin 256) :
    headOut (headLanes h) q km vm (ix2 r c)
      = if (c : ℕ) / 64 = h then Spec.memOf (fun c => q (ix2 r c)) KV c else 0 := by
  have e : headOut (headLanes h) q km vm (ix2 r c)
      = ∑ x : Fin 256, weight (power (score (headLanes h) q km)) (ix2 r x) * keep (headLanes h) vm (ix2 x c) := by
    pointwise [headOut]
  rw [e]
  simp only [keep_at, weight_at, score_at h q km KV hk, hv]
  split
  · next hc =>
    unfold Spec.memOf
    have : (⟨c / 64, by omega⟩ : Fin 4) = h := Fin.ext hc
    rw [this]
  · simp

/-- The gated memory attention at a row and a lane. -/
theorem memGated_at (q : Vec Ideal S1x256x256 .bf16) (km vm : FVec Ideal S256x256 .bf16) (g : Vec Ideal S1x256x256 .bf16) (KV : Fin 256 → Fin 512 → EReal)
    (hk : ∀ r c : Fin 256, km (ix2 r c) = KV r ⟨c, by omega⟩) (hv : ∀ r c : Fin 256, vm (ix2 r c) = KV r ⟨256 + c, by omega⟩) (r c : Fin 256) :
    memGated q km vm g (ix2 r c) = Spec.memOf (fun c => q (ix3 0 r c)) KV c * Spec.siluOf (g (ix3 0 r c)) := by
  have e : memGated q km vm g (ix2 r c)
      = (headOut (headLanes 0) (shapeCast S256x256 q shapeCasts_S1x256x256_S256x256) km vm (ix2 r c)
        + headOut (headLanes 1) (shapeCast S256x256 q shapeCasts_S1x256x256_S256x256) km vm (ix2 r c)
        + headOut (headLanes 2) (shapeCast S256x256 q shapeCasts_S1x256x256_S256x256) km vm (ix2 r c)
        + headOut (headLanes 3) (shapeCast S256x256 q shapeCasts_S1x256x256_S256x256) km vm (ix2 r c)) * Spec.siluOf (g (ix3 0 r c)) := by
    unfold Spec.siluOf
    pointwise [memGated, silu]
    rfl
  have eq : (fun c => shapeCast S256x256 q shapeCasts_S1x256x256_S256x256 (ix2 r c)) = fun c => q (ix3 0 r c) := by
    funext c; pointwise
  rw [e]
  simp only [headOut_at _ _ km vm KV hk hv, eq]
  have hc : (c : ℕ) / 64 = 0 ∨ (c : ℕ) / 64 = 1 ∨ (c : ℕ) / 64 = 2 ∨ (c : ℕ) / 64 = 3 := by omega
  rcases hc with hc | hc | hc | hc <;> simp [hc]

/-- Gated local attention at a row and a lane. -/
theorem gated_at (a : Vec Ideal S1x256x256 .f32) (g : Vec Ideal S1x256x256 .bf16) (r c : Fin 256) :
    gated a g (ix2 r c) = a (ix3 0 r c) * Spec.siluOf (g (ix3 0 r c)) := by
  unfold Spec.siluOf
  pointwise [gated, silu]

/-- A normalised row of the residual, at a row and a lane, from the input row and the mixed row. -/
theorem normed_at (x : Vec Ideal S1x256x1024 .f32) (a : Vec Ideal S256x1024 .bf16) (w : Vec Ideal S1024x1024 .bf16) (g : Vec Ideal S1x1024 .f32)
    (r : Fin 256) (c : Fin 1024) (f mx : Fin 1024 → EReal) (hf : ∀ k, x (ix3 0 r k) = f k) (hm : ∀ k, a (ix2 r k) = mx k) :
    normed x (projected a w) g (ix3 0 r c) = Spec.normOf (Spec.resOf f mx fun k n => w (ix2 k n)) (fun k => g (ix2 0 k)) c := by
  have e : ∀ c, projected a w (ix3 0 r c) = ∑ k : Fin 1024, a (ix2 r k) * w (ix2 k c) := fun c => by
    pointwise [projected, k0_pay44]
  have e' : normed x (projected a w) g (ix3 0 r c) = Spec.normOf (fun k => x (ix3 0 r k) + projected a w (ix3 0 r k)) (fun k => g (ix2 0 k)) c := by
    unfold Spec.normOf Spec.scaleOf
    pointwise [normed, k0_pay56]
  rw [e']
  simp only [e, hf, hm]
  rfl

/-- A memory row's key or value at a row and a column. -/
theorem kv_at (v0 : Vec Ideal S1x256x1024 .f32) (v1 : Vec Ideal S1x1024 .f32) (w : Vec Ideal S1024x512 .bf16) (r : Fin 256) (c : Fin 512) :
    k0_pay2 v0 v1 w (ix2 r c) = Spec.kvOf (fun x => v0 (ix3 0 r x)) (fun x => v1 (ix2 0 x)) (fun x => w (ix2 x c)) := by
  unfold Spec.kvOf Spec.scaleOf
  pointwise [k0_pay2]

end Cert.KernelIdeal.Out

end
-- ==== Proof.OutBlock.lean ====
module

public import proofs.«01_k».proof.Proof.Gen.KernelIdeal.Value
public import proofs.«01_k».proof.Proof.OutPay
public import Idealize.ShloMosaic.Lib.Pipeline.ValueKit
public import Idealize.ShloMosaic.Lib.Pipeline.ReadBack

@[expose] public section

set_option maxRecDepth 16384

noncomputable section

namespace Cert.KernelIdeal.Out

open Idealize.ShloMosaic Idealize.ShloMosaic.TcCoe Idealize.SL.Sem
open Cert.KernelIdeal Cert.KernelIdeal.Gen

variable (m : (ℓ : Loc nD τ sig) → Buf (Elt Ideal) ℓ)

/-- The mixed rows of a block, from the block's local attentions, its gate, its memory queries and the memory keys and values. -/
def mixB (X1 : Vec Ideal S1x1024x512 .f32) (X2 : Vec Ideal S1x1024x256 .f32) (X3 : Vec Ideal S1x1024x1024 .bf16) (X4 : Vec Ideal S1x1024x256 .bf16)
    (KV : Vec Ideal S256x512 .bf16) (r c : Fin 1024) : EReal :=
  Spec.mixOf (fun k => X1 (ix3 0 r k)) (fun k => X2 (ix3 0 r k)) (fun k => X4 (ix3 0 r k)) (fun r n => KV (ix2 r n)) (fun k => X3 (ix3 0 r k)) c

/-- The result rows of a block. -/
def outB (X0 : Vec Ideal S1x1024x1024 .f32) (X1 : Vec Ideal S1x1024x512 .f32) (X2 : Vec Ideal S1x1024x256 .f32) (X3 : Vec Ideal S1x1024x1024 .bf16)
    (X4 : Vec Ideal S1x1024x256 .bf16) (KV : Vec Ideal S256x512 .bf16) (W : Vec Ideal S1024x1024 .bf16) (G : Vec Ideal S1x1024 .f32) (r c : Fin 1024) : EReal :=
  Spec.normOf (Spec.resOf (fun k => X0 (ix3 0 r k)) (mixB X1 X2 X3 X4 KV r) fun k n => W (ix2 k n)) (fun k => G (ix2 0 k)) c

/-- A gated block of the first local attention is the mixed rows there. -/
theorem mix_first (X1 : Vec Ideal S1x1024x512 .f32) (X2 : Vec Ideal S1x1024x256 .f32) (X3 : Vec Ideal S1x1024x1024 .bf16) (X4 : Vec Ideal S1x1024x256 .bf16)
    (KV : Vec Ideal S256x512 .bf16) (a : Vec Ideal S1x256x256 .f32) (g : Vec Ideal S1x256x256 .bf16) (x : S256x256.Idx) (r c : Fin 1024) (hc : c.val < 512)
    (ha : a (ix3 0 (x 0) (x 1)) = X1 (ix3 0 r ⟨c, hc⟩)) (hg : g (ix3 0 (x 0) (x 1)) = X3 (ix3 0 r c)) :
    gated a g x = mixB X1 X2 X3 X4 KV r c := by
  idx_vars x
  rw [gated_at]
  unfold mixB Spec.mixOf
  rw [dif_pos hc]
  exact congrArg₂ (fun u v => u * Spec.siluOf v) ha hg

/-- A gated block of the second local attention is the mixed rows there. -/
theorem mix_second (X1 : Vec Ideal S1x1024x512 .f32) (X2 : Vec Ideal S1x1024x256 .f32) (X3 : Vec Ideal S1x1024x1024 .bf16) (X4 : Vec Ideal S1x1024x256 .bf16)
    (KV : Vec Ideal S256x512 .bf16) (a : Vec Ideal S1x256x256 .f32) (g : Vec Ideal S1x256x256 .bf16) (x : S256x256.Idx) (r c : Fin 1024) (hc : 512 ≤ c.val) (hc' : c.val - 512 < 256)
    (ha : a (ix3 0 (x 0) (x 1)) = X2 (ix3 0 r ⟨c - 512, hc'⟩)) (hg : g (ix3 0 (x 0) (x 1)) = X3 (ix3 0 r c)) :
    gated a g x = mixB X1 X2 X3 X4 KV r c := by
  idx_vars x
  rw [gated_at]
  unfold mixB Spec.mixOf
  rw [dif_neg (by omega), dif_pos hc']
  exact congrArg₂ (fun u v => u * Spec.siluOf v) ha hg

/-- A gated block of the memory attention is the mixed rows there. -/
theorem mix_third (X1 : Vec Ideal S1x1024x512 .f32) (X2 : Vec Ideal S1x1024x256 .f32) (X3 : Vec Ideal S1x1024x1024 .bf16) (X4 : Vec Ideal S1x1024x256 .bf16)
    (KV : Vec Ideal S256x512 .bf16) (q : Vec Ideal S1x256x256 .bf16) (km vm : FVec Ideal S256x256 .bf16) (g : Vec Ideal S1x256x256 .bf16)
    (hk : ∀ r c : Fin 256, km (ix2 r c) = KV (ix2 r ⟨c, by omega⟩)) (hv : ∀ r c : Fin 256, vm (ix2 r c) = KV (ix2 r ⟨256 + c, by omega⟩))
    (x : S256x256.Idx) (r c : Fin 1024) (hc : c.val = 768 + x 1)
    (hq : ∀ k, q (ix3 0 (x 0) k) = X4 (ix3 0 r k)) (hg : g (ix3 0 (x 0) (x 1)) = X3 (ix3 0 r c)) :
    memGated q km vm g x = mixB X1 X2 X3 X4 KV r c := by
  idx_vars x
  rw [memGated_at q km vm g (fun r n => KV (ix2 r n)) hk hv]
  unfold mixB Spec.mixOf
  rw [dif_neg (by omega), dif_neg (by omega)]
  refine congrArg₂ (fun u v => u * Spec.siluOf v) ?_ hg
  congr 1
  · funext k; exact hq k
  · exact Fin.ext (by show _ = c.val - 512 - 256; rw [hc]; show _ = 768 + _ - 512 - 256; omega)

/-- A normalised block is the result rows there. -/
theorem out_rows (X0 : Vec Ideal S1x1024x1024 .f32) (X1 : Vec Ideal S1x1024x512 .f32) (X2 : Vec Ideal S1x1024x256 .f32) (X3 : Vec Ideal S1x1024x1024 .bf16)
    (X4 : Vec Ideal S1x1024x256 .bf16) (KV : Vec Ideal S256x512 .bf16) (W : Vec Ideal S1024x1024 .bf16) (G : Vec Ideal S1x1024 .f32)
    (xr : Vec Ideal S1x256x1024 .f32) (a : Vec Ideal S256x1024 .bf16) (x : S1x256x1024.Idx) (r c : Fin 1024)
    (hx : ∀ k, xr (ix3 0 (x 1) k) = X0 (ix3 0 r k)) (hm : ∀ k, a (ix2 (x 1) k) = mixB X1 X2 X3 X4 KV r k) (hc : x 2 = c) :
    normed xr (projected a W) G x = outB X0 X1 X2 X3 X4 KV W G r c := by
  subst hc
  have e : x = ix3 0 (x 1) (x 2) := by
    funext i
    match i with
    | 0 => exact Subsingleton.elim (α := Fin 1) _ _
    | 1 => rfl
    | 2 => rfl
  generalize x 1 = p at *
  generalize x 2 = q at *
  subst e
  unfold outB
  exact normed_at xr a W G p q (fun k => X0 (ix3 0 r k)) (mixB X1 X2 X3 X4 KV r) hx hm

/-- A load over pieces that are all blocks of one function reads that function at an index some piece holds. -/
theorem read_pieces {Val : EltTy → Type} [∀ e, Nonempty (Val e)] {sig : RefSig} {κ : Kind} {sp : Space} {s : Shape} {e : EltTy} (v : View sig κ sp s e)
    (G : s.Idx → Val e) (L : List (View.Piece Val s e)) (B : LoadRect s) (j : B.shape.Idx) (h : View.PiecesOf G L) (hc : ∃ p ∈ L, B.idx j ∈ p.1.set) :
    v.readCov L B j = G (B.idx j) := by
  rw [View.readCov_eq_canon']
  exact View.canon_apply_of_pieces G L h.mem _ hc

/-- A coordinate of an index placed by a unit rectangle. -/
theorem emb_val {s : Shape} (off size : Fin s.rank → ℕ) (inb) (x : (Rect.unit off size inb).shape.Idx) (a : Fin s.rank) :
    ((Rect.unit off size inb).emb x a : ℕ) = off a + x a := by
  rw [Rect.emb_apply]; show off a + 1 * (x a : ℕ) = _; omega

/-- A gated block of the first local attention holds the mixed rows there. -/
theorem piece_first (X1 : Vec Ideal S1x1024x512 .f32) (X2 : Vec Ideal S1x1024x256 .f32) (X3 : Vec Ideal S1x1024x1024 .bf16) (X4 : Vec Ideal S1x1024x256 .bf16)
    (KV : Vec Ideal S256x512 .bf16) (o l : ℕ) (h : l + 256 ≤ 512) (i : ∀ a : Fin S1024x1024.rank, (![o, l] : Fin S1024x1024.rank → ℕ) a + (![256, 256] : Fin S1024x1024.rank → ℕ) a ≤ S1024x1024.size a) (i1 : ∀ a : Fin S1x1024x512.rank, (![0, o, l] : Fin S1x1024x512.rank → ℕ) a + (![1, 256, 256] : Fin S1x1024x512.rank → ℕ) a ≤ S1x1024x512.size a)
    (i3 : ∀ a : Fin S1x1024x1024.rank, (![0, o, l] : Fin S1x1024x1024.rank → ℕ) a + (![1, 256, 256] : Fin S1x1024x1024.rank → ℕ) a ≤ S1x1024x1024.size a) (x : S256x256.Idx) :
    gated (View.ld (Val := Elt Ideal) X1 (Rect.unit (s := S1x1024x512) ![0, o, l] ![1, 256, 256] i1)) (View.ld (Val := Elt Ideal) X3 (Rect.unit (s := S1x1024x1024) ![0, o, l] ![1, 256, 256] i3)) x
      = (fun y : S1024x1024.Idx => mixB X1 X2 X3 X4 KV (y 0) (y 1)) ((Rect.unit (s := S1024x1024) ![o, l] ![256, 256] i).emb x) := by
  have h1 : (x 1 : ℕ) < 256 := (x 1).isLt
  have e0 := emb_val (s := S1024x1024) ![o, l] ![256, 256] i x 0
  have e1 := emb_val (s := S1024x1024) ![o, l] ![256, 256] i x 1
  simp only [Matrix.cons_val_zero, Matrix.cons_val_one] at e0 e1
  refine mix_first X1 X2 X3 X4 KV _ _ x _ _ (by omega) (congrArg X1 (funext fun a => Fin.ext ?_)) (congrArg X3 (funext fun a => Fin.ext ?_)) <;>
    (fin_cases a <;> simp [emb_val])

/-- A gated block of the second local attention holds the mixed rows there. -/
theorem piece_second (X1 : Vec Ideal S1x1024x512 .f32) (X2 : Vec Ideal S1x1024x256 .f32) (X3 : Vec Ideal S1x1024x1024 .bf16) (X4 : Vec Ideal S1x1024x256 .bf16)
    (KV : Vec Ideal S256x512 .bf16) (o : ℕ) (i : ∀ a : Fin S1024x1024.rank, (![o, 512] : Fin S1024x1024.rank → ℕ) a + (![256, 256] : Fin S1024x1024.rank → ℕ) a ≤ S1024x1024.size a) (i1 : ∀ a : Fin S1x1024x256.rank, (![0, o, 0] : Fin S1x1024x256.rank → ℕ) a + (![1, 256, 256] : Fin S1x1024x256.rank → ℕ) a ≤ S1x1024x256.size a)
    (i3 : ∀ a : Fin S1x1024x1024.rank, (![0, o, 512] : Fin S1x1024x1024.rank → ℕ) a + (![1, 256, 256] : Fin S1x1024x1024.rank → ℕ) a ≤ S1x1024x1024.size a) (x : S256x256.Idx) :
    gated (View.ld (Val := Elt Ideal) X2 (Rect.unit (s := S1x1024x256) ![0, o, 0] ![1, 256, 256] i1)) (View.ld (Val := Elt Ideal) X3 (Rect.unit (s := S1x1024x1024) ![0, o, 512] ![1, 256, 256] i3)) x
      = (fun y : S1024x1024.Idx => mixB X1 X2 X3 X4 KV (y 0) (y 1)) ((Rect.unit (s := S1024x1024) ![o, 512] ![256, 256] i).emb x) := by
  have h1 : (x 1 : ℕ) < 256 := (x 1).isLt
  have e0 := emb_val (s := S1024x1024) ![o, 512] ![256, 256] i x 0
  have e1 := emb_val (s := S1024x1024) ![o, 512] ![256, 256] i x 1
  simp only [Matrix.cons_val_zero, Matrix.cons_val_one] at e0 e1
  refine mix_second X1 X2 X3 X4 KV _ _ x _ _ (by omega) (by omega) (congrArg X2 (funext fun a => Fin.ext ?_)) (congrArg X3 (funext fun a => Fin.ext ?_)) <;>
    (fin_cases a <;> simp [emb_val])

/-- A gated block of the memory attention holds the mixed rows there. -/
theorem piece_third (X1 : Vec Ideal S1x1024x512 .f32) (X2 : Vec Ideal S1x1024x256 .f32) (X3 : Vec Ideal S1x1024x1024 .bf16) (X4 : Vec Ideal S1x1024x256 .bf16)
    (KV : Vec Ideal S256x512 .bf16) (o : ℕ) (i : ∀ a : Fin S1024x1024.rank, (![o, 768] : Fin S1024x1024.rank → ℕ) a + (![256, 256] : Fin S1024x1024.rank → ℕ) a ≤ S1024x1024.size a) (iq : ∀ a : Fin S1x1024x256.rank, (![0, o, 0] : Fin S1x1024x256.rank → ℕ) a + (![1, 256, 256] : Fin S1x1024x256.rank → ℕ) a ≤ S1x1024x256.size a)
    (ik : ∀ a : Fin S256x512.rank, (![0, 0] : Fin S256x512.rank → ℕ) a + (![256, 256] : Fin S256x512.rank → ℕ) a ≤ S256x512.size a) (iv : ∀ a : Fin S256x512.rank, (![0, 256] : Fin S256x512.rank → ℕ) a + (![256, 256] : Fin S256x512.rank → ℕ) a ≤ S256x512.size a)
    (i3 : ∀ a : Fin S1x1024x1024.rank, (![0, o, 768] : Fin S1x1024x1024.rank → ℕ) a + (![1, 256, 256] : Fin S1x1024x1024.rank → ℕ) a ≤ S1x1024x1024.size a) (x : S256x256.Idx) :
    memGated (View.ld (Val := Elt Ideal) X4 (Rect.unit (s := S1x1024x256) ![0, o, 0] ![1, 256, 256] iq))
        (View.ld (Val := Elt Ideal) KV (Rect.unit (s := S256x512) ![0, 0] ![256, 256] ik)) (View.ld (Val := Elt Ideal) KV (Rect.unit (s := S256x512) ![0, 256] ![256, 256] iv))
        (View.ld (Val := Elt Ideal) X3 (Rect.unit (s := S1x1024x1024) ![0, o, 768] ![1, 256, 256] i3)) x
      = (fun y : S1024x1024.Idx => mixB X1 X2 X3 X4 KV (y 0) (y 1)) ((Rect.unit (s := S1024x1024) ![o, 768] ![256, 256] i).emb x) := by
  have e1 := emb_val (s := S1024x1024) ![o, 768] ![256, 256] i x 1
  simp only [Matrix.cons_val_one] at e1
  refine mix_third X1 X2 X3 X4 KV _ _ _ _ (fun r c => congrArg KV (funext fun a => Fin.ext ?_)) (fun r c => congrArg KV (funext fun a => Fin.ext ?_)) x _ _
      e1 (fun k => congrArg X4 (funext fun a => Fin.ext ?_)) (congrArg X3 (funext fun a => Fin.ext ?_)) <;>
    (fin_cases a <;> simp [emb_val])

/-- An index within a list's first piece is in a piece of the list. -/
theorem in_unit {Val : EltTy → Type} {s : Shape} {e : EltTy} (off size : Fin s.rank → ℕ) (i : ∀ a, off a + size a ≤ s.size a) (w) (L : List (View.Piece Val s e)) (y : s.Idx)
    (h : ∀ a, off a ≤ (y a : ℕ) ∧ (y a : ℕ) < off a + size a) : ∃ q ∈ (⟨Rect.unit off size i, w⟩ : View.Piece Val s e) :: L, y ∈ q.1.set :=
  ⟨⟨Rect.unit off size i, w⟩, List.mem_cons_self, (Rect.mem_set_unit (inb := i)).mpr h⟩

/-- The bounds of an index of a square, axis by axis. -/
theorem square_bounds (o l n n' : ℕ) (y : S1024x1024.Idx) (h0 : o ≤ (y 0 : ℕ) ∧ (y 0 : ℕ) < o + n) (h1 : l ≤ (y 1 : ℕ) ∧ (y 1 : ℕ) < l + n') (a : Fin 2) :
    (![o, l] : Fin 2 → ℕ) a ≤ (y a : ℕ) ∧ (y a : ℕ) < (![o, l] : Fin 2 → ℕ) a + (![n, n'] : Fin 2 → ℕ) a := by
  match a with
  | 0 => exact h0
  | 1 => exact h1

/-- An index in a piece of a list's tail is in a piece of the list. -/
theorem in_tail {Val : EltTy → Type} {s : Shape} {e : EltTy} {p : View.Piece Val s e} {L : List (View.Piece Val s e)} {y : s.Idx} (hy : ∃ q ∈ L, y ∈ q.1.set) :
    ∃ q ∈ p :: L, y ∈ q.1.set := by
  obtain ⟨q, hq, h⟩ := hy
  exact ⟨q, List.mem_cons_of_mem _ hq, h⟩

/-- The coordinates of an index that a load of whole rows places. -/
theorem rows_idx (o : ℕ) (i : ∀ a : Fin S1024x1024.rank, (![o, 0] : Fin S1024x1024.rank → ℕ) a + (![256, 1024] : Fin S1024x1024.rank → ℕ) a ≤ S1024x1024.size a)
    (p : Fin 256) (k : Fin 1024) (y : S1024x1024.Idx) (h : (Rect.unit (s := S1024x1024) ![o, 0] ![256, 1024] i).idx (ix2 p k) = y) :
    (y 0 : ℕ) = o + p ∧ (y 1 : ℕ) = k := by
  subst h
  constructor
  · show o + 1 * (p : ℕ) = _; omega
  · show 0 + 1 * (k : ℕ) = _; omega

set_option maxHeartbeats 2000000 in
/-- What the body leaves of the result at a grid point. -/
theorem block_rows (c : Dev nD) (t : Fin cfg0.N) (y : S1x1024x1024.Idx) : outsAt0 m c t y
    = outB (iblk m c 0 t) (iblk m c 1 t) (iblk m c 2 t) (X0_3 m c t) (iblk m c 4 t) (k0_pay2 (iblk m c 5 t) (iblk m c 6 t) (iblk m c 7 t)) (iblk m c 8 t) (iblk m c 9 t) (y 1) (y 2) := by
  unfold outsAt0; frame_open
  simp (disch := decide) only [↓ View.readCov_skip, ↓ View.readCov_cons_toLoadRect, ↓ View.readCov_fill]
  frame_out
  rw [sub0, sub1, sub2, sub3]
  simp only [gated34, gated35, gated36, gated39, gated40, gated43, gated45, gated47, gated48, gated51, gated52, gated53,
    projected38, projected44, projected49, projected55, normed56, normed61, normed62, normed1]
  generalize k0_pay2 (iblk m c 5 t) (iblk m c 6 t) (iblk m c 7 t) = KV
  generalize iblk m c 0 t = X0, iblk m c 1 t = X1, iblk m c 2 t = X2, X0_3 m c t = X3, iblk m c 4 t = X4, iblk m c 8 t = X8, iblk m c 9 t = X9
  refine View.canon_append_of_piecesOf (Val := Elt Ideal) (s := S1x1024x1024) (e := .f32) (fun y => outB X0 X1 X2 X3 X4 KV X8 X9 (y 1) (y 2)) _ [_, _, _, _] ⟨?_, ?_, ?_, ?_, trivial⟩ y ?_
  rotate_left 4
  · exact View.cover_of_tiled_head _ _ _ (by rfl) y
  all_goals
    intro (x : S1x256x1024.Idx)
    dsimp only
    refine out_rows X0 X1 X2 X3 X4 KV X8 X9 _ _ x _ _ (fun k => ?_) (fun k => ?_) ?_
    · refine congrArg X0 (funext fun a => Fin.ext ?_)
      fin_cases a <;> simp [emb_val]
    · refine (read_pieces (Val := Elt Ideal) (s := S1024x1024) (e := .bf16) _ (fun y => mixB X1 X2 X3 X4 KV (y 0) (y 1)) _ _ _ ?_ ?_).trans ?_
      · repeat' (first
          | exact trivial
          | refine And.intro (piece_third X1 X2 X3 X4 KV _ (by decide) (by decide) (by decide) (by decide) (by decide)) ?_
          | refine And.intro (piece_second X1 X2 X3 X4 KV _ (by decide) (by decide) (by decide)) ?_
          | refine And.intro (piece_first X1 X2 X3 X4 KV _ _ (by decide) (by decide) (by decide) (by decide)) ?_)
      · have h0 : (x 1 : ℕ) < 256 := (x 1).isLt
        have h1 : (k : ℕ) < 1024 := k.isLt
        generalize hy : LoadRect.idx _ _ = y
        obtain ⟨e0, e1⟩ := rows_idx _ (by decide) (x 1) k y hy
        clear hy
        have hk : (k : ℕ) < 256 ∨ (256 ≤ (k : ℕ) ∧ (k : ℕ) < 512) ∨ (512 ≤ (k : ℕ) ∧ (k : ℕ) < 768) ∨ 768 ≤ (k : ℕ) := by omega
        rcases hk with hk | hk | hk | hk
        all_goals
          repeat (first
            | exact in_unit _ _ (by decide) _ _ _ (square_bounds _ _ _ _ _ (by omega) (by omega))
            | refine in_tail ?_)
      · show mixB X1 X2 X3 X4 KV _ _ = _
        congr 1 <;> refine Fin.ext ?_ <;> simp [emb_val]
    · exact Fin.ext (by simp [emb_val])

end Cert.KernelIdeal.Out
end
-- ==== Proof.OutRef.lean ====
module

public import proofs.«01_k».proof.Proof.Gen.ReferenceIdeal.Run
public import Idealize.ShloMosaic.Lib.Pointwise
public import proofs.«01_k».proof.Proof.Spec

@[expose] public section

set_option maxRecDepth 16384

noncomputable section

namespace Cert.ReferenceIdeal.Out

open Idealize.ShloMosaic Idealize.ShloMosaic.TcCoe Idealize.SL.Sem
open Cert.ReferenceIdeal Cert.ReferenceIdeal.Gen Cert.ReferenceIdeal.Value

variable {F : FTy → Type} [FloatOps F]

/-- The memory rows normalised and projected to keys and values. -/
def kv (mem : FVec F S8x256x1024 .f32) (g : FVec F S1x1024 .f32) (w : FVec F S1x1024x512 .f32) : FVec F S8x256x512 .f32 :=
  Host.dotGeneral dot_S8x256x1024_S1024x512_S8x256x512_2_0_01_1_n_n none (mulf (mulf mem (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf mem mem) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ g shapeCasts_S1x1024_S1024)))) (shapeCast _ w shapeCasts_S1x1024x512_S1024x512)

/-- The scores of every query against the memory keys, head by head. -/
def scores (p : FVec F S8x2048x1536 .bf16) (kv : FVec F S8x256x512 .f32) : FVec F S8x4x2048x256 .f32 :=
  mulf (Host.dotGeneral dot_S8x2048x4x64_S8x256x4x64_S8x4x2048x256_3_3_1_1_02_02 none (shapeCast _ (mulf (extf .f32 (extractStridedSlice S8x2048x256 ![0, 0, 1024] p slices_S8x2048x1536_S8x2048x256_0_0_1024) bitsLt_bf16_f32) (mulf (broadcastInDim S8x2048x256 ![] bcast_S_S8x2048x256 (constant S_ .f32 0x41000000#32)) (Host.log (broadcastInDim S8x2048x256 ![] bcast_S_S8x2048x256 (constant S_ .f32 0x40000000#32))))) shapeCasts_S8x2048x256_S8x2048x4x64) (shapeCast _ (extractStridedSlice S8x256x256 ![0, 0, 0] kv slices_S8x256x512_S8x256x256_0_0_0) shapeCasts_S8x256x256_S8x256x4x64)) (broadcastInDim S8x4x2048x256 ![] bcast_S_S8x4x2048x256 (constant S_ .f32 0x3E000000#32))

/-- The largest score of each row. -/
def rowMax (s : FVec F S8x4x2048x256 .f32) : FVec F S8x4x2048 .f32 :=
  Host.reduce FloatOps.maximumf s (constant S_ .f32 0xFF800000#32) reducesTo_S8x4x2048x256_S8x4x2048_d3 h_S_

/-- The exponentials of the scores less a number per row. -/
def powersFrom (s : FVec F S8x4x2048x256 .f32) (M : FVec F S8x4x2048 .f32) : FVec F S8x4x2048x256 .f32 :=
  Host.exp (subf s (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) M))))

/-- The exponentials of the scores less their row's maximum. -/
def powers (s : FVec F S8x4x2048x256 .f32) : FVec F S8x4x2048x256 .f32 := powersFrom s (rowMax s)

/-- Each row divided by its sum. -/
def weights (e : FVec F S8x4x2048x256 .f32) : FVec F S8x4x2048x256 .f32 :=
  Host.divf e (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd e (constant S_ .f32 0x00000000#32) reducesTo_S8x4x2048x256_S8x4x2048_d3 h_S_)))

/-- The memory attention's result, the heads side by side. -/
def attended (w : FVec F S8x4x2048x256 .f32) (kv : FVec F S8x256x512 .f32) : FVec F S8x2048x256 .f32 :=
  shapeCast _ (transpose S8x2048x4x64 [0, 3, 1, 2] (Host.dotGeneral dot_S8x256x4x64_S8x4x2048x256_S8x4x64x2048_1_3_3_2_02_01 none (shapeCast _ (extractStridedSlice S8x256x256 ![0, 0, 256] kv slices_S8x256x512_S8x256x256_0_0_256) shapeCasts_S8x256x256_S8x256x4x64) w) transposes_S8x4x64x2048_S8x2048x4x64_0_3_1_2) shapeCasts_S8x2048x4x64_S8x2048x256

/-- The three groups side by side, times the gate's SiLU. -/
def mixes (oa : FVec F S8x2048x512 .f32) (ob om : FVec F S8x2048x256 .f32) (p : FVec F S8x2048x1536 .bf16) : FVec F S8x2048x1024 .f32 :=
  mulf (concatenate S8x2048x1024 2 [⟨S8x2048x512, oa⟩, ⟨S8x2048x256, ob⟩, ⟨S8x2048x256, om⟩] concatenates_S8x2048x512_S8x2048x256_S8x2048x256_S8x2048x1024_d2) (mulf (extf .f32 (extractStridedSlice S8x2048x1024 ![0, 0, 0] p slices_S8x2048x1536_S8x2048x1024_0_0_0) bitsLt_bf16_f32) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extf .f32 (extractStridedSlice S8x2048x1024 ![0, 0, 0] p slices_S8x2048x1536_S8x2048x1024_0_0_0) bitsLt_bf16_f32))))))

/-- The residual after the output projection. -/
def residual (x mix : FVec F S8x2048x1024 .f32) (w : FVec F S1x1024x1024 .f32) : FVec F S8x2048x1024 .f32 :=
  addf x (Host.dotGeneral dot_S8x2048x1024_S1024x1024_S8x2048x1024_2_0_01_1_n_n none mix (shapeCast _ w shapeCasts_S1x1024x1024_S1024x1024))

/-- The last normalisation. -/
def normed (x : FVec F S8x2048x1024 .f32) (g : FVec F S1024 .f32) : FVec F S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The reference's result as a function of its arguments, stage by stage. -/
def result (x : FVec F S8x2048x1024 .f32) (oa : FVec F S8x2048x512 .f32) (ob : FVec F S8x2048x256 .f32) (p : FVec F S8x2048x1536 .bf16)
    (mem : FVec F S8x256x1024 .f32) (gm : FVec F S1x1024 .f32) (wm : FVec F S1x1024x512 .f32) (wo : FVec F S1x1024x1024 .f32) (gf : FVec F S1024 .f32) :
    FVec F S8x2048x1024 .f32 :=
  normed (residual x (mixes oa ob (attended (weights (powers (scores p (kv mem gm wm)))) (kv mem gm wm)) p) wo) gf

/-- What the reference's run leaves is that function of the argument arrays. -/
theorem res_eq (m : (ℓ : Loc nD τ sig) → Buf (Elt F) ℓ) (c : Dev nD) :
    res_out0 m c = result (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- A memory key or value of the reference. -/
theorem kv_at (mem : FVec Ideal S8x256x1024 .f32) (g : FVec Ideal S1x1024 .f32) (w : FVec Ideal S1x1024x512 .f32) (b : Fin 8) (r : Fin 256) (n : Fin 512) :
    kv mem g w (ix3 b r n) = Spec.kvOf (fun x => mem (ix3 b r x)) (fun x => g (ix2 0 x)) (fun x => w (ix3 0 x n)) := by
  unfold Spec.kvOf Spec.scaleOf
  pointwise [kv]

/-- A score of the reference is the logarithm of two times the plain score. -/
theorem scores_at (p : FVec Ideal S8x2048x1536 .bf16) (kv : FVec Ideal S8x256x512 .f32) (b : Fin 8) (h : Fin 4) (t : Fin 2048) (r : Fin 256) :
    scores p kv (ix4 b h t r) = ((Real.log 2 : ℝ) : EReal) * Spec.scoreOf (fun c => p (ix3 b t ⟨1024 + c, by omega⟩)) (fun n => kv (ix3 b r n)) h := by
  unfold Spec.scoreOf
  rw [← Spec.scaled_score]
  pointwise [scores]

/-- The largest score of a row of the reference. -/
theorem rowMax_at (s : FVec Ideal S8x4x2048x256 .f32) (b : Fin 8) (h : Fin 4) (t : Fin 2048) :
    rowMax s (ix3 b h t) = Finset.univ.fold max (Ideal.ofBits .f32 4286578688#32) fun x => s (ix4 b h t x) :=
  Scalars.hostMax_last s (constant S_ .f32 0xFF800000#32) reducesTo_S8x4x2048x256_S8x4x2048_d3 h_S_ b h t

/-- An exponential of the reference, the row's number given. -/
theorem powersFrom_at (s : FVec Ideal S8x4x2048x256 .f32) (M : FVec Ideal S8x4x2048 .f32) (b : Fin 8) (h : Fin 4) (t : Fin 2048) (r : Fin 256) :
    powersFrom s M (ix4 b h t r) = Ideal.exp (s (ix4 b h t r) - max (Ideal.ofBits .f32 4286578688#32) (M (ix3 b h t))) := by
  pointwise [powersFrom]

/-- An exponential of the reference. -/
theorem powers_at (s : FVec Ideal S8x4x2048x256 .f32) (b : Fin 8) (h : Fin 4) (t : Fin 2048) (r : Fin 256) :
    powers s (ix4 b h t r) = Ideal.exp (s (ix4 b h t r) - max ⊥ (Finset.univ.fold max ⊥ fun x => s (ix4 b h t x))) := by
  unfold powers
  rw [powersFrom_at, rowMax_at, Scalars.ninf_f32]

/-- A softmax weight of the reference. -/
theorem weights_at (s : FVec Ideal S8x4x2048x256 .f32) (b : Fin 8) (h : Fin 4) (t : Fin 2048) (r : Fin 256) :
    weights s (ix4 b h t r) = Ideal.div (s (ix4 b h t r)) (∑ x, s (ix4 b h t x)) := by
  pointwise [weights]

/-- The reference's memory attention at one lane. -/
theorem attended_at (w : FVec Ideal S8x4x2048x256 .f32) (kv : FVec Ideal S8x256x512 .f32) (b : Fin 8) (t : Fin 2048) (r : Fin 256) :
    attended w kv (ix3 b t r) = ∑ x, w (ix4 b ⟨r / 64, by omega⟩ t x) * kv (ix3 b x ⟨256 + r, by omega⟩) := by
  pointwise [attended]
  exact Finset.sum_congr rfl fun x _ => mul_comm _ _

/-- The reference's mixed row at one lane. -/
theorem mixes_at (oa : FVec Ideal S8x2048x512 .f32) (ob om : FVec Ideal S8x2048x256 .f32) (p : FVec Ideal S8x2048x1536 .bf16) (b : Fin 8) (t : Fin 2048) (r : Fin 1024) :
    mixes oa ob om p (ix3 b t r)
      = (if h : r.val < 512 then oa (ix3 b t ⟨r, h⟩) else if h' : r.val - 512 < 256 then ob (ix3 b t ⟨r - 512, h'⟩) else om (ix3 b t ⟨r - 512 - 256, by omega⟩))
        * Spec.siluOf (p (ix3 b t ⟨r, by omega⟩)) := by
  unfold Spec.siluOf Ideal.logistic
  pointwise [mixes]

/-- The reference's residual at one lane. -/
theorem residual_at (x mix : FVec Ideal S8x2048x1024 .f32) (w : FVec Ideal S1x1024x1024 .f32) (b : Fin 8) (t : Fin 2048) (r : Fin 1024) :
    residual x mix w (ix3 b t r) = Spec.resOf (fun c => x (ix3 b t c)) (fun c => mix (ix3 b t c)) (fun k c => w (ix3 0 k c)) r := by
  unfold Spec.resOf
  pointwise [residual]

/-- The reference's last normalisation at one lane. -/
theorem normed_at (x : FVec Ideal S8x2048x1024 .f32) (g : FVec Ideal S1024 .f32) (b : Fin 8) (t : Fin 2048) (r : Fin 1024) :
    normed x g (ix3 b t r) = Spec.normOf (fun c => x (ix3 b t c)) (fun c => g (ix1 c)) r := by
  unfold Spec.normOf Spec.scaleOf
  pointwise [normed]

/-- The reference's memory attention is the specification's, of its queries and its memory keys and values. -/
theorem attended_eq (p : FVec Ideal S8x2048x1536 .bf16) (kv : FVec Ideal S8x256x512 .f32) (b : Fin 8) (t : Fin 2048) (c : Fin 256) :
    attended (weights (powers (scores p kv))) kv (ix3 b t c)
      = Spec.memOf (fun c => p (ix3 b t ⟨1024 + c, by omega⟩)) (fun r n => kv (ix3 b r n)) c := by
  rw [attended_at]
  simp only [weights_at, powers_at, scores_at]
  unfold Spec.memOf Spec.softOf
  refine Finset.sum_congr rfl fun x _ => ?_
  rw [Spec.scaled_pow (fun r => Spec.scoreOf (fun c => p (ix3 b t ⟨1024 + c, by omega⟩)) (fun n => kv (ix3 b r n)) ⟨c / 64, by omega⟩) x]
  congr 2
  exact Finset.sum_congr rfl fun y _ =>
    Spec.scaled_pow (fun r => Spec.scoreOf (fun c => p (ix3 b t ⟨1024 + c, by omega⟩)) (fun n => kv (ix3 b r n)) ⟨c / 64, by omega⟩) y

/-- The reference's result at one token and lane is the specification's. -/
theorem result_at (x : FVec Ideal S8x2048x1024 .f32) (oa : FVec Ideal S8x2048x512 .f32) (ob : FVec Ideal S8x2048x256 .f32) (p : FVec Ideal S8x2048x1536 .bf16)
    (mem : FVec Ideal S8x256x1024 .f32) (gm : FVec Ideal S1x1024 .f32) (wm : FVec Ideal S1x1024x512 .f32) (wo : FVec Ideal S1x1024x1024 .f32)
    (gf : FVec Ideal S1024 .f32) (b : Fin 8) (t : Fin 2048) (c : Fin 1024) :
    result x oa ob p mem gm wm wo gf (ix3 b t c)
      = Spec.outOf (fun k => x (ix3 b t k)) (fun k => oa (ix3 b t k)) (fun k => ob (ix3 b t k)) (fun k => p (ix3 b t ⟨1024 + k, by omega⟩))
          (fun k => p (ix3 b t ⟨k, by omega⟩)) (fun r k => mem (ix3 b r k)) (fun k => gm (ix2 0 k)) (fun k n => wm (ix3 0 k n))
          (fun k n => wo (ix3 0 k n)) (fun k => gf (ix1 k)) c := by
  unfold result Spec.outOf
  simp only [normed_at, residual_at, mixes_at, attended_eq, kv_at]
  rfl

end Cert.ReferenceIdeal.Out

end
-- ==== Proof.OutFinal.lean ====
module

public import proofs.«01_k».proof.Proof.OutBlock
public import proofs.«01_k».proof.Proof.OutRef
public import Idealize.ShloMosaic.Lib.Claim

@[expose] public section

set_option maxRecDepth 16384

noncomputable section

namespace Cert.KernelIdeal.Out

open Idealize.ShloMosaic Idealize.ShloMosaic.TcCoe Idealize.SL.Sem
open Cert.KernelIdeal Cert.KernelIdeal.Gen

variable (m : (ℓ : Loc nD τ sig) → Buf (Elt Ideal) ℓ)

/-- The block of each array that a grid point reads or writes. -/
theorem idx : ∀ t : Fin cfg0.N, win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0]
    ∧ win0_4.index t = ![(grid0.coords t 0).val, (grid0.coords t 1).val, 4] ∧ win0_5.index t = ![(grid0.coords t 0).val, 0, 0] ∧ win0_6.index t = ![0, 0]
    ∧ win0_7.index t = ![0, 0] ∧ win0_8.index t = ![0, 0] ∧ win0_9.index t = ![0, 0] ∧ win0_10.index t = ![(grid0.coords t 0).val, (grid0.coords t 1).val, 0] :=
  (by decide +kernel : ∀ t : Fin grid0.N, _)

/-- The gate's block at a grid point is its rows of the projected array. -/
theorem gate_read (c : Dev nD) (t : Fin cfg0.N) (r k : Fin 1024) (b : Fin 8) (s : Fin 2048) (k' : Fin 1536) (hb : (b : ℕ) = (grid0.coords t 0).val)
    (hs : (s : ℕ) = (grid0.coords t 1).val * 1024 + r) (hk : (k' : ℕ) = k) : X0_3 m c t (ix3 0 r k) = m ((c : Thread nD τ).loc main_arg3) (ix3 b s k') := by
  unfold X0_3 Pipeline.Window.fill
  rw [dif_pos (moved0_3 t _)]
  blk_ext [iblk, V, idx t]

/-- The memory projection's weights are read whole. -/
theorem wm_read (c : Dev nD) (t : Fin cfg0.N) (k : Fin 1024) (n : Fin 512) :
    iblk m c 7 t (ix2 k n) = m ((c : Thread nD τ).loc main_arg6) (ix3 0 k n) := by
  have e : ((cfg0.win 7).blk t).view.emb (ix2 k n) = (ix2 k n : S1024x512.Idx) := by blk_ext [idx t]
  unfold iblk
  show V m c main_v1 (((cfg0.win 7).blk t).view.emb (ix2 k n)) = _
  rw [e]
  entry_read
  pointwise []

/-- The output projection's weights are read whole. -/
theorem wo_read (c : Dev nD) (t : Fin cfg0.N) (k n : Fin 1024) :
    iblk m c 8 t (ix2 k n) = m ((c : Thread nD τ).loc main_arg7) (ix3 0 k n) := by
  have e : ((cfg0.win 8).blk t).view.emb (ix2 k n) = (ix2 k n : S1024x1024.Idx) := by blk_ext [idx t]
  unfold iblk
  show V m c main_v3 (((cfg0.win 8).blk t).view.emb (ix2 k n)) = _
  rw [e]
  entry_read
  pointwise []

/-- The final norm's scale is read whole. -/
theorem gf_read (c : Dev nD) (t : Fin cfg0.N) (k : Fin 1024) :
    iblk m c 9 t (ix2 0 k) = m ((c : Thread nD τ).loc main_arg8) (ix1 k) := by
  have e : ((cfg0.win 9).blk t).view.emb (ix2 0 k) = (ix2 0 k : S1x1024.Idx) := by blk_ext [idx t]
  unfold iblk
  show V m c main_v4 (((cfg0.win 9).blk t).view.emb (ix2 0 k)) = _
  rw [e]
  entry_read
  pointwise []

/-- The result rows of a block, from what its block arguments hold. -/
theorem outB_eq (X0 : Vec Ideal S1x1024x1024 .f32) (X1 : Vec Ideal S1x1024x512 .f32) (X2 : Vec Ideal S1x1024x256 .f32) (X3 : Vec Ideal S1x1024x1024 .bf16)
    (X4 : Vec Ideal S1x1024x256 .bf16) (X5 : Vec Ideal S1x256x1024 .f32) (X6 : Vec Ideal S1x1024 .f32) (X7 : Vec Ideal S1024x512 .bf16)
    (W : Vec Ideal S1024x1024 .bf16) (G : Vec Ideal S1x1024 .f32) (r c : Fin 1024) (x p gm gf : Fin 1024 → EReal) (oa : Fin 512 → EReal) (ob q : Fin 256 → EReal)
    (mem : Fin 256 → Fin 1024 → EReal) (wm : Fin 1024 → Fin 512 → EReal) (wo : Fin 1024 → Fin 1024 → EReal) (h0 : ∀ k, X0 (ix3 0 r k) = x k)
    (h1 : ∀ k, X1 (ix3 0 r k) = oa k) (h2 : ∀ k, X2 (ix3 0 r k) = ob k) (h3 : ∀ k, X3 (ix3 0 r k) = p k) (h4 : ∀ k, X4 (ix3 0 r k) = q k)
    (h5 : ∀ r k, X5 (ix3 0 r k) = mem r k) (h6 : ∀ k, X6 (ix2 0 k) = gm k) (h7 : ∀ k n, X7 (ix2 k n) = wm k n) (h8 : ∀ k n, W (ix2 k n) = wo k n)
    (h9 : ∀ k, G (ix2 0 k) = gf k) :
    outB X0 X1 X2 X3 X4 (k0_pay2 X5 X6 X7) W G r c = Spec.outOf x oa ob q p mem gm wm wo gf c := by
  obtain rfl : (fun k => X0 (ix3 0 r k)) = x := funext h0
  obtain rfl : (fun k => X1 (ix3 0 r k)) = oa := funext h1
  obtain rfl : (fun k => X2 (ix3 0 r k)) = ob := funext h2
  obtain rfl : (fun k => X3 (ix3 0 r k)) = p := funext h3
  obtain rfl : (fun k => X4 (ix3 0 r k)) = q := funext h4
  obtain rfl : (fun r k => X5 (ix3 0 r k)) = mem := funext fun r => funext (h5 r)
  obtain rfl : (fun k => X6 (ix2 0 k)) = gm := funext h6
  obtain rfl : (fun k n => X7 (ix2 k n)) = wm := funext fun k => funext (h7 k)
  obtain rfl : (fun k n => W (ix2 k n)) = wo := funext fun k => funext (h8 k)
  obtain rfl : (fun k => G (ix2 0 k)) = gf := funext h9
  have hkv : (fun r n => k0_pay2 X5 X6 X7 (ix2 r n)) = fun r n => Spec.kvOf (fun x => X5 (ix3 0 r x)) (fun x => X6 (ix2 0 x)) (fun x => X7 (ix2 x n)) :=
    funext fun r => funext fun n => kv_at X5 X6 X7 r n
  have hmix : mixB X1 X2 X3 X4 (k0_pay2 X5 X6 X7) r = Spec.mixOf (fun k => X1 (ix3 0 r k)) (fun k => X2 (ix3 0 r k)) (fun k => X4 (ix3 0 r k))
      (fun r n => Spec.kvOf (fun x => X5 (ix3 0 r x)) (fun x => X6 (ix2 0 x)) (fun x => X7 (ix2 x n))) (fun k => X3 (ix3 0 r k)) := by
    funext c
    unfold mixB
    rw [hkv]
  unfold outB Spec.outOf
  rw [hmix]

/-- What a grid point leaves of the result is the reference's result at the place its block takes. -/
theorem point (c : Dev nD) (t : Fin cfg0.N) (y : S1x1024x1024.Idx) :
    outB (iblk m c 0 t) (iblk m c 1 t) (iblk m c 2 t) (X0_3 m c t) (iblk m c 4 t) (k0_pay2 (iblk m c 5 t) (iblk m c 6 t) (iblk m c 7 t)) (iblk m c 8 t) (iblk m c 9 t) (y 1) (y 2)
      = Cert.ReferenceIdeal.Out.result (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8))
          (((cfg0.win 10).blk t).view.emb y) := by
  generalize hj : ((cfg0.win 10).blk t).view.emb y = j
  have hy0 : (y 0 : ℕ) < 1 := (y 0).isLt
  have hj0 : (j 0 : ℕ) = (grid0.coords t 0).val := by rw [← hj]; blk_simp [idx t] <;> omega
  have hj1 : (j 1 : ℕ) = (grid0.coords t 1).val * 1024 + y 1 := by rw [← hj]; blk_simp [idx t]
  have hj2 : j 2 = y 2 := Fin.ext (by rw [← hj]; blk_simp [idx t])
  clear hj
  have e : j = ix3 (j 0) (j 1) (y 2) := by
    funext i
    match i with
    | 0 => rfl
    | 1 => rfl
    | 2 => exact hj2
  have r0 : ∀ k, iblk m c 0 t (ix3 0 (y 1) k) = m ((c : Thread nD τ).loc main_arg0) (ix3 (j 0) (j 1) k) := fun k => by blk_ext [iblk, V, idx t]
  have r1 : ∀ k, iblk m c 1 t (ix3 0 (y 1) k) = m ((c : Thread nD τ).loc main_arg1) (ix3 (j 0) (j 1) k) := fun k => by blk_ext [iblk, V, idx t]
  have r2 : ∀ k, iblk m c 2 t (ix3 0 (y 1) k) = m ((c : Thread nD τ).loc main_arg2) (ix3 (j 0) (j 1) k) := fun k => by blk_ext [iblk, V, idx t]
  have r3 : ∀ k : Fin 1024, X0_3 m c t (ix3 0 (y 1) k) = m ((c : Thread nD τ).loc main_arg3) (ix3 (j 0) (j 1) ⟨k, by omega⟩) := fun k => gate_read m c t _ _ _ _ _ hj0 hj1 rfl
  have r4 : ∀ k : Fin 256, iblk m c 4 t (ix3 0 (y 1) k) = m ((c : Thread nD τ).loc main_arg3) (ix3 (j 0) (j 1) ⟨1024 + k, by omega⟩) := fun k => by blk_ext [iblk, V, idx t]
  have r5 : ∀ r k, iblk m c 5 t (ix3 0 r k) = m ((c : Thread nD τ).loc main_arg4) (ix3 (j 0) r k) := fun r k => by blk_ext [iblk, V, idx t]
  have r6 : ∀ k, iblk m c 6 t (ix2 0 k) = m ((c : Thread nD τ).loc main_arg5) (ix2 0 k) := fun k => by blk_ext [iblk, V, idx t]
  rw [e]
  refine Eq.trans ?_ (Cert.ReferenceIdeal.Out.result_at _ _ _ _ _ _ _ _ _ _ _ _).symm
  exact outB_eq _ _ _ _ _ _ _ _ _ _ (y 1) (y 2) _ _ _ _ _ _ _ _ _ _ r0 r1 r2 r3 r4 r5 r6 (wm_read m c t) (wo_read m c t) (gf_read m c t)

/-- The kernel's result is the reference's. -/
theorem final (c : Dev nD) : (dats m 0 c).arrAt 10 cfg0.N
    = Cert.ReferenceIdeal.Out.result (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10, block_rows]
  exact point m c t y

end Cert.KernelIdeal.Out
end
-- ==== Proof.OutClaim.lean ====
module

public import proofs.«01_k».proof.Defs
public import proofs.«01_k».proof.Proof.Gen.ReferenceIdeal.Run
public import proofs.«01_k».proof.Proof.OutFinal

@[expose] public section

set_option maxRecDepth 16384

noncomputable section

namespace Cert.Out

open Idealize.ShloMosaic Idealize.SL.Sem

/-- The kernel and the reference leave the same result. -/
theorem algebraic : Cert.algebraic_KernelIdeal_ReferenceIdeal := by
  pair_intro
  · run_from Cert.KernelIdeal.Value.run_blocks m g
  · run_from Cert.ReferenceIdeal.Value.run m' g'
    obtain ⟨h0, h1, h2, h3, h4, h5, h6, h7, h8⟩ := hagree c
    refine (Cert.ReferenceIdeal.Out.res_eq m' c).trans ?_
    rw [h0, h1, h2, h3, h4, h5, h6, h7, h8]
    exact (Cert.KernelIdeal.Out.final m c).symm

end Cert.Out
end
-- ==== Proof.AttnLoops.lean ====
module

public import proofs.«01_k».proof.Proof.Gen.Kernel3.Loops
public import proofs.«01_k».proof.Proof.Gen.Kernel3.Frame

/-!
# The loops of the local attention

Each of the first three loops runs sixteen blocks: the scores of a block with its running maximum, and the
products of the block before with the values. For the frame it is enough that a trip neither faults nor loses
a buffer, whatever the buffers hold.
-/

@[expose] public section

set_option maxRecDepth 8192

noncomputable section

namespace Cert.Attn

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where a block's rows go

The first pattern writes block `k` at rows `128 k`; the second interleaves four sequences, so block `k` starts at
row `k / 4 + 512 (k % 4)` with a stride of four; the third keeps its sixteen sequences 129 rows apart.
-/

/-- Where the store at offset 6 of loop t1 lands at trip `k`. -/
theorem off6_eq : ∀ k : Fin k0_t1_loop.trips, k0_off6 k = ![0, 0, 128 * k.val, 0] := by decide +kernel
instance off6_closed (k : Fin k0_t1_loop.trips) : ClosedOff (k0_off6 k) := ⟨![0, 0, 128 * k.val, 0], off6_eq k⟩
/-- Where the store at offset 9 of loop t1 lands at trip `k`. -/
theorem off9_eq : ∀ k : Fin k0_t1_loop.trips, k0_off9 k = ![1, 0, 128 * k.val, 0] := by decide +kernel
instance off9_closed (k : Fin k0_t1_loop.trips) : ClosedOff (k0_off9 k) := ⟨![1, 0, 128 * k.val, 0], off9_eq k⟩
/-- Where the store at offset 12 of loop t2 lands at trip `k`. -/
theorem off12_eq : ∀ k : Fin k0_t2_loop.trips, k0_off12 k = ![0, 0, 128 * k.val, 0] := by decide +kernel
instance off12_closed (k : Fin k0_t2_loop.trips) : ClosedOff (k0_off12 k) := ⟨![0, 0, 128 * k.val, 0], off12_eq k⟩
/-- Where the store at offset 14 of loop t2 lands at trip `k`. -/
theorem off14_eq : ∀ k : Fin k0_t2_loop.trips, k0_off14 k = ![1, 0, 128 * k.val, 0] := by decide +kernel
instance off14_closed (k : Fin k0_t2_loop.trips) : ClosedOff (k0_off14 k) := ⟨![1, 0, 128 * k.val, 0], off14_eq k⟩
/-- Where the store at offset 18 of loop t2 lands at trip `k`. -/
theorem off18_eq : ∀ k : Fin k0_t2_loop.trips, k0_off18 k = ![0, 1, k.val / 4 + 512 * (k.val % 4), 0] := by decide +kernel
instance off18_closed (k : Fin k0_t2_loop.trips) : ClosedOff (k0_off18 k) := ⟨![0, 1, k.val / 4 + 512 * (k.val % 4), 0], off18_eq k⟩
/-- Where the store at offset 21 of loop t2 lands at trip `k`. -/
theorem off21_eq : ∀ k : Fin k0_t2_loop.trips, k0_off21 k = ![1, 1, k.val / 4 + 512 * (k.val % 4), 0] := by decide +kernel
instance off21_closed (k : Fin k0_t2_loop.trips) : ClosedOff (k0_off21 k) := ⟨![1, 1, k.val / 4 + 512 * (k.val % 4), 0], off21_eq k⟩
/-- Where the store at offset 24 of loop t3 lands at trip `k`. -/
theorem off24_eq : ∀ k : Fin k0_t3_loop.trips, k0_off24 k = ![0, 1, k.val / 4 + 512 * (k.val % 4), 0] := by decide +kernel
instance off24_closed (k : Fin k0_t3_loop.trips) : ClosedOff (k0_off24 k) := ⟨![0, 1, k.val / 4 + 512 * (k.val % 4), 0], off24_eq k⟩
/-- Where the store at offset 26 of loop t3 lands at trip `k`. -/
theorem off26_eq : ∀ k : Fin k0_t3_loop.trips, k0_off26 k = ![1, 1, k.val / 4 + 512 * (k.val % 4), 0] := by decide +kernel
instance off26_closed (k : Fin k0_t3_loop.trips) : ClosedOff (k0_off26 k) := ⟨![1, 1, k.val / 4 + 512 * (k.val % 4), 0], off26_eq k⟩
/-- Where the store at offset 31 of loop t3 lands at trip `k`. -/
theorem off31_eq : ∀ k : Fin k0_t3_loop.trips, k0_off31 k = ![0, 2, 129 * k.val, 0] := by decide +kernel
instance off31_closed (k : Fin k0_t3_loop.trips) : ClosedOff (k0_off31 k) := ⟨![0, 2, 129 * k.val, 0], off31_eq k⟩
/-- Where the store at offset 34 of loop t3 lands at trip `k`. -/
theorem off34_eq : ∀ k : Fin k0_t3_loop.trips, k0_off34 k = ![1, 2, 129 * k.val, 0] := by decide +kernel
instance off34_closed (k : Fin k0_t3_loop.trips) : ClosedOff (k0_off34 k) := ⟨![1, 2, 129 * k.val, 0], off34_eq k⟩

set_option warn.classDefReducibility false in
set_option maxHeartbeats 2000000 in
/-- Loop 1 of the attention: whatever the buffers it touches hold, one trip leaves them held. -/
@[sl_loop] def loop1 (𝒱 : Variants) (c : Dev nD) (bd : Option 𝒱.V) (E : Set ℕ) (i : grid0.Coords) (arg2 : Memref sig .tc .smem S8 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .f32) (harg12 : arg12.IsWhole) (arg13 : Memref sig .tc .vmem S2x3x2064x128 .f32) (harg13 : arg13.IsWhole) (arg14 : Memref sig .tc .vmem S2x3x2064x128 .f32) (harg14 : arg14.IsWhole) (arg15 : Memref sig .tc .vmem S3x2x3x128x256 .f32) (harg15 : arg15.IsWhole) (arg16 : Memref sig .tc .vmem S2x2x16x128x256 .bf16) (harg16 : arg16.IsWhole) (v2 : IVec S1x128 1) (v4 : IVec S1x128 1) (cst_186 : F .bf16) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v4 cst_186 where
  inv k acc := iprop((∃ f, arg3.view.loc (c : Thread nD τ) ↦[arg3.view.set]{fullShare} f) ∗ (∃ f, arg4.view.loc (c : Thread nD τ) ↦[arg4.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))
  step k acc := by
    have hk : k.val < 16 := Nat.lt_of_lt_of_le k.isLt k0_t1_abs.2.1
    unfold k0_t1_body
    iintro ⟨⟨%f_arg3, H_arg3⟩, ⟨%f_arg4, H_arg4⟩, ⟨%f_arg14, H_arg14⟩, ⟨%f_arg15, H_arg15⟩, ⟨%f_arg16, H_arg16⟩⟩
    sl_exec
    sl_step
    isplitl [H_arg3]; · iexists _; iexact H_arg3
    isplitl [H_arg4]; · iexists _; iexact H_arg4
    isplitl [H_arg14]; · iexists _; iexact H_arg14
    isplitl [H_arg15]; · iexists _; iexact H_arg15
    iexists _; iexact H_arg16

set_option warn.classDefReducibility false in
set_option maxHeartbeats 2000000 in
/-- Loop 2 of the attention: whatever the buffers it touches hold, one trip leaves them held. -/
@[sl_loop] def loop2 (𝒱 : Variants) (c : Dev nD) (bd : Option 𝒱.V) (E : Set ℕ) (i : grid0.Coords) (arg2 : Memref sig .tc .smem S8 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .f32) (harg12 : arg12.IsWhole) (arg13 : Memref sig .tc .vmem S2x3x2064x128 .f32) (harg13 : arg13.IsWhole) (arg14 : Memref sig .tc .vmem S2x3x2064x128 .f32) (harg14 : arg14.IsWhole) (arg15 : Memref sig .tc .vmem S3x2x3x128x256 .f32) (harg15 : arg15.IsWhole) (arg16 : Memref sig .tc .vmem S2x2x16x128x256 .bf16) (harg16 : arg16.IsWhole) (v2 : IVec S1x128 1) (v4 : IVec S1x128 1) (cst_190 : F .bf16) (cst_191 : F .bf16) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v4 cst_190 cst_191 where
  inv k acc := iprop((∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))
  step k acc := by
    have hk : k.val < 16 := Nat.lt_of_lt_of_le k.isLt k0_t2_abs.2.1
    unfold k0_t2_body
    iintro ⟨⟨%f_arg5, H_arg5⟩, ⟨%f_arg6, H_arg6⟩, ⟨%f_arg7, H_arg7⟩, ⟨%f_arg13, H_arg13⟩, ⟨%f_arg14, H_arg14⟩, ⟨%f_arg15, H_arg15⟩, ⟨%f_arg16, H_arg16⟩⟩
    sl_exec
    sl_step
    isplitl [H_arg5]; · iexists _; iexact H_arg5
    isplitl [H_arg6]; · iexists _; iexact H_arg6
    isplitl [H_arg7]; · iexists _; iexact H_arg7
    isplitl [H_arg13]; · iexists _; iexact H_arg13
    isplitl [H_arg14]; · iexists _; iexact H_arg14
    isplitl [H_arg15]; · iexists _; iexact H_arg15
    iexists _; iexact H_arg16

set_option warn.classDefReducibility false in
set_option maxHeartbeats 2000000 in
/-- Loop 3 of the attention: whatever the buffers it touches hold, one trip leaves them held. -/
@[sl_loop] def loop3 (𝒱 : Variants) (c : Dev nD) (bd : Option 𝒱.V) (E : Set ℕ) (i : grid0.Coords) (arg2 : Memref sig .tc .smem S8 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .f32) (harg12 : arg12.IsWhole) (arg13 : Memref sig .tc .vmem S2x3x2064x128 .f32) (harg13 : arg13.IsWhole) (arg14 : Memref sig .tc .vmem S2x3x2064x128 .f32) (harg14 : arg14.IsWhole) (arg15 : Memref sig .tc .vmem S3x2x3x128x256 .f32) (harg15 : arg15.IsWhole) (arg16 : Memref sig .tc .vmem S2x2x16x128x256 .bf16) (harg16 : arg16.IsWhole) (v2 : IVec S1x128 1) (v4 : IVec S1x128 1) (cst_196 : F .bf16) (cst_197 : F .bf16) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v4 cst_196 cst_197 where
  inv k acc := iprop((∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))
  step k acc := by
    have hk : k.val < 16 := Nat.lt_of_lt_of_le k.isLt k0_t3_abs.2.1
    unfold k0_t3_body
    iintro ⟨⟨%f_arg8, H_arg8⟩, ⟨%f_arg9, H_arg9⟩, ⟨%f_arg10, H_arg10⟩, ⟨%f_arg13, H_arg13⟩, ⟨%f_arg14, H_arg14⟩, ⟨%f_arg15, H_arg15⟩, ⟨%f_arg16, H_arg16⟩⟩
    sl_exec
    sl_step
    isplitl [H_arg8]; · iexists _; iexact H_arg8
    isplitl [H_arg9]; · iexists _; iexact H_arg9
    isplitl [H_arg10]; · iexists _; iexact H_arg10
    isplitl [H_arg13]; · iexists _; iexact H_arg13
    isplitl [H_arg14]; · iexists _; iexact H_arg14
    isplitl [H_arg15]; · iexists _; iexact H_arg15
    iexists _; iexact H_arg16

end Cert.Attn

end
-- ==== Proof.AttnFrame.lean ====
module

public import proofs.«01_k».proof.Proof.AttnLoops

/-!
# The local attention runs to its end

From any contents of its buffers, a grid point of the local attention runs without fault and hands every buffer
back. So the whole call does, and its arguments, which no point writes, end as they began.
-/

@[expose] public section

set_option maxRecDepth 8192

noncomputable section

namespace Cert.Attn

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- One grid point: with every buffer held at some contents it runs to its return and hands them all back. -/
theorem kernel_run (c : Dev nD) (i : grid0.Coords) (arg2 : Memref sig .tc .smem S8 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .f32) (harg12 : arg12.IsWhole) (arg13 : Memref sig .tc .vmem S2x3x2064x128 .f32) (harg13 : arg13.IsWhole) (arg14 : Memref sig .tc .vmem S2x3x2064x128 .f32) (harg14 : arg14.IsWhole) (arg15 : Memref sig .tc .vmem S3x2x3x128x256 .f32) (harg15 : arg15.IsWhole) (arg16 : Memref sig .tc .vmem S2x2x16x128x256 .bf16) (harg16 : arg16.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ (cc0_attn_a (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_attn_a_eq_skeleton]; unfold cc0_attn_a_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-- What is said of the call: its arrays as found, nothing of what a point leaves in a block, the scratch at anything. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What a grid point holds of its own: the four scratch arrays, each at some contents. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The body's entry at a grid point is the body at that point. -/
theorem defs₀_row (t : Fin cfg0.N) : defs₀ (F := F) .tc cfg0.body (cfg0.bodyArgs t (cfg0.slots t)) = bodyAt0 t := by
  unfold defs₀; rw [Defs.onTc_tc]

set_option maxHeartbeats 2000000 in
/-- A grid point runs from the blocks of its windows, and hands the arguments' blocks back unchanged. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc ∗ (owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10)))
      ⊢ wp frame (wpE (defs₀ (F := F)) Variants.none (c : Thread nD τ) none) Set.univ (bodyAt0 t) (fun _ =>
          iprop((rdat m c).Φ t.succ ∗ (rdat m c).owesAt () t.succ ∗ ((∃ X, ⌜(rdat m c).after 0 t (Y 0) X⌝ ∗ owns (c : Thread nD τ) ((cfg0.win 0).stage (cfg0.slots t 0)) fullShare X) ∗ (∃ X, ⌜(rdat m c).after 1 t (Y 1) X⌝ ∗ owns (c : Thread nD τ) ((cfg0.win 1).stage (cfg0.slots t 1)) fullShare X) ∗ (∃ X, ⌜(rdat m c).after 2 t (Y 2) X⌝ ∗ owns (c : Thread nD τ) ((cfg0.win 2).stage (cfg0.slots t 2)) fullShare X) ∗ (∃ X, ⌜(rdat m c).after 3 t (Y 3) X⌝ ∗ owns (c : Thread nD τ) ((cfg0.win 3).stage (cfg0.slots t 3)) fullShare X) ∗ (∃ X, ⌜(rdat m c).after 4 t (Y 4) X⌝ ∗ owns (c : Thread nD τ) ((cfg0.win 4).stage (cfg0.slots t 4)) fullShare X) ∗ (∃ X, ⌜(rdat m c).after 5 t (Y 5) X⌝ ∗ owns (c : Thread nD τ) ((cfg0.win 5).stage (cfg0.slots t 5)) fullShare X) ∗ (∃ X, ⌜(rdat m c).after 6 t (Y 6) X⌝ ∗ owns (c : Thread nD τ) ((cfg0.win 6).stage (cfg0.slots t 6)) fullShare X) ∗ (∃ X, ⌜(rdat m c).after 7 t (Y 7) X⌝ ∗ owns (c : Thread nD τ) ((cfg0.win 7).stage (cfg0.slots t 7)) fullShare X) ∗ (∃ X, ⌜(rdat m c).after 8 t (Y 8) X⌝ ∗ owns (c : Thread nD τ) ((cfg0.win 8).stage (cfg0.slots t 8)) fullShare X) ∗ (∃ X, ⌜(rdat m c).after 9 t (Y 9) X⌝ ∗ owns (c : Thread nD τ) ((cfg0.win 9).stage (cfg0.slots t 9)) fullShare X) ∗ (∃ X, ⌜(rdat m c).after 10 t (Y 10) X⌝ ∗ owns (c : Thread nD τ) ((cfg0.win 10).stage (cfg0.slots t 10)) fullShare X)))) := by
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, phi_eq]
  unfold bodyAt0
  iintro ⟨⟨⟨C0, C1, C2, C3⟩, Hg⟩, HO, ⟨S0, S1, S2, S3, S4, S5, S6, S7, S8, S9, S10⟩⟩
  iapply (kernel_run c)
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [C0]; · iexact C0
  isplitl [C1]; · iexact C1
  isplitl [C2]; · iexact C2
  isplitl [C3]; · iexact C3
  iintro ⟨⟨%x0, S0⟩, ⟨%x1, S1⟩, ⟨%x2, S2⟩, ⟨%x3, S3⟩, ⟨%x4, S4⟩, ⟨%x5, S5⟩, ⟨%x6, S6⟩, ⟨%x7, S7⟩, ⟨%x8, S8⟩, ⟨%x9, S9⟩, ⟨%x10, S10⟩, C0, C1, C2, C3⟩
  isplitl [C0 C1 C2 C3 Hg]
  · isplitl [C0 C1 C2 C3]
    · isplitl [C0]; · iexact C0
      isplitl [C1]; · iexact C1
      isplitl [C2]; · iexact C2
      iexact C3
    iexact Hg
  isplitl [HO]; · iexact HO
  isplitl [S0]
  · iexists x0; isplitr; · ipureintro; trivial
    iexact S0
  isplitl [S1]
  · iexists x1; isplitr; · ipureintro; trivial
    iexact S1
  isplitl [S2]
  · iexists x2; isplitr; · ipureintro; trivial
    iexact S2
  isplitl [S3]
  · iexists x3; isplitr; · ipureintro; trivial
    iexact S3
  isplitl [S4]
  · iexists x4; isplitr; · ipureintro; trivial
    iexact S4
  isplitl [S5]
  · iexists x5; isplitr; · ipureintro; trivial
    iexact S5
  isplitl [S6]
  · iexists x6; isplitr; · ipureintro; trivial
    iexact S6
  isplitl [S7]
  · iexists x7; isplitr; · ipureintro; trivial
    iexact S7
  isplitl [S8]
  · iexists x8; isplitr; · ipureintro; trivial
    iexact S8
  isplitl [S9]
  · iexists x9; isplitr; · ipureintro; trivial
    iexact S9
  iexists x10; isplitr; · ipureintro; trivial
  iexact S10

/-- The obligation of one grid point, at every point. -/
theorem body_obligation (c : Dev nD) : (rdat (F := F) m c).BodyObligation (defs₀ (F := F)) Variants.none () Set.univ := fun t Y _ => by
  rw [bigSep_W0, bigSep_W0, defs₀_row]
  exact sound_body m c t Y

set_option backward.isDefEq.respectTransparency.types false in
/-- The whole call runs to its end with its arguments as they were and every semaphore at zero. -/
theorem run_main :
    θ_run defs (onTc (τ := τ) (main (F := F))) (s₀ m ρ)
      (fun r => RDat.FramePost (cfgs 0) (rdat m) (V m) r ∧ r.2.sem = fun _ => 0) :=
  Pipeline.RDat.θ_run_frame_track_shared (Q' := _) cfgs (0 : Fin 1) launch₀0 defs₀ Variants.none (rdat m) m ρ main
    (body_obligation m) (fun _ _ _ => rfl) (fun _ _ => rfl) (V m) (hmain m Variants.none) (fun _ _ => rfl)
    (fun _ => .rfl) (fun _ => .rfl) (hQ' := fun _ h => h)

end Cert.Attn

end
-- ==== Proof.LaySpec.lean ====
module

public import Idealize.ShloMosaic.Lib.Pointwise

@[expose] public section

set_option maxRecDepth 16384

noncomputable section

/-!
# The four laid-out rows of the weight matrix, from one of its rows
-/

namespace Cert.LaySpec

open Idealize.ShloMosaic

/-- The factor of the queries: the scores' scale times the base-two logarithm of e, as a float. -/
def qScale : EReal := Ideal.ofBits .f32 1043900987#32

/-- The factor of the indexer's queries, one eighth. -/
def iScale : EReal := Ideal.ofBits .f32 1040187392#32

/-- The columns of the windowed attention: queries (scaled), keys, values. -/
def first (w : Fin 3784 → EReal) (n : Fin 1536) : EReal :=
  if h : n.val < 512 then w ⟨n, by omega⟩ * qScale
  else if h : n.val - 512 < 512 then w ⟨512 + (n - 512), by omega⟩
  else w ⟨1024 + (n - 512 - 512), by omega⟩

/-- The gate, the memory queries (scaled), and two keys padded by zeros to 128 columns each. -/
def second (w : Fin 3784 → EReal) (n : Fin 1536) : EReal :=
  if h : n.val < 1024 then w ⟨2176 + n, by omega⟩
  else if h : n.val - 1024 < 256 then w ⟨1920 + (n - 1024), by omega⟩ * qScale
  else if h : n.val - 1024 - 256 < 64 then w ⟨1792 + (n - 1024 - 256), by omega⟩
  else if h : n.val - 1024 - 256 - 64 < 64 then 0
  else if h : n.val - 1024 - 256 - 64 - 64 < 64 then w ⟨3712 + (n - 1024 - 256 - 64 - 64), by omega⟩
  else 0

/-- The indexer's queries (scaled), the sparse attention's queries (scaled) and its values. -/
def third (w : Fin 3784 → EReal) (n : Fin 832) : EReal :=
  if h : n.val < 512 then w ⟨3200 + n, by omega⟩ * iScale
  else if h : n.val - 512 < 256 then w ⟨1536 + (n - 512), by omega⟩ * qScale
  else w ⟨1856 + (n - 512 - 256), by omega⟩

/-- The indexer's weights, padded by zeros to 16 columns. -/
def fourth (w : Fin 3784 → EReal) (n : Fin 16) : EReal :=
  if h : n.val < 8 then w ⟨3776 + n, by omega⟩ else 0

end Cert.LaySpec
end
-- ==== Proof.JoinRef.lean ====
module

public import proofs.«01_k».proof.Proof.Gen.Reference5Ideal.Run
public import Idealize.ShloMosaic.Lib.Pointwise
public import proofs.«01_k».proof.Proof.Spec
public import proofs.«01_k».proof.Proof.LaySpec

@[expose] public section

set_option maxRecDepth 16384

noncomputable section

/-!
# The input projection of the reference, entry by entry
-/

namespace Cert.Join

open Idealize.ShloMosaic Cert.Spec Cert.Scalars

/-- The factor of the queries is a non-negative real. -/
theorem qScale_real : ∃ r : ℝ, 0 ≤ r ∧ LaySpec.qScale = (r : EReal) :=
  ⟨12102203 / 67108864, by norm_num, by
    unfold LaySpec.qScale
    simp [Ideal.ofBits, Ideal.ieee, -EReal.coe_mul]; norm_num⟩

/-- The factor of the indexer's queries is a non-negative real. -/
theorem iScale_real : ∃ r : ℝ, 0 ≤ r ∧ LaySpec.iScale = (r : EReal) :=
  ⟨1 / 8, by norm_num, eighth_f32⟩

/-- A non-negative real factor of a weight column moves out of the projection. -/
theorem kvOf_mul (f g w : Fin 1024 → EReal) (a : EReal) (ha : ∃ r : ℝ, 0 ≤ r ∧ a = (r : EReal)) :
    kvOf f g (fun k => w k * a) = kvOf f g w * a := by
  obtain ⟨r, hr, rfl⟩ := ha
  unfold kvOf
  rw [mul_comm _ (r : EReal), coe_mul_sum _ _ hr]
  exact Finset.sum_congr rfl fun x _ => by rw [← mul_assoc, mul_comm]

/-- A column of zeros projects to zero. -/
theorem kvOf_zero (f g : Fin 1024 → EReal) : kvOf f g (fun _ => 0) = 0 := by
  unfold kvOf
  simp

variable (f g : Fin 1024 → EReal) (w : Fin 1024 → Fin 3784 → EReal)

/-- The first layout of the projected row is the projection by the first layout of the weights. -/
theorem first_comm (n : Fin 1536) :
    LaySpec.first (fun j => kvOf f g (fun k => w k j)) n = kvOf f g (fun k => LaySpec.first (w k) n) := by
  unfold LaySpec.first
  split_ifs <;> first | rfl | exact (kvOf_mul f g _ _ qScale_real).symm | exact (kvOf_mul f g _ _ iScale_real).symm | exact (kvOf_zero f g).symm

/-- The second layout of the projected row is the projection by the second layout of the weights. -/
theorem second_comm (n : Fin 1536) :
    LaySpec.second (fun j => kvOf f g (fun k => w k j)) n = kvOf f g (fun k => LaySpec.second (w k) n) := by
  unfold LaySpec.second
  split_ifs <;> first | rfl | exact (kvOf_mul f g _ _ qScale_real).symm | exact (kvOf_mul f g _ _ iScale_real).symm | exact (kvOf_zero f g).symm

/-- The third layout of the projected row is the projection by the third layout of the weights. -/
theorem third_comm (n : Fin 832) :
    LaySpec.third (fun j => kvOf f g (fun k => w k j)) n = kvOf f g (fun k => LaySpec.third (w k) n) := by
  unfold LaySpec.third
  split_ifs <;> first | rfl | exact (kvOf_mul f g _ _ qScale_real).symm | exact (kvOf_mul f g _ _ iScale_real).symm | exact (kvOf_zero f g).symm

/-- The fourth layout of the projected row is the projection by the fourth layout of the weights. -/
theorem fourth_comm (n : Fin 16) :
    LaySpec.fourth (fun j => kvOf f g (fun k => w k j)) n = kvOf f g (fun k => LaySpec.fourth (w k) n) := by
  unfold LaySpec.fourth
  split_ifs <;> first | rfl | exact (kvOf_mul f g _ _ qScale_real).symm | exact (kvOf_mul f g _ _ iScale_real).symm | exact (kvOf_zero f g).symm

end Cert.Join

namespace Cert.Reference5Ideal.Join

open Idealize.ShloMosaic Idealize.ShloMosaic.TcCoe Idealize.SL.Sem
open Cert.Reference5Ideal Cert.Reference5Ideal.Gen Cert.Reference5Ideal.Value

variable {F : FTy → Type} [FloatOps F]

/-- The rows normalised and scaled. -/
def normed (x : FVec F S8x2048x1024 .f32) (g : FVec F S1x1024 .f32) : FVec F S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))

/-- The rows times the whole weight matrix. -/
def proj (x : FVec F S8x2048x1024 .f32) (g : FVec F S1x1024 .f32) (w : FVec F S1x1024x3784 .f32) : FVec F S8x2048x3784 .f32 :=
  Host.dotGeneral dot_S8x2048x1024_S1024x3784_S8x2048x3784_2_0_01_1_n_n none (normed x g) (shapeCast _ w shapeCasts_S1x1024x3784_S1024x3784)

/-- The columns of the windowed attention. -/
def qkv (p : FVec F S8x2048x3784 .f32) : FVec F S8x2048x1536 .f32 :=
  (concatenate S8x2048x1536 2 [⟨S8x2048x512, ((mulf (extractStridedSlice S8x2048x512 ![0, 0, 0] p slices_S8x2048x3784_S8x2048x512_0_0_0) (broadcastInDim S8x2048x512 ![] bcast_S_S8x2048x512 (constant S_ .f32 0x3E38AA3B#32))) : (⟨S8x2048x512, .f32⟩ : BufTy).Contents (Elt F))⟩, ⟨S8x2048x512, ((extractStridedSlice S8x2048x512 ![0, 0, 512] p slices_S8x2048x3784_S8x2048x512_0_0_512) : (⟨S8x2048x512, .f32⟩ : BufTy).Contents (Elt F))⟩, ⟨S8x2048x512, ((extractStridedSlice S8x2048x512 ![0, 0, 1024] p slices_S8x2048x3784_S8x2048x512_0_0_1024) : (⟨S8x2048x512, .f32⟩ : BufTy).Contents (Elt F))⟩] concatenates_S8x2048x512_S8x2048x512_S8x2048x512_S8x2048x1536_d2 : (⟨S8x2048x1536, .f32⟩ : BufTy).Contents (Elt F))

/-- The columns of the windowed attention, rows as they are. -/
def plain (p : FVec F S8x2048x3784 .f32) : FVec F S8x2048x1536 .bf16 :=
  truncf .bf16 (qkv p) bitsLt_bf16_f32

/-- Rows reordered by residues modulo 4. -/
def rows4 (P : FVec F S8x2048x1536 .f32) : FVec F S8x4x512x1536 .bf16 :=
  truncf .bf16 (transpose S8x4x512x1536 [0, 2, 1, 3] (shapeCast _ P shapeCasts_S8x2048x1536_S8x512x4x1536) transposes_S8x512x4x1536_S8x4x512x1536_0_2_1_3) bitsLt_bf16_f32

/-- The same with rows by residues modulo 4. -/
def byFour (p : FVec F S8x2048x3784 .f32) : FVec F S8x4x512x1536 .bf16 := rows4 (qkv p)

/-- Rows reordered by residues modulo 16. -/
def rows16 (P : FVec F S8x2048x1536 .f32) : FVec F S8x16x128x1536 .bf16 :=
  truncf .bf16 (transpose S8x16x128x1536 [0, 2, 1, 3] (shapeCast _ P shapeCasts_S8x2048x1536_S8x128x16x1536) transposes_S8x128x16x1536_S8x16x128x1536_0_2_1_3) bitsLt_bf16_f32

/-- The same with rows by residues modulo 16. -/
def bySixteen (p : FVec F S8x2048x3784 .f32) : FVec F S8x16x128x1536 .bf16 := rows16 (qkv p)

/-- The gate, the memory queries and the padded keys. -/
def second (p : FVec F S8x2048x3784 .f32) : FVec F S8x2048x1536 .bf16 :=
  truncf .bf16 ((concatenate S8x2048x1536 2 [⟨S8x2048x1024, ((extractStridedSlice S8x2048x1024 ![0, 0, 2176] p slices_S8x2048x3784_S8x2048x1024_0_0_2176) : (⟨S8x2048x1024, .f32⟩ : BufTy).Contents (Elt F))⟩, ⟨S8x2048x256, ((mulf (extractStridedSlice S8x2048x256 ![0, 0, 1920] p slices_S8x2048x3784_S8x2048x256_0_0_1920) (broadcastInDim S8x2048x256 ![] bcast_S_S8x2048x256 (constant S_ .f32 0x3E38AA3B#32))) : (⟨S8x2048x256, .f32⟩ : BufTy).Contents (Elt F))⟩, ⟨S8x2048x64, ((extractStridedSlice S8x2048x64 ![0, 0, 1792] p slices_S8x2048x3784_S8x2048x64_0_0_1792) : (⟨S8x2048x64, .f32⟩ : BufTy).Contents (Elt F))⟩, ⟨S8x2048x64, ((broadcastInDim S8x2048x64 ![] bcast_S_S8x2048x64 (constant S_ .f32 0x00000000#32)) : (⟨S8x2048x64, .f32⟩ : BufTy).Contents (Elt F))⟩, ⟨S8x2048x64, ((extractStridedSlice S8x2048x64 ![0, 0, 3712] p slices_S8x2048x3784_S8x2048x64_0_0_3712) : (⟨S8x2048x64, .f32⟩ : BufTy).Contents (Elt F))⟩, ⟨S8x2048x64, ((broadcastInDim S8x2048x64 ![] bcast_S_S8x2048x64 (constant S_ .f32 0x00000000#32)) : (⟨S8x2048x64, .f32⟩ : BufTy).Contents (Elt F))⟩] concatenates_S8x2048x1024_S8x2048x256_S8x2048x64_S8x2048x64_S8x2048x64_S8x2048x64_S8x2048x1536_d2 : (⟨S8x2048x1536, .f32⟩ : BufTy).Contents (Elt F))) bitsLt_bf16_f32

/-- The indexer's queries, the sparse attention's queries and its values, transposed. -/
def wide (p : FVec F S8x2048x3784 .f32) : FVec F S8x832x2048 .bf16 :=
  truncf .bf16 (transpose S8x832x2048 [0, 2, 1] ((concatenate S8x2048x832 2 [⟨S8x2048x512, ((mulf (extractStridedSlice S8x2048x512 ![0, 0, 3200] p slices_S8x2048x3784_S8x2048x512_0_0_3200) (broadcastInDim S8x2048x512 ![] bcast_S_S8x2048x512 (constant S_ .f32 0x3E000000#32))) : (⟨S8x2048x512, .f32⟩ : BufTy).Contents (Elt F))⟩, ⟨S8x2048x256, ((mulf (extractStridedSlice S8x2048x256 ![0, 0, 1536] p slices_S8x2048x3784_S8x2048x256_0_0_1536) (broadcastInDim S8x2048x256 ![] bcast_S_S8x2048x256 (constant S_ .f32 0x3E38AA3B#32))) : (⟨S8x2048x256, .f32⟩ : BufTy).Contents (Elt F))⟩, ⟨S8x2048x64, ((extractStridedSlice S8x2048x64 ![0, 0, 1856] p slices_S8x2048x3784_S8x2048x64_0_0_1856) : (⟨S8x2048x64, .f32⟩ : BufTy).Contents (Elt F))⟩] concatenates_S8x2048x512_S8x2048x256_S8x2048x64_S8x2048x832_d2 : (⟨S8x2048x832, .f32⟩ : BufTy).Contents (Elt F))) transposes_S8x2048x832_S8x832x2048_0_2_1) bitsLt_bf16_f32

/-- The indexer's weights, padded and transposed. -/
def narrow (p : FVec F S8x2048x3784 .f32) : FVec F S8x16x2048 .f32 :=
  transpose S8x16x2048 [0, 2, 1] (concatenate S8x2048x16 2 [⟨S8x2048x8, (extractStridedSlice S8x2048x8 ![0, 0, 3776] p slices_S8x2048x3784_S8x2048x8_0_0_3776)⟩, ⟨S8x2048x8, (broadcastInDim S8x2048x8 ![] bcast_S_S8x2048x8 (constant S_ .f32 0x00000000#32))⟩] concatenates_S8x2048x8_S8x2048x8_S8x2048x16_d2) transposes_S8x2048x16_S8x16x2048_0_2_1

variable (x : FVec Ideal S8x2048x1024 .f32) (g : FVec Ideal S1x1024 .f32) (w : FVec Ideal S1x1024x3784 .f32) (p : FVec Ideal S8x2048x3784 .f32)

/-- An entry of the projection by the whole weight matrix. -/
theorem proj_at (b : Fin 8) (r : Fin 2048) (n : Fin 3784) :
    proj x g w (ix3 b r n) = Spec.kvOf (fun k => x (ix3 b r k)) (fun k => g (ix2 0 k)) (fun k => w (ix3 0 k n)) := by
  unfold Spec.kvOf Spec.scaleOf
  pointwise [proj, normed]

/-- The rows of the projection by the whole weight matrix. -/
theorem proj_row (b : Fin 8) (r : Fin 2048) :
    (fun n : Fin 3784 => (proj x g w (ix3 b r n) : EReal)) = fun n => Spec.kvOf (fun k => x (ix3 b r k)) (fun k => g (ix2 0 k)) (fun k => w (ix3 0 k n)) :=
  funext fun n => proj_at x g w b r n

/-- An entry of the windowed attention's columns. -/
theorem qkv_at (b : Fin 8) (r : Fin 2048) (n : Fin 1536) : qkv p (ix3 b r n) = LaySpec.first (fun j => p (ix3 b r j)) n := by
  unfold LaySpec.first LaySpec.qScale
  pointwise [qkv]

/-- An entry of the first result. -/
theorem plain_at (b : Fin 8) (r : Fin 2048) (n : Fin 1536) : plain p (ix3 b r n) = LaySpec.first (fun j => p (ix3 b r j)) n :=
  qkv_at p b r n

/-- An entry of the rows by residues modulo 4. -/
theorem rows4_at (P : FVec Ideal S8x2048x1536 .f32) (b : Fin 8) (q : Fin 4) (r : Fin 512) (n : Fin 1536) :
    rows4 P (ix4 b q r n) = P (ix3 b ⟨r * 4 + q, by omega⟩ n) := by
  pointwise [rows4]

/-- An entry of the second result. -/
theorem byFour_at (b : Fin 8) (q : Fin 4) (r : Fin 512) (n : Fin 1536) :
    byFour p (ix4 b q r n) = LaySpec.first (fun j => p (ix3 b ⟨r * 4 + q, by omega⟩ j)) n :=
  (rows4_at (qkv p) b q r n).trans (qkv_at p b ⟨r * 4 + q, by omega⟩ n)

/-- An entry of the rows by residues modulo 16. -/
theorem rows16_at (P : FVec Ideal S8x2048x1536 .f32) (b : Fin 8) (q : Fin 16) (r : Fin 128) (n : Fin 1536) :
    rows16 P (ix4 b q r n) = P (ix3 b ⟨r * 16 + q, by omega⟩ n) := by
  pointwise [rows16]

/-- An entry of the third result. -/
theorem bySixteen_at (b : Fin 8) (q : Fin 16) (r : Fin 128) (n : Fin 1536) :
    bySixteen p (ix4 b q r n) = LaySpec.first (fun j => p (ix3 b ⟨r * 16 + q, by omega⟩ j)) n :=
  (rows16_at (qkv p) b q r n).trans (qkv_at p b ⟨r * 16 + q, by omega⟩ n)

/-- An entry of the fourth result. -/
theorem second_at (b : Fin 8) (r : Fin 2048) (n : Fin 1536) : second p (ix3 b r n) = LaySpec.second (fun j => p (ix3 b r j)) n := by
  unfold LaySpec.second LaySpec.qScale
  pointwise [second]

/-- An entry of the fifth result. -/
theorem wide_at (b : Fin 8) (n : Fin 832) (r : Fin 2048) : wide p (ix3 b n r) = LaySpec.third (fun j => p (ix3 b r j)) n := by
  unfold LaySpec.third LaySpec.qScale LaySpec.iScale
  pointwise [wide]

/-- An entry of the sixth result. -/
theorem narrow_at (b : Fin 8) (n : Fin 16) (r : Fin 2048) : narrow p (ix3 b n r) = LaySpec.fourth (fun j => p (ix3 b r j)) n := by
  unfold LaySpec.fourth
  pointwise [narrow]

end Cert.Reference5Ideal.Join
end
-- ==== Proof.JoinLayBlock.lean ====
module

public import proofs.«01_k».proof.Proof.Gen.Kernel5Ideal.Frame
public import proofs.«01_k».proof.Proof.LaySpec
public import Idealize.ShloMosaic.Lib.Pointwise
public import Idealize.ShloMosaic.Lib.Pipeline.ValueKit
public import Idealize.ShloMosaic.Lib.Pipeline.ReadBack

@[expose] public section

set_option maxRecDepth 16384

noncomputable section

/-!
# The blocks of laid-out weights that a grid step leaves
-/

namespace Cert.Kernel5Ideal.Lay

open Idealize.ShloMosaic Idealize.ShloMosaic.TcCoe Idealize.SL.Sem
open Cert.Kernel5Ideal Cert.Kernel5Ideal.Gen

variable (V : (c : Dev nD) → (b : Ref sig .tc) → Buf (Elt Ideal) ((c : Thread nD τ).loc b))

/-- A rank-2 index from its coordinates. -/
theorem eq_ix2 {a b : ℕ} (j : (⟨2, ![a, b]⟩ : Shape).Idx) (j0 : Fin a) (j1 : Fin b) (h0 : (j 0 : ℕ) = j0) (h1 : (j 1 : ℕ) = j1) : j = ix2 j0 j1 := by
  funext i
  match i with
  | 0 => exact Fin.ext h0
  | 1 => exact Fin.ext h1

/-- A load of rows of the weight block from row `o` on. -/
theorem ld_row (X : Vec Ideal S3784x128 .f32) (o s : ℕ) (inb : ∀ a, (![o, 0] : Fin 2 → ℕ) a + (![s, 128] : Fin 2 → ℕ) a ≤ S3784x128.size a) (j : Fin s) (i : Fin 128)
    (h : o + j.val < 3784) : View.ld X (Rect.unit (s := S3784x128) ![o, 0] ![s, 128] inb) (ix2 j i : (⟨2, ![s, 128]⟩ : Shape).Idx) = X (ix2 ⟨o + j.val, h⟩ i) :=
  congrArg X (eq_ix2 _ _ _ (by show o + 1 * j.val = o + j.val; omega) (by show 0 + 1 * i.val = i.val; omega))

/-- The first block from the weight block. -/
def first (X : Vec Ideal S3784x128 .f32) : S128x1536.Idx → EReal := fun z => LaySpec.first (fun k => X (ix2 k (z 0))) (z 1)
/-- The second block from the weight block. -/
def second (X : Vec Ideal S3784x128 .f32) : S128x1536.Idx → EReal := fun z => LaySpec.second (fun k => X (ix2 k (z 0))) (z 1)
/-- The third block from the weight block. -/
def third (X : Vec Ideal S3784x128 .f32) : S832x128.Idx → EReal := fun z => LaySpec.third (fun k => X (ix2 k (z 1))) (z 0)
/-- The fourth block from the weight block. -/
def fourth (X : Vec Ideal S3784x128 .f32) : S16x128.Idx → EReal := fun z => LaySpec.fourth (fun k => X (ix2 k (z 1))) (z 0)

/-- An entry of the piece stored over columns 0 on of the first block. -/
theorem first0_at (v : Vec Ideal S512x128 .f32) (i : Fin 128) (j : Fin 512) : k0_pay3 (F := Ideal) v (ix2 i j) = v (ix2 j i) * LaySpec.qScale := by
  unfold LaySpec.qScale
  pointwise [k0_pay3]

/-- The piece stored over columns 0 on holds the first block there. -/
theorem first0 (X : Vec Ideal S3784x128 .f32) (inb : ∀ a : Fin S128x1536.rank, (![0, 0] : Fin S128x1536.rank → ℕ) a + (![128, 512] : Fin S128x1536.rank → ℕ) a ≤ S128x1536.size a) (x : S128x512.Idx) :
    k0_pay3 (F := Ideal) (View.ld X (Rect.unit (s := S3784x128) ![0, 0] ![512, 128] inb_S3784x128_S512x128_0_0)) x = first X ((Rect.unit (s := S128x1536) ![0, 0] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 0] ![128, 512] inb).emb (ix2 i j) = (ix2 i ⟨0 + j.val, by omega⟩) := eq_ix2 _ _ _ (by show 0 + 1 * i.val = i.val; omega) (by show 0 + 1 * j.val = 0 + j.val; omega)
  rw [e]
  refine (first0_at _ _ _).trans ?_
  show _ = LaySpec.first (fun k => X (ix2 k i)) ⟨0 + j.val, _⟩
  rw [ld_row X 0 512 _ j i (by omega)]
  unfold LaySpec.first
  rw [dif_pos (by show _ < _; first | omega | (dsimp only; omega))]

/-- An entry of the piece stored over columns 512 on of the first block. -/
theorem first512_at (v : Vec Ideal S512x128 .f32) (i : Fin 128) (j : Fin 512) : k0_pay4 (F := Ideal) v (ix2 i j) = v (ix2 j i) := by
  pointwise [k0_pay4]

/-- The piece stored over columns 512 on holds the first block there. -/
theorem first512 (X : Vec Ideal S3784x128 .f32) (inb : ∀ a : Fin S128x1536.rank, (![0, 512] : Fin S128x1536.rank → ℕ) a + (![128, 512] : Fin S128x1536.rank → ℕ) a ≤ S128x1536.size a) (x : S128x512.Idx) :
    k0_pay4 (F := Ideal) (View.ld X (Rect.unit (s := S3784x128) ![512, 0] ![512, 128] inb_S3784x128_S512x128_512_0)) x = first X ((Rect.unit (s := S128x1536) ![0, 512] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 512] ![128, 512] inb).emb (ix2 i j) = (ix2 i ⟨512 + j.val, by omega⟩) := eq_ix2 _ _ _ (by show 0 + 1 * i.val = i.val; omega) (by show 512 + 1 * j.val = 512 + j.val; omega)
  rw [e]
  refine (first512_at _ _ _).trans ?_
  show _ = LaySpec.first (fun k => X (ix2 k i)) ⟨512 + j.val, _⟩
  rw [ld_row X 512 512 _ j i (by omega)]
  unfold LaySpec.first
  rw [dif_neg (by show ¬ _ < _; first | omega | (dsimp only; omega))]
  rw [dif_pos (by show _ < _; first | omega | (dsimp only; omega))]
  exact congrArg (fun r => X (ix2 r i)) (Fin.ext (by first | omega | (dsimp only; omega)))

/-- An entry of the piece stored over columns 1024 on of the first block. -/
theorem first1024_at (v : Vec Ideal S512x128 .f32) (i : Fin 128) (j : Fin 512) : k0_pay5 (F := Ideal) v (ix2 i j) = v (ix2 j i) := by
  pointwise [k0_pay5]

/-- The piece stored over columns 1024 on holds the first block there. -/
theorem first1024 (X : Vec Ideal S3784x128 .f32) (inb : ∀ a : Fin S128x1536.rank, (![0, 1024] : Fin S128x1536.rank → ℕ) a + (![128, 512] : Fin S128x1536.rank → ℕ) a ≤ S128x1536.size a) (x : S128x512.Idx) :
    k0_pay5 (F := Ideal) (View.ld X (Rect.unit (s := S3784x128) ![1024, 0] ![512, 128] inb_S3784x128_S512x128_1024_0)) x = first X ((Rect.unit (s := S128x1536) ![0, 1024] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 1024] ![128, 512] inb).emb (ix2 i j) = (ix2 i ⟨1024 + j.val, by omega⟩) := eq_ix2 _ _ _ (by show 0 + 1 * i.val = i.val; omega) (by show 1024 + 1 * j.val = 1024 + j.val; omega)
  rw [e]
  refine (first1024_at _ _ _).trans ?_
  show _ = LaySpec.first (fun k => X (ix2 k i)) ⟨1024 + j.val, _⟩
  rw [ld_row X 1024 512 _ j i (by omega)]
  unfold LaySpec.first
  rw [dif_neg (by show ¬ _ < _; first | omega | (dsimp only; omega))]
  rw [dif_neg (by show ¬ _ < _; first | omega | (dsimp only; omega))]
  exact congrArg (fun r => X (ix2 r i)) (Fin.ext (by first | omega | (dsimp only; omega)))

/-- An entry of the piece stored over columns 0 on of the second block. -/
theorem second0_at (v : Vec Ideal S512x128 .f32) (i : Fin 128) (j : Fin 512) : k0_pay6 (F := Ideal) v (ix2 i j) = v (ix2 j i) := by
  pointwise [k0_pay6]

/-- The piece stored over columns 0 on holds the second block there. -/
theorem second0 (X : Vec Ideal S3784x128 .f32) (inb : ∀ a : Fin S128x1536.rank, (![0, 0] : Fin S128x1536.rank → ℕ) a + (![128, 512] : Fin S128x1536.rank → ℕ) a ≤ S128x1536.size a) (x : S128x512.Idx) :
    k0_pay6 (F := Ideal) (View.ld X (Rect.unit (s := S3784x128) ![2176, 0] ![512, 128] inb_S3784x128_S512x128_2176_0)) x = second X ((Rect.unit (s := S128x1536) ![0, 0] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 0] ![128, 512] inb).emb (ix2 i j) = (ix2 i ⟨0 + j.val, by omega⟩) := eq_ix2 _ _ _ (by show 0 + 1 * i.val = i.val; omega) (by show 0 + 1 * j.val = 0 + j.val; omega)
  rw [e]
  refine (second0_at _ _ _).trans ?_
  show _ = LaySpec.second (fun k => X (ix2 k i)) ⟨0 + j.val, _⟩
  rw [ld_row X 2176 512 _ j i (by omega)]
  unfold LaySpec.second
  rw [dif_pos (by show _ < _; first | omega | (dsimp only; omega))]
  exact congrArg (fun r => X (ix2 r i)) (Fin.ext (by first | omega | (dsimp only; omega)))

/-- An entry of the piece stored over columns 512 on of the second block. -/
theorem second512_at (v : Vec Ideal S512x128 .f32) (i : Fin 128) (j : Fin 512) : k0_pay7 (F := Ideal) v (ix2 i j) = v (ix2 j i) := by
  pointwise [k0_pay7]

/-- The piece stored over columns 512 on holds the second block there. -/
theorem second512 (X : Vec Ideal S3784x128 .f32) (inb : ∀ a : Fin S128x1536.rank, (![0, 512] : Fin S128x1536.rank → ℕ) a + (![128, 512] : Fin S128x1536.rank → ℕ) a ≤ S128x1536.size a) (x : S128x512.Idx) :
    k0_pay7 (F := Ideal) (View.ld X (Rect.unit (s := S3784x128) ![2688, 0] ![512, 128] inb_S3784x128_S512x128_2688_0)) x = second X ((Rect.unit (s := S128x1536) ![0, 512] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 512] ![128, 512] inb).emb (ix2 i j) = (ix2 i ⟨512 + j.val, by omega⟩) := eq_ix2 _ _ _ (by show 0 + 1 * i.val = i.val; omega) (by show 512 + 1 * j.val = 512 + j.val; omega)
  rw [e]
  refine (second512_at _ _ _).trans ?_
  show _ = LaySpec.second (fun k => X (ix2 k i)) ⟨512 + j.val, _⟩
  rw [ld_row X 2688 512 _ j i (by omega)]
  unfold LaySpec.second
  rw [dif_pos (by show _ < _; first | omega | (dsimp only; omega))]
  exact congrArg (fun r => X (ix2 r i)) (Fin.ext (by first | omega | (dsimp only; omega)))

/-- An entry of the piece stored over columns 1024 on of the second block. -/
theorem second1024_at (v : Vec Ideal S256x128 .f32) (i : Fin 128) (j : Fin 256) : k0_pay10 (F := Ideal) (k0_pay8 v) k0_pay9 (ix2 i j) = v (ix2 j i) * LaySpec.qScale := by
  unfold LaySpec.qScale
  pointwise [k0_pay10, k0_pay8, k0_pay9]

/-- The piece stored over columns 1024 on holds the second block there. -/
theorem second1024 (X : Vec Ideal S3784x128 .f32) (inb : ∀ a : Fin S128x1536.rank, (![0, 1024] : Fin S128x1536.rank → ℕ) a + (![128, 256] : Fin S128x1536.rank → ℕ) a ≤ S128x1536.size a) (x : S128x256.Idx) :
    k0_pay10 (F := Ideal) (k0_pay8 (View.ld X (Rect.unit (s := S3784x128) ![1920, 0] ![256, 128] inb_S3784x128_S256x128_1920_0))) k0_pay9 x = second X ((Rect.unit (s := S128x1536) ![0, 1024] ![128, 256] inb).emb x) := by
  obtain ⟨i, j, rfl⟩ : ∃ (i : Fin 128) (j : Fin 256), x = (ix2 i j) := ⟨(x 0), (x 1), eq_ix2 _ _ _ rfl rfl⟩
  have hj : j.val < 256 := j.isLt
  have e : (Rect.unit (s := S128x1536) ![0, 1024] ![128, 256] inb).emb (ix2 i j) = (ix2 i ⟨1024 + j.val, by omega⟩) := eq_ix2 _ _ _ (by show 0 + 1 * i.val = i.val; omega) (by show 1024 + 1 * j.val = 1024 + j.val; omega)
  rw [e]
  refine (second1024_at _ _ _).trans ?_
  show _ = LaySpec.second (fun k => X (ix2 k i)) ⟨1024 + j.val, _⟩
  rw [ld_row X 1920 256 _ j i (by omega)]
  unfold LaySpec.second
  rw [dif_neg (by show ¬ _ < _; first | omega | (dsimp only; omega))]
  rw [dif_pos (by show _ < _; first | omega | (dsimp only; omega))]
  exact congrArg (fun r => X (ix2 r i) * LaySpec.qScale) (Fin.ext (by first | omega | (dsimp only; omega)))

/-- An entry of the piece stored over columns 1280 on of the second block. -/
theorem second1280_at (v : Vec Ideal S64x128 .f32) (i : Fin 128) (j : Fin 128) : k0_pay11 (F := Ideal) v (ix2 i j) = if h : j.val < 64 then v (ix2 ⟨j, h⟩ i) else 0 := by
  pointwise [k0_pay11]

/-- The piece stored over columns 1280 on holds the second block there. -/
theorem second1280 (X : Vec Ideal S3784x128 .f32) (inb : ∀ a : Fin S128x1536.rank, (![0, 1280] : Fin S128x1536.rank → ℕ) a + (![128, 128] : Fin S128x1536.rank → ℕ) a ≤ S128x1536.size a) (x : S128x128.Idx) :
    k0_pay11 (F := Ideal) (View.ld X (Rect.unit (s := S3784x128) ![1792, 0] ![64, 128] inb_S3784x128_S64x128_1792_0)) x = second X ((Rect.unit (s := S128x1536) ![0, 1280] ![128, 128] inb).emb x) := by
  obtain ⟨i, j, rfl⟩ : ∃ (i : Fin 128) (j : Fin 128), x = (ix2 i j) := ⟨(x 0), (x 1), eq_ix2 _ _ _ rfl rfl⟩
  have hj : j.val < 128 := j.isLt
  have e : (Rect.unit (s := S128x1536) ![0, 1280] ![128, 128] inb).emb (ix2 i j) = (ix2 i ⟨1280 + j.val, by omega⟩) := eq_ix2 _ _ _ (by show 0 + 1 * i.val = i.val; omega) (by show 1280 + 1 * j.val = 1280 + j.val; omega)
  rw [e]
  refine (second1280_at _ _ _).trans ?_
  show _ = LaySpec.second (fun k => X (ix2 k i)) ⟨1280 + j.val, _⟩
  unfold LaySpec.second
  by_cases h : j.val < 64
  · rw [dif_pos h, ld_row X 1792 64 _ ⟨j.val, h⟩ i (by show 1792 + j.val < 3784; omega)]
    rw [dif_neg (by show ¬ _ < _; first | omega | (dsimp only; omega))]
    rw [dif_neg (by show ¬ _ < _; first | omega | (dsimp only; omega))]
    rw [dif_pos (by show _ < _; first | omega | (dsimp only; omega))]
    exact congrArg (fun r => X (ix2 r i)) (Fin.ext (by first | omega | (dsimp only; omega)))
  · rw [dif_neg h]
    rw [dif_neg (by show ¬ _ < _; first | omega | (dsimp only; omega))]
    rw [dif_neg (by show ¬ _ < _; first | omega | (dsimp only; omega))]
    rw [dif_neg (by show ¬ _ < _; first | omega | (dsimp only; omega))]
    rw [dif_pos (by show _ < _; first | omega | (dsimp only; omega))]

/-- An entry of the piece stored over columns 1408 on of the second block. -/
theorem second1408_at (v : Vec Ideal S64x128 .f32) (i : Fin 128) (j : Fin 128) : k0_pay12 (F := Ideal) v (ix2 i j) = if h : j.val < 64 then v (ix2 ⟨j, h⟩ i) else 0 := by
  pointwise [k0_pay12]

/-- The piece stored over columns 1408 on holds the second block there. -/
theorem second1408 (X : Vec Ideal S3784x128 .f32) (inb : ∀ a : Fin S128x1536.rank, (![0, 1408] : Fin S128x1536.rank → ℕ) a + (![128, 128] : Fin S128x1536.rank → ℕ) a ≤ S128x1536.size a) (x : S128x128.Idx) :
    k0_pay12 (F := Ideal) (View.ld X (Rect.unit (s := S3784x128) ![3712, 0] ![64, 128] inb_S3784x128_S64x128_3712_0)) x = second X ((Rect.unit (s := S128x1536) ![0, 1408] ![128, 128] inb).emb x) := by
  obtain ⟨i, j, rfl⟩ : ∃ (i : Fin 128) (j : Fin 128), x = (ix2 i j) := ⟨(x 0), (x 1), eq_ix2 _ _ _ rfl rfl⟩
  have hj : j.val < 128 := j.isLt
  have e : (Rect.unit (s := S128x1536) ![0, 1408] ![128, 128] inb).emb (ix2 i j) = (ix2 i ⟨1408 + j.val, by omega⟩) := eq_ix2 _ _ _ (by show 0 + 1 * i.val = i.val; omega) (by show 1408 + 1 * j.val = 1408 + j.val; omega)
  rw [e]
  refine (second1408_at _ _ _).trans ?_
  show _ = LaySpec.second (fun k => X (ix2 k i)) ⟨1408 + j.val, _⟩
  unfold LaySpec.second
  by_cases h : j.val < 64
  · rw [dif_pos h, ld_row X 3712 64 _ ⟨j.val, h⟩ i (by show 3712 + j.val < 3784; omega)]
    rw [dif_neg (by show ¬ _ < _; first | omega | (dsimp only; omega))]
    rw [dif_neg (by show ¬ _ < _; first | omega | (dsimp only; omega))]
    rw [dif_neg (by show ¬ _ < _; first | omega | (dsimp only; omega))]
    rw [dif_neg (by show ¬ _ < _; first | omega | (dsimp only; omega))]
    rw [dif_pos (by show _ < _; first | omega | (dsimp only; omega))]
    exact congrArg (fun r => X (ix2 r i)) (Fin.ext (by first | omega | (dsimp only; omega)))
  · rw [dif_neg h]
    rw [dif_neg (by show ¬ _ < _; first | omega | (dsimp only; omega))]
    rw [dif_neg (by show ¬ _ < _; first | omega | (dsimp only; omega))]
    rw [dif_neg (by show ¬ _ < _; first | omega | (dsimp only; omega))]
    rw [dif_neg (by show ¬ _ < _; first | omega | (dsimp only; omega))]
    rw [dif_neg (by show ¬ _ < _; first | omega | (dsimp only; omega))]

/-- An entry of the piece stored over rows 0 on of the third block. -/
theorem third0_at (v : Vec Ideal S512x128 .f32) (i : Fin 128) (j : Fin 512) : k0_pay13 (F := Ideal) v (ix2 j i) = v (ix2 j i) * LaySpec.iScale := by
  unfold LaySpec.iScale
  pointwise [k0_pay13]

/-- The piece stored over rows 0 on holds the third block there. -/
theorem third0 (X : Vec Ideal S3784x128 .f32) (inb : ∀ a : Fin S832x128.rank, (![0, 0] : Fin S832x128.rank → ℕ) a + (![512, 128] : Fin S832x128.rank → ℕ) a ≤ S832x128.size a) (x : S512x128.Idx) :
    k0_pay13 (F := Ideal) (View.ld X (Rect.unit (s := S3784x128) ![3200, 0] ![512, 128] inb_S3784x128_S512x128_3200_0)) x = third X ((Rect.unit (s := S832x128) ![0, 0] ![512, 128] inb).emb x) := by
  obtain ⟨i, j, rfl⟩ : ∃ (i : Fin 128) (j : Fin 512), x = (ix2 j i) := ⟨(x 1), (x 0), eq_ix2 _ _ _ rfl rfl⟩
  have hj : j.val < 512 := j.isLt
  have e : (Rect.unit (s := S832x128) ![0, 0] ![512, 128] inb).emb (ix2 j i) = (ix2 ⟨0 + j.val, by omega⟩ i) := eq_ix2 _ _ _ (by show 0 + 1 * j.val = 0 + j.val; omega) (by show 0 + 1 * i.val = i.val; omega)
  rw [e]
  refine (third0_at _ _ _).trans ?_
  show _ = LaySpec.third (fun k => X (ix2 k i)) ⟨0 + j.val, _⟩
  rw [ld_row X 3200 512 _ j i (by omega)]
  unfold LaySpec.third
  rw [dif_pos (by show _ < _; first | omega | (dsimp only; omega))]
  exact congrArg (fun r => X (ix2 r i) * LaySpec.iScale) (Fin.ext (by first | omega | (dsimp only; omega)))

/-- An entry of the piece stored over rows 512 on of the third block. -/
theorem third512_at (v : Vec Ideal S256x128 .f32) (i : Fin 128) (j : Fin 256) : k0_pay14 (F := Ideal) v (ix2 j i) = v (ix2 j i) * LaySpec.qScale := by
  unfold LaySpec.qScale
  pointwise [k0_pay14]

/-- The piece stored over rows 512 on holds the third block there. -/
theorem third512 (X : Vec Ideal S3784x128 .f32) (inb : ∀ a : Fin S832x128.rank, (![512, 0] : Fin S832x128.rank → ℕ) a + (![256, 128] : Fin S832x128.rank → ℕ) a ≤ S832x128.size a) (x : S256x128.Idx) :
    k0_pay14 (F := Ideal) (View.ld X (Rect.unit (s := S3784x128) ![1536, 0] ![256, 128] inb_S3784x128_S256x128_1536_0)) x = third X ((Rect.unit (s := S832x128) ![512, 0] ![256, 128] inb).emb x) := by
  obtain ⟨i, j, rfl⟩ : ∃ (i : Fin 128) (j : Fin 256), x = (ix2 j i) := ⟨(x 1), (x 0), eq_ix2 _ _ _ rfl rfl⟩
  have hj : j.val < 256 := j.isLt
  have e : (Rect.unit (s := S832x128) ![512, 0] ![256, 128] inb).emb (ix2 j i) = (ix2 ⟨512 + j.val, by omega⟩ i) := eq_ix2 _ _ _ (by show 512 + 1 * j.val = 512 + j.val; omega) (by show 0 + 1 * i.val = i.val; omega)
  rw [e]
  refine (third512_at _ _ _).trans ?_
  show _ = LaySpec.third (fun k => X (ix2 k i)) ⟨512 + j.val, _⟩
  rw [ld_row X 1536 256 _ j i (by omega)]
  unfold LaySpec.third
  rw [dif_neg (by show ¬ _ < _; first | omega | (dsimp only; omega))]
  rw [dif_pos (by show _ < _; first | omega | (dsimp only; omega))]
  exact congrArg (fun r => X (ix2 r i) * LaySpec.qScale) (Fin.ext (by first | omega | (dsimp only; omega)))

/-- An entry of the piece stored over rows 768 on of the third block. -/
theorem third768_at (v : Vec Ideal S64x128 .f32) (i : Fin 128) (j : Fin 64) : k0_pay1 (F := Ideal) v (ix2 j i) = v (ix2 j i) := by
  pointwise [k0_pay1]

/-- The piece stored over rows 768 on holds the third block there. -/
theorem third768 (X : Vec Ideal S3784x128 .f32) (inb : ∀ a : Fin S832x128.rank, (![768, 0] : Fin S832x128.rank → ℕ) a + (![64, 128] : Fin S832x128.rank → ℕ) a ≤ S832x128.size a) (x : S64x128.Idx) :
    k0_pay1 (F := Ideal) (View.ld X (Rect.unit (s := S3784x128) ![1856, 0] ![64, 128] inb_S3784x128_S64x128_1856_0)) x = third X ((Rect.unit (s := S832x128) ![768, 0] ![64, 128] inb).emb x) := by
  obtain ⟨i, j, rfl⟩ : ∃ (i : Fin 128) (j : Fin 64), x = (ix2 j i) := ⟨(x 1), (x 0), eq_ix2 _ _ _ rfl rfl⟩
  have hj : j.val < 64 := j.isLt
  have e : (Rect.unit (s := S832x128) ![768, 0] ![64, 128] inb).emb (ix2 j i) = (ix2 ⟨768 + j.val, by omega⟩ i) := eq_ix2 _ _ _ (by show 768 + 1 * j.val = 768 + j.val; omega) (by show 0 + 1 * i.val = i.val; omega)
  rw [e]
  refine (third768_at _ _ _).trans ?_
  show _ = LaySpec.third (fun k => X (ix2 k i)) ⟨768 + j.val, _⟩
  rw [ld_row X 1856 64 _ j i (by omega)]
  unfold LaySpec.third
  rw [dif_neg (by show ¬ _ < _; first | omega | (dsimp only; omega))]
  rw [dif_neg (by show ¬ _ < _; first | omega | (dsimp only; omega))]
  exact congrArg (fun r => X (ix2 r i)) (Fin.ext (by first | omega | (dsimp only; omega)))

/-- An entry of the fourth block. -/
theorem fourth_at (v : Vec Ideal S8x128 .f32) (i : Fin 128) (j : Fin 16) : k0_pay2 (F := Ideal) v (ix2 j i) = if h : j.val < 8 then v (ix2 ⟨j, h⟩ i) else 0 := by
  pointwise [k0_pay2]

/-- What is stored over the fourth block. -/
theorem fourth_all (X : Vec Ideal S3784x128 .f32) (x : S16x128.Idx) :
    k0_pay2 (F := Ideal) (View.ld X (Rect.unit (s := S3784x128) ![3776, 0] ![8, 128] inb_S3784x128_S8x128_3776_0)) x = fourth X x := by
  obtain ⟨i, j, rfl⟩ : ∃ (i : Fin 128) (j : Fin 16), x = ix2 j i := ⟨x 1, x 0, eq_ix2 _ _ _ rfl rfl⟩
  refine (fourth_at _ _ _).trans ?_
  show _ = LaySpec.fourth (fun k => X (ix2 k i)) j
  unfold LaySpec.fourth
  by_cases h : j.val < 8
  · rw [dif_pos h, dif_pos h, ld_row X 3776 8 _ ⟨j.val, h⟩ i (by first | omega | (dsimp only; omega))]
  · rw [dif_neg h, dif_neg h]

set_option maxHeartbeats 2000000 in
/-- The first block that a grid step leaves. -/
theorem first_block (c : Dev nD) (t : Fin cfg0.N) (y : S128x1536.Idx) : (outsAt0 V c t).1 y = first (iblk0 V c 0 t) y := by
  unfold outsAt0; frame_open
  frame_out
  generalize iblk0 V c 0 t = X
  refine View.canon_apply_of_pieces (Val := Elt Ideal) (S := S128x1536) (e := .bf16) (first X) _ (View.PiecesOf.mem ?_) y ?_
  · repeat' (first
      | refine And.intro (fun x => first1024 X (by decide) x) ?_
      | refine And.intro (fun x => first512 X (by decide) x) ?_
      | refine And.intro (fun x => first0 X (by decide) x) ?_
      | exact trivial)
  · exact View.cover_of_tiledBy _ ![128, 128] (by sl_kernel_rfl) y

set_option maxHeartbeats 2000000 in
/-- The second block that a grid step leaves. -/
theorem second_block (c : Dev nD) (t : Fin cfg0.N) (y : S128x1536.Idx) : (outsAt0 V c t).2.1 y = second (iblk0 V c 0 t) y := by
  unfold outsAt0; frame_open
  frame_out
  generalize iblk0 V c 0 t = X
  refine View.canon_apply_of_pieces (Val := Elt Ideal) (S := S128x1536) (e := .bf16) (second X) _ (View.PiecesOf.mem ?_) y ?_
  · repeat' (first
      | refine And.intro (fun x => second1408 X (by decide) x) ?_
      | refine And.intro (fun x => second1280 X (by decide) x) ?_
      | refine And.intro (fun x => second1024 X (by decide) x) ?_
      | refine And.intro (fun x => second512 X (by decide) x) ?_
      | refine And.intro (fun x => second0 X (by decide) x) ?_
      | exact trivial)
  · exact View.cover_of_tiledBy _ ![128, 128] (by sl_kernel_rfl) y

set_option maxHeartbeats 2000000 in
/-- The third block that a grid step leaves. -/
theorem third_block (c : Dev nD) (t : Fin cfg0.N) (y : S832x128.Idx) : (outsAt0 V c t).2.2.1 y = third (iblk0 V c 0 t) y := by
  unfold outsAt0; frame_open
  frame_out
  generalize iblk0 V c 0 t = X
  refine View.canon_apply_of_pieces (Val := Elt Ideal) (S := S832x128) (e := .bf16) (third X) _ (View.PiecesOf.mem ?_) y ?_
  · repeat' (first
      | refine And.intro (fun x => third768 X (by decide) x) ?_
      | refine And.intro (fun x => third512 X (by decide) x) ?_
      | refine And.intro (fun x => third0 X (by decide) x) ?_
      | exact trivial)
  · exact View.cover_of_tiledBy _ ![64, 128] (by sl_kernel_rfl) y

/-- The fourth block that a grid step leaves. -/
theorem fourth_block (c : Dev nD) (t : Fin cfg0.N) (y : S16x128.Idx) : (outsAt0 V c t).2.2.2 y = fourth (iblk0 V c 0 t) y := by
  unfold outsAt0; frame_open
  frame_out
  generalize iblk0 V c 0 t = X
  exact fourth_all X y

end Cert.Kernel5Ideal.Lay
end
-- ==== Proof.LayRef.lean ====
module

public import proofs.«01_k».proof.Proof.Gen.Reference4Ideal.Run
public import Idealize.ShloMosaic.Lib.Pointwise
public import proofs.«01_k».proof.Proof.LaySpec

@[expose] public section

set_option maxRecDepth 16384

noncomputable section

/-!
# The laid-out weights of the reference, entry by entry
-/

namespace Cert.Reference4Ideal.Lay

open Idealize.ShloMosaic Idealize.ShloMosaic.TcCoe Idealize.SL.Sem
open Cert.Reference4Ideal Cert.Reference4Ideal.Gen Cert.Reference4Ideal.Value

variable {F : FTy → Type} [FloatOps F]

/-- The columns of the windowed attention side by side. -/
def first (w : FVec F S1x1024x3784 .f32) : FVec F S1024x1536 .bf16 :=
  truncf .bf16 ((concatenate S1024x1536 1 [⟨S1024x512, ((mulf (extractStridedSlice S1024x512 ![0, 0] (shapeCast _ w shapeCasts_S1x1024x3784_S1024x3784) slices_S1024x3784_S1024x512_0_0) (broadcastInDim S1024x512 ![] bcast_S_S1024x512 (constant S_ .f32 0x3E38AA3B#32))) : (⟨S1024x512, .f32⟩ : BufTy).Contents (Elt F))⟩, ⟨S1024x512, ((extractStridedSlice S1024x512 ![0, 512] (shapeCast _ w shapeCasts_S1x1024x3784_S1024x3784) slices_S1024x3784_S1024x512_0_512) : (⟨S1024x512, .f32⟩ : BufTy).Contents (Elt F))⟩, ⟨S1024x512, ((extractStridedSlice S1024x512 ![0, 1024] (shapeCast _ w shapeCasts_S1x1024x3784_S1024x3784) slices_S1024x3784_S1024x512_0_1024) : (⟨S1024x512, .f32⟩ : BufTy).Contents (Elt F))⟩] concatenates_S1024x512_S1024x512_S1024x512_S1024x1536_d1 : (⟨S1024x1536, .f32⟩ : BufTy).Contents (Elt F))) bitsLt_bf16_f32

/-- The gate, the memory queries and the padded keys side by side. -/
def second (w : FVec F S1x1024x3784 .f32) : FVec F S1024x1536 .bf16 :=
  truncf .bf16 ((concatenate S1024x1536 1 [⟨S1024x1024, ((extractStridedSlice S1024x1024 ![0, 2176] (shapeCast _ w shapeCasts_S1x1024x3784_S1024x3784) slices_S1024x3784_S1024x1024_0_2176) : (⟨S1024x1024, .f32⟩ : BufTy).Contents (Elt F))⟩, ⟨S1024x256, ((mulf (extractStridedSlice S1024x256 ![0, 1920] (shapeCast _ w shapeCasts_S1x1024x3784_S1024x3784) slices_S1024x3784_S1024x256_0_1920) (broadcastInDim S1024x256 ![] bcast_S_S1024x256 (constant S_ .f32 0x3E38AA3B#32))) : (⟨S1024x256, .f32⟩ : BufTy).Contents (Elt F))⟩, ⟨S1024x64, ((extractStridedSlice S1024x64 ![0, 1792] (shapeCast _ w shapeCasts_S1x1024x3784_S1024x3784) slices_S1024x3784_S1024x64_0_1792) : (⟨S1024x64, .f32⟩ : BufTy).Contents (Elt F))⟩, ⟨S1024x64, ((broadcastInDim S1024x64 ![] bcast_S_S1024x64 (constant S_ .f32 0x00000000#32)) : (⟨S1024x64, .f32⟩ : BufTy).Contents (Elt F))⟩, ⟨S1024x64, ((extractStridedSlice S1024x64 ![0, 3712] (shapeCast _ w shapeCasts_S1x1024x3784_S1024x3784) slices_S1024x3784_S1024x64_0_3712) : (⟨S1024x64, .f32⟩ : BufTy).Contents (Elt F))⟩, ⟨S1024x64, ((broadcastInDim S1024x64 ![] bcast_S_S1024x64 (constant S_ .f32 0x00000000#32)) : (⟨S1024x64, .f32⟩ : BufTy).Contents (Elt F))⟩] concatenates_S1024x1024_S1024x256_S1024x64_S1024x64_S1024x64_S1024x64_S1024x1536_d1 : (⟨S1024x1536, .f32⟩ : BufTy).Contents (Elt F))) bitsLt_bf16_f32

/-- The indexer's queries, the sparse attention's queries and its values, transposed. -/
def third (w : FVec F S1x1024x3784 .f32) : FVec F S832x1024 .bf16 :=
  truncf .bf16 (transpose S832x1024 [1, 0] ((concatenate S1024x832 1 [⟨S1024x512, ((mulf (extractStridedSlice S1024x512 ![0, 3200] (shapeCast _ w shapeCasts_S1x1024x3784_S1024x3784) slices_S1024x3784_S1024x512_0_3200) (broadcastInDim S1024x512 ![] bcast_S_S1024x512 (constant S_ .f32 0x3E000000#32))) : (⟨S1024x512, .f32⟩ : BufTy).Contents (Elt F))⟩, ⟨S1024x256, ((mulf (extractStridedSlice S1024x256 ![0, 1536] (shapeCast _ w shapeCasts_S1x1024x3784_S1024x3784) slices_S1024x3784_S1024x256_0_1536) (broadcastInDim S1024x256 ![] bcast_S_S1024x256 (constant S_ .f32 0x3E38AA3B#32))) : (⟨S1024x256, .f32⟩ : BufTy).Contents (Elt F))⟩, ⟨S1024x64, ((extractStridedSlice S1024x64 ![0, 1856] (shapeCast _ w shapeCasts_S1x1024x3784_S1024x3784) slices_S1024x3784_S1024x64_0_1856) : (⟨S1024x64, .f32⟩ : BufTy).Contents (Elt F))⟩] concatenates_S1024x512_S1024x256_S1024x64_S1024x832_d1 : (⟨S1024x832, .f32⟩ : BufTy).Contents (Elt F))) transposes_S1024x832_S832x1024_1_0) bitsLt_bf16_f32

/-- The indexer's weights padded and transposed. -/
def fourth (w : FVec F S1x1024x3784 .f32) : FVec F S16x1024 .bf16 :=
  truncf .bf16 (transpose S16x1024 [1, 0] (concatenate S1024x16 1 [⟨S1024x8, (extractStridedSlice S1024x8 ![0, 3776] (shapeCast _ w shapeCasts_S1x1024x3784_S1024x3784) slices_S1024x3784_S1024x8_0_3776)⟩, ⟨S1024x8, (broadcastInDim S1024x8 ![] bcast_S_S1024x8 (constant S_ .f32 0x00000000#32))⟩] concatenates_S1024x8_S1024x8_S1024x16_d1) transposes_S1024x16_S16x1024_1_0) bitsLt_bf16_f32

/-- An entry of the first layout. -/
theorem first_at (w : FVec Ideal S1x1024x3784 .f32) (k : Fin 1024) (n : Fin 1536) :
    first w (ix2 k n) = LaySpec.first (fun r => w (ix3 0 k r)) n := by
  unfold LaySpec.first LaySpec.qScale
  pointwise [first]

/-- An entry of the second layout. -/
theorem second_at (w : FVec Ideal S1x1024x3784 .f32) (k : Fin 1024) (n : Fin 1536) :
    second w (ix2 k n) = LaySpec.second (fun r => w (ix3 0 k r)) n := by
  unfold LaySpec.second LaySpec.qScale
  pointwise [second]

/-- An entry of the third layout. -/
theorem third_at (w : FVec Ideal S1x1024x3784 .f32) (k : Fin 1024) (n : Fin 832) :
    third w (ix2 n k) = LaySpec.third (fun r => w (ix3 0 k r)) n := by
  unfold LaySpec.third LaySpec.qScale LaySpec.iScale
  pointwise [third]

/-- An entry of the fourth layout. -/
theorem fourth_at (w : FVec Ideal S1x1024x3784 .f32) (k : Fin 1024) (n : Fin 16) :
    fourth w (ix2 n k) = LaySpec.fourth (fun r => w (ix3 0 k r)) n := by
  unfold LaySpec.fourth
  pointwise [fourth]

end Cert.Reference4Ideal.Lay
end
-- ==== Proof.JoinLayFinal.lean ====
module

public import proofs.«01_k».proof.Defs
public import proofs.«01_k».proof.Proof.JoinLayBlock
public import proofs.«01_k».proof.Proof.LayRef

@[expose] public section

set_option maxRecDepth 16384

noncomputable section

/-!
# The weight layouts that the first of the joined calls leaves are the reference's
-/

namespace Cert.Kernel5Ideal.Lay

open Idealize.ShloMosaic Idealize.ShloMosaic.TcCoe Idealize.SL.Sem
open Cert.Kernel5Ideal Cert.Kernel5Ideal.Gen

variable (V : (c : Dev nD) → (b : Ref sig .tc) → Buf (Elt Ideal) ((c : Thread nD τ).loc b))

/-- The block of every window at a grid point. -/
theorem idx : ∀ t : Fin cfg0.N, win0_0.index t = ![0, (grid0.coords t 0).val] ∧ win0_1.index t = ![(grid0.coords t 0).val, 0]
    ∧ win0_2.index t = ![(grid0.coords t 0).val, 0] ∧ win0_3.index t = ![0, (grid0.coords t 0).val] ∧ win0_4.index t = ![0, (grid0.coords t 0).val] :=
  (by decide +kernel : ∀ t : Fin grid0.N, _)

/-- The rows of the weight matrix as a grid point reads them. -/
theorem w_rows (w : Vec Ideal S1x1024x3784 .f32) (c : Dev nD) (hw : ∀ (k : Fin 3784) (d : Fin 1024), (V c main_v1 (ix2 k d) : EReal) = w (ix3 0 d k)) (t : Fin cfg0.N) (i : Fin 128) (d : Fin 1024)
    (hd : (d : ℕ) = (grid0.coords t 0).val * 128 + i) : (fun k : Fin 3784 => (iblk0 V c 0 t (ix2 k i) : EReal)) = fun k => w (ix3 0 d k) :=
  funext fun k => by
    have e : ((cfg0.win 0).blk t).view.emb (ix2 k i) = (ix2 k d : S3784x1024.Idx) := by blk_ext [idx t]
    exact (congrArg (V c main_v1) e).trans (hw k d)

/-- The first layout at a grid point is the reference's. -/
theorem first_point (w : Vec Ideal S1x1024x3784 .f32) (c : Dev nD) (hw : ∀ (k : Fin 3784) (d : Fin 1024), (V c main_v1 (ix2 k d) : EReal) = w (ix3 0 d k)) (t : Fin cfg0.N) (y : S128x1536.Idx) :
    first (iblk0 V c 0 t) y = Cert.Reference4Ideal.Lay.first (F := Ideal) (w) (((cfg0.win 1).blk t).view.emb y) := by
  generalize hj : ((cfg0.win 1).blk t).view.emb y = j
  have hj0 : (j 0 : ℕ) = (grid0.coords t 0).val * 128 + y 0 := by rw [← hj]; blk_simp [idx t]
  have hj1 : (j 1 : ℕ) = y 1 := by rw [← hj]; blk_simp [idx t]
  clear hj
  rw [eq_ix2 j (j 0) (y 1) rfl hj1]
  refine Eq.trans ?_ (Cert.Reference4Ideal.Lay.first_at _ _ _).symm
  exact congrArg (fun f => LaySpec.first f (y 1)) (w_rows V w c hw t (y 0) (j 0) hj0)

/-- The first layout that the kernel leaves is the reference's. -/
theorem final_first (w : Vec Ideal S1x1024x3784 .f32) (c : Dev nD) (hw : ∀ (k : Fin 3784) (d : Fin 1024), (V c main_v1 (ix2 k d) : EReal) = w (ix3 0 d k)) : (dat0 V c).arrAt 1 cfg0.N = Cert.Reference4Ideal.Lay.first (F := Ideal) (w) := by
  refine (dat0 V c).arrAt_eq_of_covers 1 _ (by decide +kernel) fun t hf y => ?_
  blk_simp
  rw [after0_1, first_block]
  exact first_point V w c hw t y

/-- The second layout at a grid point is the reference's. -/
theorem second_point (w : Vec Ideal S1x1024x3784 .f32) (c : Dev nD) (hw : ∀ (k : Fin 3784) (d : Fin 1024), (V c main_v1 (ix2 k d) : EReal) = w (ix3 0 d k)) (t : Fin cfg0.N) (y : S128x1536.Idx) :
    second (iblk0 V c 0 t) y = Cert.Reference4Ideal.Lay.second (F := Ideal) (w) (((cfg0.win 2).blk t).view.emb y) := by
  generalize hj : ((cfg0.win 2).blk t).view.emb y = j
  have hj0 : (j 0 : ℕ) = (grid0.coords t 0).val * 128 + y 0 := by rw [← hj]; blk_simp [idx t]
  have hj1 : (j 1 : ℕ) = y 1 := by rw [← hj]; blk_simp [idx t]
  clear hj
  rw [eq_ix2 j (j 0) (y 1) rfl hj1]
  refine Eq.trans ?_ (Cert.Reference4Ideal.Lay.second_at _ _ _).symm
  exact congrArg (fun f => LaySpec.second f (y 1)) (w_rows V w c hw t (y 0) (j 0) hj0)

/-- The second layout that the kernel leaves is the reference's. -/
theorem final_second (w : Vec Ideal S1x1024x3784 .f32) (c : Dev nD) (hw : ∀ (k : Fin 3784) (d : Fin 1024), (V c main_v1 (ix2 k d) : EReal) = w (ix3 0 d k)) : (dat0 V c).arrAt 2 cfg0.N = Cert.Reference4Ideal.Lay.second (F := Ideal) (w) := by
  refine (dat0 V c).arrAt_eq_of_covers 2 _ (by decide +kernel) fun t hf y => ?_
  blk_simp
  rw [after0_2, second_block]
  exact second_point V w c hw t y

/-- The third layout at a grid point is the reference's. -/
theorem third_point (w : Vec Ideal S1x1024x3784 .f32) (c : Dev nD) (hw : ∀ (k : Fin 3784) (d : Fin 1024), (V c main_v1 (ix2 k d) : EReal) = w (ix3 0 d k)) (t : Fin cfg0.N) (y : S832x128.Idx) :
    third (iblk0 V c 0 t) y = Cert.Reference4Ideal.Lay.third (F := Ideal) (w) (((cfg0.win 3).blk t).view.emb y) := by
  generalize hj : ((cfg0.win 3).blk t).view.emb y = j
  have hj1 : (j 1 : ℕ) = (grid0.coords t 0).val * 128 + y 1 := by rw [← hj]; blk_simp [idx t]
  have hj0 : (j 0 : ℕ) = y 0 := by rw [← hj]; blk_simp [idx t]
  clear hj
  rw [eq_ix2 j (y 0) (j 1) hj0 rfl]
  refine Eq.trans ?_ (Cert.Reference4Ideal.Lay.third_at _ _ _).symm
  exact congrArg (fun f => LaySpec.third f (y 0)) (w_rows V w c hw t (y 1) (j 1) hj1)

/-- The third layout that the kernel leaves is the reference's. -/
theorem final_third (w : Vec Ideal S1x1024x3784 .f32) (c : Dev nD) (hw : ∀ (k : Fin 3784) (d : Fin 1024), (V c main_v1 (ix2 k d) : EReal) = w (ix3 0 d k)) : (dat0 V c).arrAt 3 cfg0.N = Cert.Reference4Ideal.Lay.third (F := Ideal) (w) := by
  refine (dat0 V c).arrAt_eq_of_covers 3 _ (by decide +kernel) fun t hf y => ?_
  blk_simp
  rw [after0_3, third_block]
  exact third_point V w c hw t y

/-- The fourth layout at a grid point is the reference's. -/
theorem fourth_point (w : Vec Ideal S1x1024x3784 .f32) (c : Dev nD) (hw : ∀ (k : Fin 3784) (d : Fin 1024), (V c main_v1 (ix2 k d) : EReal) = w (ix3 0 d k)) (t : Fin cfg0.N) (y : S16x128.Idx) :
    fourth (iblk0 V c 0 t) y = Cert.Reference4Ideal.Lay.fourth (F := Ideal) (w) (((cfg0.win 4).blk t).view.emb y) := by
  generalize hj : ((cfg0.win 4).blk t).view.emb y = j
  have hj1 : (j 1 : ℕ) = (grid0.coords t 0).val * 128 + y 1 := by rw [← hj]; blk_simp [idx t]
  have hj0 : (j 0 : ℕ) = y 0 := by rw [← hj]; blk_simp [idx t]
  clear hj
  rw [eq_ix2 j (y 0) (j 1) hj0 rfl]
  refine Eq.trans ?_ (Cert.Reference4Ideal.Lay.fourth_at _ _ _).symm
  exact congrArg (fun f => LaySpec.fourth f (y 0)) (w_rows V w c hw t (y 1) (j 1) hj1)

/-- The fourth layout that the kernel leaves is the reference's. -/
theorem final_fourth (w : Vec Ideal S1x1024x3784 .f32) (c : Dev nD) (hw : ∀ (k : Fin 3784) (d : Fin 1024), (V c main_v1 (ix2 k d) : EReal) = w (ix3 0 d k)) : (dat0 V c).arrAt 4 cfg0.N = Cert.Reference4Ideal.Lay.fourth (F := Ideal) (w) := by
  refine (dat0 V c).arrAt_eq_of_covers 4 _ (by decide +kernel) fun t hf y => ?_
  blk_simp
  rw [after0_4, fourth_block]
  exact fourth_point V w c hw t y

end Cert.Kernel5Ideal.Lay

end
-- ==== Proof.JoinRun.lean ====
module

public import proofs.«01_k».proof.Proof.Gen.Kernel5Ideal.Frame
public import proofs.«01_k».proof.Proof.JoinLayFinal

@[expose] public section

set_option maxRecDepth 16384

noncomputable section

/-!
# What the two joined calls leave
-/

namespace Cert.Kernel5Ideal.Join

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two calls: each result array as the second call's blocks leave it, the arguments as they were. -/
theorem run_values : θ_run defs (onTc (τ := τ) (main (F := F))) ⟨m, fun _ => 0, ρ⟩ fun r => ∀ c : Dev nD,
      r.2.mem ((c.tc : Thread nD τ).loc main_v3_0) = (dat1 (V2 m ρ) c).arrAt 6 cfg1.N
      ∧ r.2.mem ((c.tc : Thread nD τ).loc main_v3_1) = (dat1 (V2 m ρ) c).arrAt 7 cfg1.N
      ∧ r.2.mem ((c.tc : Thread nD τ).loc main_v3_2) = (dat1 (V2 m ρ) c).arrAt 8 cfg1.N
      ∧ r.2.mem ((c.tc : Thread nD τ).loc main_v3_3) = (dat1 (V2 m ρ) c).arrAt 9 cfg1.N
      ∧ r.2.mem ((c.tc : Thread nD τ).loc main_v3_4) = (dat1 (V2 m ρ) c).arrAt 10 cfg1.N
      ∧ r.2.mem ((c.tc : Thread nD τ).loc main_v3_5) = (dat1 (V2 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v3_0 (by decide))).trans (hF1 m ρ c 6).symm,
       (h c _ (mem_uc main_v3_1 (by decide))).trans (hF1 m ρ c 7).symm,
       (h c _ (mem_uc main_v3_2 (by decide))).trans (hF1 m ρ c 8).symm,
       (h c _ (mem_uc main_v3_3 (by decide))).trans (hF1 m ρ c 9).symm,
       (h c _ (mem_uc main_v3_4 (by decide))).trans (hF1 m ρ c 10).symm,
       (h c _ (mem_uc main_v3_5 (by decide))).trans (hF1 m ρ c 11).symm,
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Run

variable (m : (ℓ : Loc nD τ sig) → Buf (Elt Ideal) ℓ) (ρ : Dev nD → PrngReg)

/-- The weight matrix transposed, as the first call reads it. -/
theorem w_read (c : Dev nD) (k : Fin 3784) (d : Fin 1024) : (V1 m ρ c main_v1 (ix2 k d) : EReal) = m ((c : Thread nD τ).loc main_arg2) (ix3 0 d k) := by
  show StableHlo.after hostOps0 (W0 m ρ c) (Proc.devRef .tc main_v1) (ix2 k d) = _
  after_results_simp
  pointwise []

/-- The rows that the second call reads are the program's. -/
theorem x_read (c : Dev nD) : V2 m ρ c main_arg0 = m ((c : Thread nD τ).loc main_arg0) := W2_args m ρ c main_arg0 (by decide)

/-- The scale that the second call reads is the program's. -/
theorem g_read (c : Dev nD) : V2 m ρ c main_arg1 = m ((c : Thread nD τ).loc main_arg1) := W2_args m ρ c main_arg1 (by decide)

/-- The first weight layout that the second call reads. -/
theorem first_read (c : Dev nD) : V2 m ρ c main_v2_0 = Cert.Reference4Ideal.Lay.first (F := Ideal) (m ((c : Thread nD τ).loc main_arg2)) :=
  (hF0 m ρ c 1).symm.trans (Cert.Kernel5Ideal.Lay.final_first (V1 m ρ) (m ((c : Thread nD τ).loc main_arg2)) c (w_read m ρ c))

/-- The second weight layout that the second call reads. -/
theorem second_read (c : Dev nD) : V2 m ρ c main_v2_1 = Cert.Reference4Ideal.Lay.second (F := Ideal) (m ((c : Thread nD τ).loc main_arg2)) :=
  (hF0 m ρ c 2).symm.trans (Cert.Kernel5Ideal.Lay.final_second (V1 m ρ) (m ((c : Thread nD τ).loc main_arg2)) c (w_read m ρ c))

/-- The third weight layout that the second call reads. -/
theorem third_read (c : Dev nD) : V2 m ρ c main_v2_2 = Cert.Reference4Ideal.Lay.third (F := Ideal) (m ((c : Thread nD τ).loc main_arg2)) :=
  (hF0 m ρ c 3).symm.trans (Cert.Kernel5Ideal.Lay.final_third (V1 m ρ) (m ((c : Thread nD τ).loc main_arg2)) c (w_read m ρ c))

/-- The fourth weight layout that the second call reads. -/
theorem fourth_read (c : Dev nD) : V2 m ρ c main_v2_3 = Cert.Reference4Ideal.Lay.fourth (F := Ideal) (m ((c : Thread nD τ).loc main_arg2)) :=
  (hF0 m ρ c 4).symm.trans (Cert.Kernel5Ideal.Lay.final_fourth (V1 m ρ) (m ((c : Thread nD τ).loc main_arg2)) c (w_read m ρ c))

end Cert.Kernel5Ideal.Join
end
-- ==== Proof.JoinProjBlock.lean ====
module

public import proofs.«01_k».proof.Proof.Gen.Kernel5Ideal.Frame
public import proofs.«01_k».proof.Proof.Spec
public import Idealize.ShloMosaic.Lib.Pipeline.ValueKit
public import Idealize.ShloMosaic.Lib.Pipeline.ReadBack

@[expose] public section

set_option maxRecDepth 16384

noncomputable section

/-!
# The strided re-arrangements of the projection kernel

The product of a grid step is kept in a scratch array by groups of 128 lanes and read back by strided rows.
-/

namespace Cert.Kernel5Ideal.Proj

open Idealize.ShloMosaic Idealize.ShloMosaic.TcCoe Idealize.SL.Sem
open Cert.Kernel5Ideal Cert.Kernel5Ideal.Gen

/-- A load lying inside the last piece written reads that piece. -/
theorem read_inside {Val : EltTy → Type} [∀ e, Nonempty (Val e)] {sig : RefSig} {κ : Kind} {sp : Space} {s : Shape} {e : EltTy} (v : View sig κ sp s e)
    (off size : Fin s.rank → ℕ) (inb) (w : (Rect.unit off size inb).shape.Idx → Val e) (L : List (View.Piece Val s e)) (B : LoadRect s)
    (i : B.shape.Idx → (Rect.unit off size inb).shape.Idx) (h : ∀ j a, B.off a + B.stride a * (j a : ℕ) = off a + (i j a : ℕ)) :
    v.readCov (⟨Rect.unit off size inb, w⟩ :: L) B = fun j => w (i j) := by
  rw [View.readCov_eq_canon']
  funext j
  have e : B.idx j = (Rect.unit off size inb).emb (i j) := funext fun a => Fin.ext (by
    rw [Rect.emb_apply]; show B.off a + B.stride a * (j a : ℕ) = off a + 1 * (i j a : ℕ); rw [h]; omega)
  rw [e, View.canon_cons_emb]

/-- Every fourth row of a 512-row slab from row `r` on. -/
def rows4 (w : Vec Ideal S1x512x128 .f32) (r : ℕ) : Vec Ideal S1x128x128 .f32 :=
  fun j => w (ix3 0 ⟨(r + 4 * (j 1).val) % 512, Nat.mod_lt _ (by decide)⟩ (j 2))

/-- Every fourth row of a 128-row quarter from row `r` on. -/
def rows16 (w : Vec Ideal S1x128x128 .f32) (r : ℕ) : Vec Ideal S1x32x128 .f32 :=
  fun j => w (ix3 0 ⟨(r + 4 * (j 1).val) % 128, Nat.mod_lt _ (by decide)⟩ (j 2))

/-- A strided load of the first scratch array reads every fourth row of the slab last stored. -/
theorem read_rows4 {sig : RefSig} {κ : Kind} {sp : Space} (v : View sig κ sp S12x512x128 .f32) (g r : ℕ)
    (inb : ∀ a, (![g, 0, 0] : Fin 3 → ℕ) a + S1x512x128.size a ≤ S12x512x128.size a) (w : Vec Ideal S1x512x128 .f32)
    (L : List (View.Piece (Elt Ideal) S12x512x128 .f32))
    (inb' : ∀ a, S1x128x128.size a = 0 ∨ (![g, r, 0] : Fin 3 → ℕ) a + (![1, 4, 1] : Fin 3 → ℕ) a * (S1x128x128.size a - 1) < S12x512x128.size a)
    (hr : r < 4) :
    v.readCov ((⟨Rect.unit ![g, 0, 0] S1x512x128.size inb, w⟩ : View.Piece (Elt Ideal) S12x512x128 .f32) :: L)
      (⟨![g, r, 0], S1x128x128.size, ![1, 4, 1], inb'⟩ : LoadRect S12x512x128) = rows4 w r :=
  read_inside v ![g, 0, 0] S1x512x128.size inb w L (⟨![g, r, 0], S1x128x128.size, ![1, 4, 1], inb'⟩ : LoadRect S12x512x128) (fun j => ix3 0 ⟨(r + 4 * (j 1).val) % 512, Nat.mod_lt _ (by decide)⟩ (j 2)) (fun j a => by
    have h0 : (j 0 : ℕ) < 1 := (j 0).isLt
    have h1 : (j 1 : ℕ) < 128 := (j 1).isLt
    fin_cases a
    · show g + 1 * (j 0 : ℕ) = g + 0; omega
    · show r + 4 * (j 1 : ℕ) = 0 + (r + 4 * (j 1 : ℕ)) % 512; omega
    · show 0 + 1 * (j 2 : ℕ) = 0 + (j 2 : ℕ); omega)

/-- A strided load of the second scratch array reads every fourth row of the quarter it lies in. -/
theorem read_rows16 {sig : RefSig} {κ : Kind} {sp : Space} (v : View sig κ sp S12x512x128 .f32) (g o p : ℕ)
    (inb : ∀ a, (![g, o, 0] : Fin 3 → ℕ) a + S1x128x128.size a ≤ S12x512x128.size a) (w : Vec Ideal S1x128x128 .f32)
    (L : List (View.Piece (Elt Ideal) S12x512x128 .f32))
    (inb' : ∀ a, S1x32x128.size a = 0 ∨ (![g, p, 0] : Fin 3 → ℕ) a + (![1, 4, 1] : Fin 3 → ℕ) a * (S1x32x128.size a - 1) < S12x512x128.size a)
    (hp : o ≤ p ∧ p < o + 4) :
    v.readCov ((⟨Rect.unit ![g, o, 0] S1x128x128.size inb, w⟩ : View.Piece (Elt Ideal) S12x512x128 .f32) :: L)
      (⟨![g, p, 0], S1x32x128.size, ![1, 4, 1], inb'⟩ : LoadRect S12x512x128) = rows16 w (p - o) :=
  read_inside v ![g, o, 0] S1x128x128.size inb w L (⟨![g, p, 0], S1x32x128.size, ![1, 4, 1], inb'⟩ : LoadRect S12x512x128) (fun j => ix3 0 ⟨(p - o + 4 * (j 1).val) % 128, Nat.mod_lt _ (by decide)⟩ (j 2)) (fun j a => by
    have h0 : (j 0 : ℕ) < 1 := (j 0).isLt
    have h1 : (j 1 : ℕ) < 32 := (j 1).isLt
    fin_cases a
    · show g + 1 * (j 0 : ℕ) = g + 0; omega
    · show p + 4 * (j 1 : ℕ) = o + (p - o + 4 * (j 1 : ℕ)) % 128; omega
    · show 0 + 1 * (j 2 : ℕ) = 0 + (j 2 : ℕ); omega)

/-- The lanes of a product from lane `l` on, as a slab. -/
def slab (X : Vec Ideal S512x1536 .f32) (l : ℕ) (h : S512x1536.Slices ![0, l] S512x128) : Vec Ideal S1x512x128 .f32 :=
  shapeCast S1x512x128 (extractStridedSlice S512x128 ![0, l] X h) shapeCasts_S512x128_S1x512x128

/-- Rows of a slab as they go to the second scratch array. -/
def quarter (w : Vec Ideal S1x128x128 .f32) : Vec Ideal S1x128x128 .f32 :=
  shapeCast S1x128x128 (shapeCast S128x128 w shapeCasts_S1x128x128_S128x128) shapeCasts_S128x128_S1x128x128

/-- Rows of a slab as they go to the result of stride 4. -/
def out4 (w : Vec Ideal S1x128x128 .f32) : Vec Ideal S1x1x128x128 .bf16 :=
  shapeCast S1x1x128x128 (truncf (F := Ideal) .bf16 (shapeCast S128x128 w shapeCasts_S1x128x128_S128x128) bitsLt_bf16_f32) shapeCasts_S128x128_S1x1x128x128

/-- Rows of a quarter as they go to the result of stride 16. -/
def out16 (w : Vec Ideal S1x32x128 .f32) : Vec Ideal S1x1x32x128 .bf16 :=
  shapeCast S1x1x32x128 (truncf (F := Ideal) .bf16 (shapeCast S32x128 w shapeCasts_S1x32x128_S32x128) bitsLt_bf16_f32) shapeCasts_S32x128_S1x1x32x128

/-- An entry of a slab. -/
theorem slab_apply (X : Vec Ideal S512x1536 .f32) (l : ℕ) (h : S512x1536.Slices ![0, l] S512x128) (hl : l + 128 ≤ 1536) (i : Fin 512) (j : Fin 128) :
    slab X l h (ix3 0 i j) = X (ix2 i ⟨l + j.val, by omega⟩) := by
  pointwise [slab]

/-- An entry of a stored quarter. -/
theorem quarter_apply (w : Vec Ideal S1x128x128 .f32) (i j : Fin 128) : quarter w (ix3 0 i j) = w (ix3 0 i j) := by
  pointwise [quarter]

/-- An entry of a block stored for stride 4. -/
theorem out4_apply (w : Vec Ideal S1x128x128 .f32) (x : S1x1x128x128.Idx) : out4 w x = w (ix3 0 (x 2) (x 3)) := by
  pointwise [out4]

/-- An entry of a block stored for stride 16. -/
theorem out16_apply (w : Vec Ideal S1x32x128 .f32) (x : S1x1x32x128.Idx) : out16 w x = w (ix3 0 (x 2) (x 3)) := by
  pointwise [out16]

/-- The rows of a product by residues modulo 4. -/
def by4 (X : Vec Ideal S512x1536 .f32) : S1x4x128x1536.Idx → EReal :=
  fun z => X (ix2 ⟨(z 1 : ℕ) + 4 * (z 2 : ℕ), by have h1 : (z 1 : ℕ) < 4 := (z 1).isLt; have h2 : (z 2 : ℕ) < 128 := (z 2).isLt; omega⟩ (z 3))

/-- The rows of a product by residues modulo 16. -/
def by16 (X : Vec Ideal S512x1536 .f32) : S1x16x32x1536.Idx → EReal :=
  fun z => X (ix2 ⟨(z 1 : ℕ) + 16 * (z 2 : ℕ), by have h1 : (z 1 : ℕ) < 16 := (z 1).isLt; have h2 : (z 2 : ℕ) < 32 := (z 2).isLt; omega⟩ (z 3))

/-- A block stored for stride 4 holds the product's rows there. -/
theorem piece4 (X : Vec Ideal S512x1536 .f32) (r l : ℕ) (h : S512x1536.Slices ![0, l] S512x128) (hr : r < 4) (hl : l + 128 ≤ 1536)
    (inb : ∀ a : Fin S1x4x128x1536.rank, (![0, r, 0, l] : Fin S1x4x128x1536.rank → ℕ) a + (![1, 1, 128, 128] : Fin S1x4x128x1536.rank → ℕ) a ≤ S1x4x128x1536.size a) (x : S1x1x128x128.Idx) :
    out4 (rows4 (slab X l h) r) x = by4 X ((Rect.unit (s := S1x4x128x1536) ![0, r, 0, l] ![1, 1, 128, 128] inb).emb x) := by
  have h1 : (x 1 : ℕ) < 1 := (x 1).isLt
  have h2 : (x 2 : ℕ) < 128 := (x 2).isLt
  refine (out4_apply _ x).trans ((slab_apply X l h hl _ _).trans (congrArg X (congrArg₂ ix2 (Fin.ext ?_) (Fin.ext ?_))))
  · show (r + 4 * (x 2 : ℕ)) % 512 = (r + 1 * (x 1 : ℕ)) + 4 * (0 + 1 * (x 2 : ℕ)); omega
  · show l + (x 3 : ℕ) = l + 1 * (x 3 : ℕ); omega

/-- A block stored for stride 16 holds the product's rows there. -/
theorem piece16 (X : Vec Ideal S512x1536 .f32) (r q p l : ℕ) (h : S512x1536.Slices ![0, l] S512x128) (hr : r = q + 4 * p) (hq : q < 4) (hp : p < 4) (hl : l + 128 ≤ 1536)
    (inb : ∀ a : Fin S1x16x32x1536.rank, (![0, r, 0, l] : Fin S1x16x32x1536.rank → ℕ) a + (![1, 1, 32, 128] : Fin S1x16x32x1536.rank → ℕ) a ≤ S1x16x32x1536.size a) (x : S1x1x32x128.Idx) :
    out16 (rows16 (quarter (rows4 (slab X l h) q)) p) x = by16 X ((Rect.unit (s := S1x16x32x1536) ![0, r, 0, l] ![1, 1, 32, 128] inb).emb x) := by
  have h1 : (x 1 : ℕ) < 1 := (x 1).isLt
  have h2 : (x 2 : ℕ) < 32 := (x 2).isLt
  refine (out16_apply _ x).trans ((quarter_apply _ _ _).trans ((slab_apply X l h hl _ _).trans (congrArg X (congrArg₂ ix2 (Fin.ext ?_) (Fin.ext ?_)))))
  · show (q + 4 * ((p + 4 * (x 2 : ℕ)) % 128)) % 512 = (r + 1 * (x 1 : ℕ)) + 16 * (0 + 1 * (x 2 : ℕ)); omega
  · show l + (x 3 : ℕ) = l + 1 * (x 3 : ℕ); omega

end Cert.Kernel5Ideal.Proj
end
-- ==== Proof.JoinProjRows.lean ====
module

public import proofs.«01_k».proof.Proof.JoinProjBlock

@[expose] public section

set_option maxRecDepth 16384

noncomputable section

/-!
# The products of a grid step of the projection kernel, entry by entry
-/

namespace Cert.Kernel5Ideal.Proj

open Idealize.ShloMosaic Idealize.ShloMosaic.TcCoe Idealize.SL.Sem
open Cert.Kernel5Ideal Cert.Kernel5Ideal.Gen

variable (X0 : Vec Ideal S1x512x1024 .f32) (X1 : Vec Ideal S1x1024 .f32)

/-- An entry of the first product. -/
theorem product_at (X2 : Vec Ideal S1024x1536 .bf16) (r : Fin 512) (n : Fin 1536) :
    k1_pay5 X0 X1 X2 (ix2 r n) = Spec.kvOf (fun k => X0 (ix3 0 r k)) (fun k => X1 (ix2 0 k)) (fun k => X2 (ix2 k n)) := by
  unfold Spec.kvOf Spec.scaleOf
  pointwise [k1_pay5, k1_pay4]

/-- An entry of the first result. -/
theorem plain_at (X2 : Vec Ideal S1024x1536 .bf16) (r : Fin 512) (n : Fin 1536) :
    k1_pay6 X0 X1 X2 (ix3 0 r n) = Spec.kvOf (fun k => X0 (ix3 0 r k)) (fun k => X1 (ix2 0 k)) (fun k => X2 (ix2 k n)) := by
  rw [← product_at]
  unfold k1_pay6
  generalize k1_pay5 X0 X1 X2 = P
  pointwise []

/-- An entry of the second product. -/
theorem second_at (X3 : Vec Ideal S1024x1536 .bf16) (r : Fin 512) (n : Fin 1536) :
    k1_pay1 (k1_pay387 (k1_pay4 X0 X1) X3) (ix3 0 r n) = Spec.kvOf (fun k => X0 (ix3 0 r k)) (fun k => X1 (ix2 0 k)) (fun k => X3 (ix2 k n)) := by
  unfold Spec.kvOf Spec.scaleOf
  pointwise [k1_pay1, k1_pay387, k1_pay4]

/-- An entry of the transposed product with 832 rows. -/
theorem wide_at (X4 : Vec Ideal S832x1024 .bf16) (n : Fin 832) (r : Fin 512) :
    k1_pay2 (k1_pay4 X0 X1) X4 (ix3 0 n r) = Spec.kvOf (fun k => X0 (ix3 0 r k)) (fun k => X1 (ix2 0 k)) (fun k => X4 (ix2 n k)) := by
  unfold Spec.kvOf Spec.scaleOf
  pointwise [k1_pay2, k1_pay4]
  exact Finset.sum_congr rfl fun k _ => mul_comm _ _

/-- An entry of the transposed product with 16 rows. -/
theorem narrow_at (X5 : Vec Ideal S16x1024 .bf16) (n : Fin 16) (r : Fin 512) :
    k1_pay3 (k1_pay4 X0 X1) X5 (ix3 0 n r) = Spec.kvOf (fun k => X0 (ix3 0 r k)) (fun k => X1 (ix2 0 k)) (fun k => X5 (ix2 n k)) := by
  unfold Spec.kvOf Spec.scaleOf
  pointwise [k1_pay3, k1_pay4]
  exact Finset.sum_congr rfl fun k _ => mul_comm _ _

variable (V : (c : Dev nD) → (b : Ref sig .tc) → Buf (Elt Ideal) ((c : Thread nD τ).loc b))

/-- The block of the first result a grid step leaves. -/
theorem block_plain (c : Dev nD) (t : Fin cfg1.N) (y : S1x512x1536.Idx) :
    (outsAt1 V c t).1 y = k1_pay6 (iblk1 V c 0 t) (iblk1 V c 1 t) (iblk1 V c 2 t) y := by
  unfold outsAt1; frame_open; frame_out

/-- The block of the second product a grid step leaves. -/
theorem block_second (c : Dev nD) (t : Fin cfg1.N) (y : S1x512x1536.Idx) :
    (outsAt1 V c t).2.2.2.1 y = k1_pay1 (k1_pay387 (k1_pay4 (iblk1 V c 0 t) (iblk1 V c 1 t)) (iblk1 V c 3 t)) y := by
  unfold outsAt1; frame_open; frame_out

/-- The block with 832 rows a grid step leaves. -/
theorem block_wide (c : Dev nD) (t : Fin cfg1.N) (y : S1x832x512.Idx) :
    (outsAt1 V c t).2.2.2.2.1 y = k1_pay2 (k1_pay4 (iblk1 V c 0 t) (iblk1 V c 1 t)) (iblk1 V c 4 t) y := by
  unfold outsAt1; frame_open; frame_out

/-- The block with 16 rows a grid step leaves. -/
theorem block_narrow (c : Dev nD) (t : Fin cfg1.N) (y : S1x16x512.Idx) :
    (outsAt1 V c t).2.2.2.2.2 y = k1_pay3 (k1_pay4 (iblk1 V c 0 t) (iblk1 V c 1 t)) (iblk1 V c 5 t) y := by
  unfold outsAt1; frame_open; frame_out

end Cert.Kernel5Ideal.Proj
end
-- ==== Proof.JoinProjWin4.lean ====
module

public import proofs.«01_k».proof.Proof.JoinProjBlock

@[expose] public section

set_option maxRecDepth 16384

noncomputable section

/-!
# The block of stride 4 a grid step leaves
-/

namespace Cert.Kernel5Ideal.Proj

open Idealize.ShloMosaic Idealize.ShloMosaic.TcCoe Idealize.SL.Sem
open Cert.Kernel5Ideal Cert.Kernel5Ideal.Gen

variable (V : (c : Dev nD) → (b : Ref sig .tc) → Buf (Elt Ideal) ((c : Thread nD τ).loc b))

set_option maxHeartbeats 2000000 in
/-- The block a grid step leaves holds the product's rows by residues modulo 4. -/
theorem block4 (c : Dev nD) (t : Fin cfg1.N) (y : S1x4x128x1536.Idx) :
    (outsAt1 V c t).2.1 y = by4 (k1_pay5 (iblk1 V c 0 t) (iblk1 V c 1 t) (iblk1 V c 2 t)) y := by
  unfold outsAt1; frame_open
  simp (disch := decide) only [↓ read_rows4]
  frame_out
  generalize iblk1 V c 0 t = X0, iblk1 V c 1 t = X1, iblk1 V c 2 t = X2
  refine View.canon_apply_of_pieces (Val := Elt Ideal) (S := S1x4x128x1536) (e := .bf16) (by4 (k1_pay5 X0 X1 X2)) _ (View.PiecesOf.mem ?_) y ?_
  · repeat' (first
      | refine And.intro (fun x => piece4 (k1_pay5 X0 X1 X2) _ _ (by decide) (by decide) (by decide) (by decide) x) ?_
      | exact trivial)
  · exact View.cover_of_tiled_head _ _ _ (by rfl) y

end Cert.Kernel5Ideal.Proj
end
-- ==== Proof.JoinProjWin16.lean ====
module

public import proofs.«01_k».proof.Proof.JoinProjBlock

@[expose] public section

set_option maxRecDepth 16384

noncomputable section

/-!
# The block of stride 16 a grid step leaves
-/

namespace Cert.Kernel5Ideal.Proj

open Idealize.ShloMosaic Idealize.ShloMosaic.TcCoe Idealize.SL.Sem
open Cert.Kernel5Ideal Cert.Kernel5Ideal.Gen

variable (V : (c : Dev nD) → (b : Ref sig .tc) → Buf (Elt Ideal) ((c : Thread nD τ).loc b))

set_option maxHeartbeats 2000000 in
/-- The block a grid step leaves holds the product's rows by residues modulo 16. -/
theorem block16 (c : Dev nD) (t : Fin cfg1.N) (y : S1x16x32x1536.Idx) :
    (outsAt1 V c t).2.2.1 y = by16 (k1_pay5 (iblk1 V c 0 t) (iblk1 V c 1 t) (iblk1 V c 2 t)) y := by
  unfold outsAt1; frame_open
  simp (disch := decide) only [↓ read_rows4, ↓ read_rows16, ↓ View.readCov_skip]
  frame_out
  generalize iblk1 V c 0 t = X0, iblk1 V c 1 t = X1, iblk1 V c 2 t = X2
  refine View.canon_apply_of_pieces (Val := Elt Ideal) (S := S1x16x32x1536) (e := .bf16) (by16 (k1_pay5 X0 X1 X2)) _ (View.PiecesOf.mem ?_) y ?_
  · repeat' (first
      | refine And.intro (fun x => piece16 (k1_pay5 X0 X1 X2) _ _ _ _ (by decide) (by decide) (by decide) (by decide) (by decide) (by decide) x) ?_
      | exact trivial)
  · exact View.cover_of_tiled_head _ _ _ (by rfl) y

end Cert.Kernel5Ideal.Proj
end
-- ==== Proof.ProjRef.lean ====
module

public import proofs.«01_k».proof.Proof.Gen.Reference2Ideal.Run
public import Idealize.ShloMosaic.Lib.Pointwise
public import proofs.«01_k».proof.Proof.Spec

@[expose] public section

set_option maxRecDepth 16384

noncomputable section

/-!
# The projections of the reference, entry by entry
-/

namespace Cert.Reference2Ideal.Proj

open Idealize.ShloMosaic Idealize.ShloMosaic.TcCoe Idealize.SL.Sem
open Cert.Reference2Ideal Cert.Reference2Ideal.Gen Cert.Reference2Ideal.Value

variable {F : FTy → Type} [FloatOps F]

/-- The rows normalised and scaled. -/
def normed (x : FVec F S8x2048x1024 .f32) (g : FVec F S1x1024 .f32) : FVec F S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))

/-- The rows times a matrix of 1536 columns. -/
def product (x : FVec F S8x2048x1024 .f32) (g : FVec F S1x1024 .f32) (w : FVec F S1024x1536 .bf16) : FVec F S8x2048x1536 .f32 :=
  Host.dotGeneral dot_S8x2048x1024_S1024x1536_S8x2048x1536_2_0_01_1_n_n none (normed x g) (extf .f32 w bitsLt_bf16_f32)

/-- The product as it is. -/
def plain (x : FVec F S8x2048x1024 .f32) (g : FVec F S1x1024 .f32) (w : FVec F S1024x1536 .bf16) : FVec F S8x2048x1536 .bf16 :=
  truncf .bf16 (product x g w) bitsLt_bf16_f32

/-- The product's rows by residues modulo 4. -/
def byFour (x : FVec F S8x2048x1024 .f32) (g : FVec F S1x1024 .f32) (w : FVec F S1024x1536 .bf16) : FVec F S8x4x512x1536 .bf16 :=
  truncf .bf16 (transpose S8x4x512x1536 [0, 2, 1, 3] (shapeCast _ (product x g w) shapeCasts_S8x2048x1536_S8x512x4x1536) transposes_S8x512x4x1536_S8x4x512x1536_0_2_1_3) bitsLt_bf16_f32

/-- The product's rows by residues modulo 16. -/
def bySixteen (x : FVec F S8x2048x1024 .f32) (g : FVec F S1x1024 .f32) (w : FVec F S1024x1536 .bf16) : FVec F S8x16x128x1536 .bf16 :=
  truncf .bf16 (transpose S8x16x128x1536 [0, 2, 1, 3] (shapeCast _ (product x g w) shapeCasts_S8x2048x1536_S8x128x16x1536) transposes_S8x128x16x1536_S8x16x128x1536_0_2_1_3) bitsLt_bf16_f32

/-- The transposed product with the 832 rows. -/
def wide (x : FVec F S8x2048x1024 .f32) (g : FVec F S1x1024 .f32) (w : FVec F S832x1024 .bf16) : FVec F S8x832x2048 .bf16 :=
  truncf .bf16 (transpose S8x832x2048 [0, 2, 1] (Host.dotGeneral dot_S8x2048x1024_S1024x832_S8x2048x832_2_0_01_1_n_n none (normed x g) (transpose S1024x832 [1, 0] (extf .f32 w bitsLt_bf16_f32) transposes_S832x1024_S1024x832_1_0)) transposes_S8x2048x832_S8x832x2048_0_2_1) bitsLt_bf16_f32

/-- The transposed product with the 16 rows. -/
def narrow (x : FVec F S8x2048x1024 .f32) (g : FVec F S1x1024 .f32) (w : FVec F S16x1024 .bf16) : FVec F S8x16x2048 .f32 :=
  transpose S8x16x2048 [0, 2, 1] (Host.dotGeneral dot_S8x2048x1024_S1024x16_S8x2048x16_2_0_01_1_n_n none (normed x g) (transpose S1024x16 [1, 0] (extf .f32 w bitsLt_bf16_f32) transposes_S16x1024_S1024x16_1_0)) transposes_S8x2048x16_S8x16x2048_0_2_1

variable (x : FVec Ideal S8x2048x1024 .f32) (g : FVec Ideal S1x1024 .f32)

/-- An entry of the reference's product. -/
theorem product_at (w : FVec Ideal S1024x1536 .bf16) (b : Fin 8) (r : Fin 2048) (n : Fin 1536) :
    product x g w (ix3 b r n) = Spec.kvOf (fun k => x (ix3 b r k)) (fun k => g (ix2 0 k)) (fun k => w (ix2 k n)) := by
  unfold Spec.kvOf Spec.scaleOf
  pointwise [product, normed]

/-- An entry of the reference's plain result. -/
theorem plain_at (w : FVec Ideal S1024x1536 .bf16) (b : Fin 8) (r : Fin 2048) (n : Fin 1536) :
    plain x g w (ix3 b r n) = Spec.kvOf (fun k => x (ix3 b r k)) (fun k => g (ix2 0 k)) (fun k => w (ix2 k n)) :=
  product_at x g w b r n

/-- An entry of the reference's result by residues modulo 4. -/
theorem byFour_at (w : FVec Ideal S1024x1536 .bf16) (b : Fin 8) (q : Fin 4) (r : Fin 512) (n : Fin 1536) :
    byFour x g w (ix4 b q r n) = Spec.kvOf (fun k => x (ix3 b ⟨r * 4 + q, by omega⟩ k)) (fun k => g (ix2 0 k)) (fun k => w (ix2 k n)) := by
  unfold byFour
  rw [← product_at]
  generalize product x g w = P
  pointwise []

/-- An entry of the reference's result by residues modulo 16. -/
theorem bySixteen_at (w : FVec Ideal S1024x1536 .bf16) (b : Fin 8) (q : Fin 16) (r : Fin 128) (n : Fin 1536) :
    bySixteen x g w (ix4 b q r n) = Spec.kvOf (fun k => x (ix3 b ⟨r * 16 + q, by omega⟩ k)) (fun k => g (ix2 0 k)) (fun k => w (ix2 k n)) := by
  unfold bySixteen
  rw [← product_at]
  generalize product x g w = P
  pointwise []

/-- An entry of the reference's transposed product with 832 rows. -/
theorem wide_at (w : FVec Ideal S832x1024 .bf16) (b : Fin 8) (n : Fin 832) (r : Fin 2048) :
    wide x g w (ix3 b n r) = Spec.kvOf (fun k => x (ix3 b r k)) (fun k => g (ix2 0 k)) (fun k => w (ix2 n k)) := by
  unfold Spec.kvOf Spec.scaleOf
  pointwise [wide, normed]

/-- An entry of the reference's transposed product with 16 rows. -/
theorem narrow_at (w : FVec Ideal S16x1024 .bf16) (b : Fin 8) (n : Fin 16) (r : Fin 2048) :
    narrow x g w (ix3 b n r) = Spec.kvOf (fun k => x (ix3 b r k)) (fun k => g (ix2 0 k)) (fun k => w (ix2 n k)) := by
  unfold Spec.kvOf Spec.scaleOf
  pointwise [narrow, normed]

end Cert.Reference2Ideal.Proj
end
-- ==== Proof.JoinProjFinal.lean ====
module

public import proofs.«01_k».proof.Proof.JoinProjRows
public import proofs.«01_k».proof.Proof.JoinProjWin4
public import proofs.«01_k».proof.Proof.JoinProjWin16
public import proofs.«01_k».proof.Proof.ProjRef

@[expose] public section

set_option maxRecDepth 16384

noncomputable section

/-!
# The projection kernel's results are the reference's
-/

namespace Cert.Kernel5Ideal.Proj

open Idealize.ShloMosaic Idealize.ShloMosaic.TcCoe Idealize.SL.Sem
open Cert.Kernel5Ideal Cert.Kernel5Ideal.Gen

variable (V : (c : Dev nD) → (b : Ref sig .tc) → Buf (Elt Ideal) ((c : Thread nD τ).loc b))

/-- The block of every window at a grid point. -/
theorem idx : ∀ t : Fin cfg1.N, win1_0.index t = ![(grid1.coords t 0).val, (grid1.coords t 1).val, 0] ∧ win1_1.index t = ![0, 0] ∧ win1_2.index t = ![0, 0]
    ∧ win1_3.index t = ![0, 0] ∧ win1_4.index t = ![0, 0] ∧ win1_5.index t = ![0, 0] ∧ win1_6.index t = ![(grid1.coords t 0).val, (grid1.coords t 1).val, 0]
    ∧ win1_7.index t = ![(grid1.coords t 0).val, 0, (grid1.coords t 1).val, 0] ∧ win1_8.index t = ![(grid1.coords t 0).val, 0, (grid1.coords t 1).val, 0]
    ∧ win1_9.index t = ![(grid1.coords t 0).val, (grid1.coords t 1).val, 0] ∧ win1_10.index t = ![(grid1.coords t 0).val, 0, (grid1.coords t 1).val]
    ∧ win1_11.index t = ![(grid1.coords t 0).val, 0, (grid1.coords t 1).val] :=
  (by decide +kernel : ∀ t : Fin grid1.N, _)

/-- An entry of a product at a grid point, from the argument arrays. -/
theorem row (c : Dev nD) (t : Fin cfg1.N) (r : Fin 512) (b : Fin 8) (s : Fin 2048) (w w' : Fin 1024 → EReal) (hb : (b : ℕ) = (grid1.coords t 0).val)
    (hs : (s : ℕ) = (grid1.coords t 1).val * 512 + r) (hw : ∀ k, w k = w' k) :
    Spec.kvOf (fun k => iblk1 V c 0 t (ix3 0 r k)) (fun k => iblk1 V c 1 t (ix2 0 k)) w
      = Spec.kvOf (fun k => V c main_arg0 (ix3 b s k)) (fun k => V c main_arg1 (ix2 0 k)) w' := by
  have h0 : (fun k : Fin 1024 => (iblk1 V c 0 t (ix3 0 r k) : EReal)) = fun k => V c main_arg0 (ix3 b s k) := funext fun k => by blk_ext [iblk1, idx t]
  have h1 : (fun k : Fin 1024 => (iblk1 V c 1 t (ix2 0 k) : EReal)) = fun k => V c main_arg1 (ix2 0 k) := funext fun k => by blk_ext [iblk1, idx t]
  obtain rfl : w = w' := funext hw
  rw [h0, h1]

/-- A rank-3 index from its coordinates. -/
theorem eq_ix3 {a b c : ℕ} (j : (⟨3, ![a, b, c]⟩ : Shape).Idx) (j0 : Fin a) (j1 : Fin b) (j2 : Fin c) (h0 : (j 0 : ℕ) = j0) (h1 : (j 1 : ℕ) = j1) (h2 : (j 2 : ℕ) = j2) :
    j = ix3 j0 j1 j2 := by
  funext i
  match i with
  | 0 => exact Fin.ext h0
  | 1 => exact Fin.ext h1
  | 2 => exact Fin.ext h2

/-- A rank-4 index from its coordinates. -/
theorem eq_ix4 {a b c d : ℕ} (j : (⟨4, ![a, b, c, d]⟩ : Shape).Idx) (j0 : Fin a) (j1 : Fin b) (j2 : Fin c) (j3 : Fin d) (h0 : (j 0 : ℕ) = j0) (h1 : (j 1 : ℕ) = j1)
    (h2 : (j 2 : ℕ) = j2) (h3 : (j 3 : ℕ) = j3) : j = ix4 j0 j1 j2 j3 := by
  funext i
  match i with
  | 0 => exact Fin.ext h0
  | 1 => exact Fin.ext h1
  | 2 => exact Fin.ext h2
  | 3 => exact Fin.ext h3

/-- The plain product at a grid point is the reference's. -/
theorem point_plain (c : Dev nD) (t : Fin cfg1.N) (y : S1x512x1536.Idx) :
    k1_pay6 (iblk1 V c 0 t) (iblk1 V c 1 t) (iblk1 V c 2 t) y
      = Cert.Reference2Ideal.Proj.plain (F := Ideal) (V c main_arg0) (V c main_arg1) (V c main_v2_0)
          (((cfg1.win 6).blk t).view.emb y) := by
  generalize hj : ((cfg1.win 6).blk t).view.emb y = j
  have hy0 : (y 0 : ℕ) < 1 := (y 0).isLt
  have hj0 : (j 0 : ℕ) = (grid1.coords t 0).val := by rw [← hj]; blk_simp [idx t] <;> omega
  have hj1 : (j 1 : ℕ) = (grid1.coords t 1).val * 512 + y 1 := by rw [← hj]; blk_simp [idx t]
  have hj2 : (j 2 : ℕ) = y 2 := by rw [← hj]; blk_simp [idx t]
  clear hj
  rw [eq_ix3 y 0 (y 1) (y 2) (by show _ = 0; omega) rfl rfl, eq_ix3 j (j 0) (j 1) (y 2) rfl rfl hj2]
  refine (plain_at _ _ _ _ _).trans (Eq.trans ?_ (Cert.Reference2Ideal.Proj.plain_at _ _ _ _ _ _).symm)
  exact row V c t _ _ _ _ _ hj0 hj1 fun k => by blk_ext [iblk1, idx t]

/-- The plain product the kernel leaves is the reference's. -/
theorem final_plain (c : Dev nD) : (dat1 V c).arrAt 6 cfg1.N
    = Cert.Reference2Ideal.Proj.plain (F := Ideal) (V c main_arg0) (V c main_arg1) (V c main_v2_0) := by
  refine (dat1 V c).arrAt_eq_of_covers 6 _ (by decide +kernel) fun t hf y => ?_
  blk_simp
  rw [after1_6, block_plain]
  exact point_plain V c t y

/-- The second product at a grid point is the reference's. -/
theorem point_second (c : Dev nD) (t : Fin cfg1.N) (y : S1x512x1536.Idx) :
    k1_pay1 (k1_pay387 (k1_pay4 (iblk1 V c 0 t) (iblk1 V c 1 t)) (iblk1 V c 3 t)) y
      = Cert.Reference2Ideal.Proj.plain (F := Ideal) (V c main_arg0) (V c main_arg1) (V c main_v2_1)
          (((cfg1.win 9).blk t).view.emb y) := by
  generalize hj : ((cfg1.win 9).blk t).view.emb y = j
  have hy0 : (y 0 : ℕ) < 1 := (y 0).isLt
  have hj0 : (j 0 : ℕ) = (grid1.coords t 0).val := by rw [← hj]; blk_simp [idx t] <;> omega
  have hj1 : (j 1 : ℕ) = (grid1.coords t 1).val * 512 + y 1 := by rw [← hj]; blk_simp [idx t]
  have hj2 : (j 2 : ℕ) = y 2 := by rw [← hj]; blk_simp [idx t]
  clear hj
  rw [eq_ix3 y 0 (y 1) (y 2) (by show _ = 0; omega) rfl rfl, eq_ix3 j (j 0) (j 1) (y 2) rfl rfl hj2]
  refine (second_at _ _ _ _ _).trans (Eq.trans ?_ (Cert.Reference2Ideal.Proj.plain_at _ _ _ _ _ _).symm)
  exact row V c t _ _ _ _ _ hj0 hj1 fun k => by blk_ext [iblk1, idx t]

/-- The second product the kernel leaves is the reference's. -/
theorem final_second (c : Dev nD) : (dat1 V c).arrAt 9 cfg1.N
    = Cert.Reference2Ideal.Proj.plain (F := Ideal) (V c main_arg0) (V c main_arg1) (V c main_v2_1) := by
  refine (dat1 V c).arrAt_eq_of_covers 9 _ (by decide +kernel) fun t hf y => ?_
  blk_simp
  rw [after1_9, block_second]
  exact point_second V c t y

/-- The product by residues modulo 4 at a grid point is the reference's. -/
theorem point4 (c : Dev nD) (t : Fin cfg1.N) (y : S1x4x128x1536.Idx) :
    by4 (k1_pay5 (iblk1 V c 0 t) (iblk1 V c 1 t) (iblk1 V c 2 t)) y
      = Cert.Reference2Ideal.Proj.byFour (F := Ideal) (V c main_arg0) (V c main_arg1) (V c main_v2_0)
          (((cfg1.win 7).blk t).view.emb y) := by
  generalize hj : ((cfg1.win 7).blk t).view.emb y = j
  have hy0 : (y 0 : ℕ) < 1 := (y 0).isLt
  have hj0 : (j 0 : ℕ) = (grid1.coords t 0).val := by rw [← hj]; blk_simp [idx t] <;> omega
  have hj1 : (j 1 : ℕ) = y 1 := by rw [← hj]; blk_simp [idx t]
  have hj2 : (j 2 : ℕ) = (grid1.coords t 1).val * 128 + y 2 := by rw [← hj]; blk_simp [idx t]
  have hj3 : (j 3 : ℕ) = y 3 := by rw [← hj]; blk_simp [idx t]
  clear hj
  rw [eq_ix4 j (j 0) (y 1) (j 2) (y 3) rfl hj1 rfl hj3]
  refine (product_at _ _ _ _ _).trans (Eq.trans ?_ (Cert.Reference2Ideal.Proj.byFour_at _ _ _ _ _ _ _).symm)
  exact row V c t _ _ _ _ _ hj0 (by show (j 2 : ℕ) * 4 + (y 1 : ℕ) = _ * 512 + ((y 1 : ℕ) + 4 * (y 2 : ℕ)); omega) fun k => by blk_ext [iblk1, idx t]

/-- The rows by residues modulo 4 that the kernel leaves are the reference's. -/
theorem final4 (c : Dev nD) : (dat1 V c).arrAt 7 cfg1.N
    = Cert.Reference2Ideal.Proj.byFour (F := Ideal) (V c main_arg0) (V c main_arg1) (V c main_v2_0) := by
  refine (dat1 V c).arrAt_eq_of_covers 7 _ (by decide +kernel) fun t hf y => ?_
  blk_simp
  rw [after1_7, block4]
  exact point4 V c t y

/-- The product by residues modulo 16 at a grid point is the reference's. -/
theorem point16 (c : Dev nD) (t : Fin cfg1.N) (y : S1x16x32x1536.Idx) :
    by16 (k1_pay5 (iblk1 V c 0 t) (iblk1 V c 1 t) (iblk1 V c 2 t)) y
      = Cert.Reference2Ideal.Proj.bySixteen (F := Ideal) (V c main_arg0) (V c main_arg1) (V c main_v2_0)
          (((cfg1.win 8).blk t).view.emb y) := by
  generalize hj : ((cfg1.win 8).blk t).view.emb y = j
  have hy0 : (y 0 : ℕ) < 1 := (y 0).isLt
  have hj0 : (j 0 : ℕ) = (grid1.coords t 0).val := by rw [← hj]; blk_simp [idx t] <;> omega
  have hj1 : (j 1 : ℕ) = y 1 := by rw [← hj]; blk_simp [idx t]
  have hj2 : (j 2 : ℕ) = (grid1.coords t 1).val * 32 + y 2 := by rw [← hj]; blk_simp [idx t]
  have hj3 : (j 3 : ℕ) = y 3 := by rw [← hj]; blk_simp [idx t]
  clear hj
  rw [eq_ix4 j (j 0) (y 1) (j 2) (y 3) rfl hj1 rfl hj3]
  refine (product_at _ _ _ _ _).trans (Eq.trans ?_ (Cert.Reference2Ideal.Proj.bySixteen_at _ _ _ _ _ _ _).symm)
  exact row V c t _ _ _ _ _ hj0 (by show (j 2 : ℕ) * 16 + (y 1 : ℕ) = _ * 512 + ((y 1 : ℕ) + 16 * (y 2 : ℕ)); omega) fun k => by blk_ext [iblk1, idx t]

/-- The rows by residues modulo 16 that the kernel leaves are the reference's. -/
theorem final16 (c : Dev nD) : (dat1 V c).arrAt 8 cfg1.N
    = Cert.Reference2Ideal.Proj.bySixteen (F := Ideal) (V c main_arg0) (V c main_arg1) (V c main_v2_0) := by
  refine (dat1 V c).arrAt_eq_of_covers 8 _ (by decide +kernel) fun t hf y => ?_
  blk_simp
  rw [after1_8, block16]
  exact point16 V c t y

/-- The transposed product with 832 rows at a grid point is the reference's. -/
theorem point_wide (c : Dev nD) (t : Fin cfg1.N) (y : S1x832x512.Idx) :
    k1_pay2 (k1_pay4 (iblk1 V c 0 t) (iblk1 V c 1 t)) (iblk1 V c 4 t) y
      = Cert.Reference2Ideal.Proj.wide (F := Ideal) (V c main_arg0) (V c main_arg1) (V c main_v2_2)
          (((cfg1.win 10).blk t).view.emb y) := by
  generalize hj : ((cfg1.win 10).blk t).view.emb y = j
  have hy0 : (y 0 : ℕ) < 1 := (y 0).isLt
  have hj0 : (j 0 : ℕ) = (grid1.coords t 0).val := by rw [← hj]; blk_simp [idx t] <;> omega
  have hj1 : (j 1 : ℕ) = y 1 := by rw [← hj]; blk_simp [idx t]
  have hj2 : (j 2 : ℕ) = (grid1.coords t 1).val * 512 + y 2 := by rw [← hj]; blk_simp [idx t]
  clear hj
  rw [eq_ix3 y 0 (y 1) (y 2) (by show _ = 0; omega) rfl rfl, eq_ix3 j (j 0) (y 1) (j 2) rfl hj1 rfl]
  refine (wide_at _ _ _ _ _).trans (Eq.trans ?_ (Cert.Reference2Ideal.Proj.wide_at _ _ _ _ _ _).symm)
  exact row V c t _ _ _ _ _ hj0 hj2 fun k => by blk_ext [iblk1, idx t]

/-- The transposed product with 832 rows that the kernel leaves is the reference's. -/
theorem final_wide (c : Dev nD) : (dat1 V c).arrAt 10 cfg1.N
    = Cert.Reference2Ideal.Proj.wide (F := Ideal) (V c main_arg0) (V c main_arg1) (V c main_v2_2) := by
  refine (dat1 V c).arrAt_eq_of_covers 10 _ (by decide +kernel) fun t hf y => ?_
  blk_simp
  rw [after1_10, block_wide]
  exact point_wide V c t y

/-- The transposed product with 16 rows at a grid point is the reference's. -/
theorem point_narrow (c : Dev nD) (t : Fin cfg1.N) (y : S1x16x512.Idx) :
    k1_pay3 (k1_pay4 (iblk1 V c 0 t) (iblk1 V c 1 t)) (iblk1 V c 5 t) y
      = Cert.Reference2Ideal.Proj.narrow (F := Ideal) (V c main_arg0) (V c main_arg1) (V c main_v2_3)
          (((cfg1.win 11).blk t).view.emb y) := by
  generalize hj : ((cfg1.win 11).blk t).view.emb y = j
  have hy0 : (y 0 : ℕ) < 1 := (y 0).isLt
  have hj0 : (j 0 : ℕ) = (grid1.coords t 0).val := by rw [← hj]; blk_simp [idx t] <;> omega
  have hj1 : (j 1 : ℕ) = y 1 := by rw [← hj]; blk_simp [idx t]
  have hj2 : (j 2 : ℕ) = (grid1.coords t 1).val * 512 + y 2 := by rw [← hj]; blk_simp [idx t]
  clear hj
  rw [eq_ix3 y 0 (y 1) (y 2) (by show _ = 0; omega) rfl rfl, eq_ix3 j (j 0) (y 1) (j 2) rfl hj1 rfl]
  refine (narrow_at _ _ _ _ _).trans (Eq.trans ?_ (Cert.Reference2Ideal.Proj.narrow_at _ _ _ _ _ _).symm)
  exact row V c t _ _ _ _ _ hj0 hj2 fun k => by blk_ext [iblk1, idx t]

/-- The transposed product with 16 rows that the kernel leaves is the reference's. -/
theorem final_narrow (c : Dev nD) : (dat1 V c).arrAt 11 cfg1.N
    = Cert.Reference2Ideal.Proj.narrow (F := Ideal) (V c main_arg0) (V c main_arg1) (V c main_v2_3) := by
  refine (dat1 V c).arrAt_eq_of_covers 11 _ (by decide +kernel) fun t hf y => ?_
  blk_simp
  rw [after1_11, block_narrow]
  exact point_narrow V c t y

end Cert.Kernel5Ideal.Proj
end
-- ==== Proof.JoinClaim.lean ====
module

public import proofs.«01_k».proof.Defs
public import proofs.«01_k».proof.Proof.JoinRef
public import proofs.«01_k».proof.Proof.JoinRun
public import proofs.«01_k».proof.Proof.JoinProjFinal

@[expose] public section

set_option maxRecDepth 16384

noncomputable section

/-!
# The two joined calls and their reference leave the same six results
-/

namespace Cert.Join

open Idealize.ShloMosaic Idealize.ShloMosaic.TcCoe Idealize.SL.Sem

variable (x : FVec Ideal Cert.Reference5Ideal.S8x2048x1024 .f32) (g : FVec Ideal Cert.Reference5Ideal.S1x1024 .f32) (w : FVec Ideal Cert.Reference5Ideal.S1x1024x3784 .f32)

/-- An entry of the reference's result `plain` is the projection's by the laid-out weights. -/
theorem plain_entry (b : Fin 8) (r : Fin 2048) (n : Fin 1536) :
    Cert.Reference5Ideal.Join.plain (Cert.Reference5Ideal.Join.proj x g w) (ix3 b r n)
      = Cert.Reference2Ideal.Proj.plain (F := Ideal) x g (Cert.Reference4Ideal.Lay.first (F := Ideal) w) (ix3 b r n) := by
  refine (Cert.Reference5Ideal.Join.plain_at _ b r n).trans (Eq.trans ?_ (Cert.Reference2Ideal.Proj.plain_at x g _ b r n).symm)
  refine (congrArg (fun f => LaySpec.first f n) (Cert.Reference5Ideal.Join.proj_row x g w b r)).trans ?_
  refine (first_comm _ _ (fun k j => w (ix3 0 k j)) n).trans ?_
  exact congrArg (Spec.kvOf _ _) (funext fun k => (Cert.Reference4Ideal.Lay.first_at w k n).symm)

/-- The reference's result `plain` is the projection's by the laid-out weights. -/
theorem plain_eq :
    Cert.Reference5Ideal.Join.plain (Cert.Reference5Ideal.Join.proj x g w)
      = Cert.Reference2Ideal.Proj.plain (F := Ideal) x g (Cert.Reference4Ideal.Lay.first (F := Ideal) w) :=
  funext fun y => by
    rw [eq_ix3 y]
    exact plain_entry x g w (y 0) (y 1) (y 2)

/-- An entry of the reference's result `byFour` is the projection's by the laid-out weights. -/
theorem byFour_entry (b : Fin 8) (q : Fin 4) (r : Fin 512) (n : Fin 1536) :
    Cert.Reference5Ideal.Join.byFour (Cert.Reference5Ideal.Join.proj x g w) (ix4 b q r n)
      = Cert.Reference2Ideal.Proj.byFour (F := Ideal) x g (Cert.Reference4Ideal.Lay.first (F := Ideal) w) (ix4 b q r n) := by
  refine (Cert.Reference5Ideal.Join.byFour_at _ b q r n).trans (Eq.trans ?_ (Cert.Reference2Ideal.Proj.byFour_at x g _ b q r n).symm)
  refine (congrArg (fun f => LaySpec.first f n) (Cert.Reference5Ideal.Join.proj_row x g w b ⟨r * 4 + q, by omega⟩)).trans ?_
  refine (first_comm _ _ (fun k j => w (ix3 0 k j)) n).trans ?_
  exact congrArg (Spec.kvOf _ _) (funext fun k => (Cert.Reference4Ideal.Lay.first_at w k n).symm)

/-- The reference's result `byFour` is the projection's by the laid-out weights. -/
theorem byFour_eq :
    Cert.Reference5Ideal.Join.byFour (Cert.Reference5Ideal.Join.proj x g w)
      = Cert.Reference2Ideal.Proj.byFour (F := Ideal) x g (Cert.Reference4Ideal.Lay.first (F := Ideal) w) :=
  funext fun y => by
    rw [eq_ix4 y]
    exact byFour_entry x g w (y 0) (y 1) (y 2) (y 3)

/-- An entry of the reference's result `bySixteen` is the projection's by the laid-out weights. -/
theorem bySixteen_entry (b : Fin 8) (q : Fin 16) (r : Fin 128) (n : Fin 1536) :
    Cert.Reference5Ideal.Join.bySixteen (Cert.Reference5Ideal.Join.proj x g w) (ix4 b q r n)
      = Cert.Reference2Ideal.Proj.bySixteen (F := Ideal) x g (Cert.Reference4Ideal.Lay.first (F := Ideal) w) (ix4 b q r n) := by
  refine (Cert.Reference5Ideal.Join.bySixteen_at _ b q r n).trans (Eq.trans ?_ (Cert.Reference2Ideal.Proj.bySixteen_at x g _ b q r n).symm)
  refine (congrArg (fun f => LaySpec.first f n) (Cert.Reference5Ideal.Join.proj_row x g w b ⟨r * 16 + q, by omega⟩)).trans ?_
  refine (first_comm _ _ (fun k j => w (ix3 0 k j)) n).trans ?_
  exact congrArg (Spec.kvOf _ _) (funext fun k => (Cert.Reference4Ideal.Lay.first_at w k n).symm)

/-- The reference's result `bySixteen` is the projection's by the laid-out weights. -/
theorem bySixteen_eq :
    Cert.Reference5Ideal.Join.bySixteen (Cert.Reference5Ideal.Join.proj x g w)
      = Cert.Reference2Ideal.Proj.bySixteen (F := Ideal) x g (Cert.Reference4Ideal.Lay.first (F := Ideal) w) :=
  funext fun y => by
    rw [eq_ix4 y]
    exact bySixteen_entry x g w (y 0) (y 1) (y 2) (y 3)

/-- An entry of the reference's result `second` is the projection's by the laid-out weights. -/
theorem second_entry (b : Fin 8) (r : Fin 2048) (n : Fin 1536) :
    Cert.Reference5Ideal.Join.second (Cert.Reference5Ideal.Join.proj x g w) (ix3 b r n)
      = Cert.Reference2Ideal.Proj.plain (F := Ideal) x g (Cert.Reference4Ideal.Lay.second (F := Ideal) w) (ix3 b r n) := by
  refine (Cert.Reference5Ideal.Join.second_at _ b r n).trans (Eq.trans ?_ (Cert.Reference2Ideal.Proj.plain_at x g _ b r n).symm)
  refine (congrArg (fun f => LaySpec.second f n) (Cert.Reference5Ideal.Join.proj_row x g w b r)).trans ?_
  refine (second_comm _ _ (fun k j => w (ix3 0 k j)) n).trans ?_
  exact congrArg (Spec.kvOf _ _) (funext fun k => (Cert.Reference4Ideal.Lay.second_at w k n).symm)

/-- The reference's result `second` is the projection's by the laid-out weights. -/
theorem second_eq :
    Cert.Reference5Ideal.Join.second (Cert.Reference5Ideal.Join.proj x g w)
      = Cert.Reference2Ideal.Proj.plain (F := Ideal) x g (Cert.Reference4Ideal.Lay.second (F := Ideal) w) :=
  funext fun y => by
    rw [eq_ix3 y]
    exact second_entry x g w (y 0) (y 1) (y 2)

/-- An entry of the reference's result `wide` is the projection's by the laid-out weights. -/
theorem wide_entry (b : Fin 8) (n : Fin 832) (r : Fin 2048) :
    Cert.Reference5Ideal.Join.wide (Cert.Reference5Ideal.Join.proj x g w) (ix3 b n r)
      = Cert.Reference2Ideal.Proj.wide (F := Ideal) x g (Cert.Reference4Ideal.Lay.third (F := Ideal) w) (ix3 b n r) := by
  refine (Cert.Reference5Ideal.Join.wide_at _ b n r).trans (Eq.trans ?_ (Cert.Reference2Ideal.Proj.wide_at x g _ b n r).symm)
  refine (congrArg (fun f => LaySpec.third f n) (Cert.Reference5Ideal.Join.proj_row x g w b r)).trans ?_
  refine (third_comm _ _ (fun k j => w (ix3 0 k j)) n).trans ?_
  exact congrArg (Spec.kvOf _ _) (funext fun k => (Cert.Reference4Ideal.Lay.third_at w k n).symm)

/-- The reference's result `wide` is the projection's by the laid-out weights. -/
theorem wide_eq :
    Cert.Reference5Ideal.Join.wide (Cert.Reference5Ideal.Join.proj x g w)
      = Cert.Reference2Ideal.Proj.wide (F := Ideal) x g (Cert.Reference4Ideal.Lay.third (F := Ideal) w) :=
  funext fun y => by
    rw [eq_ix3 y]
    exact wide_entry x g w (y 0) (y 1) (y 2)

/-- An entry of the reference's result `narrow` is the projection's by the laid-out weights. -/
theorem narrow_entry (b : Fin 8) (n : Fin 16) (r : Fin 2048) :
    Cert.Reference5Ideal.Join.narrow (Cert.Reference5Ideal.Join.proj x g w) (ix3 b n r)
      = Cert.Reference2Ideal.Proj.narrow (F := Ideal) x g (Cert.Reference4Ideal.Lay.fourth (F := Ideal) w) (ix3 b n r) := by
  refine (Cert.Reference5Ideal.Join.narrow_at _ b n r).trans (Eq.trans ?_ (Cert.Reference2Ideal.Proj.narrow_at x g _ b n r).symm)
  refine (congrArg (fun f => LaySpec.fourth f n) (Cert.Reference5Ideal.Join.proj_row x g w b r)).trans ?_
  refine (fourth_comm _ _ (fun k j => w (ix3 0 k j)) n).trans ?_
  exact congrArg (Spec.kvOf _ _) (funext fun k => (Cert.Reference4Ideal.Lay.fourth_at w k n).symm)

/-- The reference's result `narrow` is the projection's by the laid-out weights. -/
theorem narrow_eq :
    Cert.Reference5Ideal.Join.narrow (Cert.Reference5Ideal.Join.proj x g w)
      = Cert.Reference2Ideal.Proj.narrow (F := Ideal) x g (Cert.Reference4Ideal.Lay.fourth (F := Ideal) w) :=
  funext fun y => by
    rw [eq_ix3 y]
    exact narrow_entry x g w (y 0) (y 1) (y 2)

end Cert.Join

namespace Cert.Kernel5Ideal.Join

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg)

/-- What the kernel leaves as result 0 is the reference's `plain`, at inputs that agree. -/
theorem plain_result (c : Dev nD) (x : FVec Ideal Cert.Reference5Ideal.S8x2048x1024 .f32) (g : FVec Ideal Cert.Reference5Ideal.S1x1024 .f32) (w : FVec Ideal Cert.Reference5Ideal.S1x1024x3784 .f32)
    (hx : x = m ((c : Thread nD τ).loc main_arg0)) (hg : g = m ((c : Thread nD τ).loc main_arg1)) (hw : w = m ((c : Thread nD τ).loc main_arg2)) :
    Cert.Reference5Ideal.Join.plain (Cert.Reference5Ideal.Join.proj x g w) = (dat1 (V2 m ρ) c).arrAt 6 cfg1.N := by
  rw [Cert.Join.plain_eq, Cert.Kernel5Ideal.Proj.final_plain, x_read, g_read, first_read, hx, hg, hw]

/-- What the kernel leaves as result 1 is the reference's `byFour`, at inputs that agree. -/
theorem byFour_result (c : Dev nD) (x : FVec Ideal Cert.Reference5Ideal.S8x2048x1024 .f32) (g : FVec Ideal Cert.Reference5Ideal.S1x1024 .f32) (w : FVec Ideal Cert.Reference5Ideal.S1x1024x3784 .f32)
    (hx : x = m ((c : Thread nD τ).loc main_arg0)) (hg : g = m ((c : Thread nD τ).loc main_arg1)) (hw : w = m ((c : Thread nD τ).loc main_arg2)) :
    Cert.Reference5Ideal.Join.byFour (Cert.Reference5Ideal.Join.proj x g w) = (dat1 (V2 m ρ) c).arrAt 7 cfg1.N := by
  rw [Cert.Join.byFour_eq, Cert.Kernel5Ideal.Proj.final4, x_read, g_read, first_read, hx, hg, hw]

/-- What the kernel leaves as result 2 is the reference's `bySixteen`, at inputs that agree. -/
theorem bySixteen_result (c : Dev nD) (x : FVec Ideal Cert.Reference5Ideal.S8x2048x1024 .f32) (g : FVec Ideal Cert.Reference5Ideal.S1x1024 .f32) (w : FVec Ideal Cert.Reference5Ideal.S1x1024x3784 .f32)
    (hx : x = m ((c : Thread nD τ).loc main_arg0)) (hg : g = m ((c : Thread nD τ).loc main_arg1)) (hw : w = m ((c : Thread nD τ).loc main_arg2)) :
    Cert.Reference5Ideal.Join.bySixteen (Cert.Reference5Ideal.Join.proj x g w) = (dat1 (V2 m ρ) c).arrAt 8 cfg1.N := by
  rw [Cert.Join.bySixteen_eq, Cert.Kernel5Ideal.Proj.final16, x_read, g_read, first_read, hx, hg, hw]

/-- What the kernel leaves as result 3 is the reference's `second`, at inputs that agree. -/
theorem second_result (c : Dev nD) (x : FVec Ideal Cert.Reference5Ideal.S8x2048x1024 .f32) (g : FVec Ideal Cert.Reference5Ideal.S1x1024 .f32) (w : FVec Ideal Cert.Reference5Ideal.S1x1024x3784 .f32)
    (hx : x = m ((c : Thread nD τ).loc main_arg0)) (hg : g = m ((c : Thread nD τ).loc main_arg1)) (hw : w = m ((c : Thread nD τ).loc main_arg2)) :
    Cert.Reference5Ideal.Join.second (Cert.Reference5Ideal.Join.proj x g w) = (dat1 (V2 m ρ) c).arrAt 9 cfg1.N := by
  rw [Cert.Join.second_eq, Cert.Kernel5Ideal.Proj.final_second, x_read, g_read, second_read, hx, hg, hw]

/-- What the kernel leaves as result 4 is the reference's `wide`, at inputs that agree. -/
theorem wide_result (c : Dev nD) (x : FVec Ideal Cert.Reference5Ideal.S8x2048x1024 .f32) (g : FVec Ideal Cert.Reference5Ideal.S1x1024 .f32) (w : FVec Ideal Cert.Reference5Ideal.S1x1024x3784 .f32)
    (hx : x = m ((c : Thread nD τ).loc main_arg0)) (hg : g = m ((c : Thread nD τ).loc main_arg1)) (hw : w = m ((c : Thread nD τ).loc main_arg2)) :
    Cert.Reference5Ideal.Join.wide (Cert.Reference5Ideal.Join.proj x g w) = (dat1 (V2 m ρ) c).arrAt 10 cfg1.N := by
  rw [Cert.Join.wide_eq, Cert.Kernel5Ideal.Proj.final_wide, x_read, g_read, third_read, hx, hg, hw]

/-- What the kernel leaves as result 5 is the reference's `narrow`, at inputs that agree. -/
theorem narrow_result (c : Dev nD) (x : FVec Ideal Cert.Reference5Ideal.S8x2048x1024 .f32) (g : FVec Ideal Cert.Reference5Ideal.S1x1024 .f32) (w : FVec Ideal Cert.Reference5Ideal.S1x1024x3784 .f32)
    (hx : x = m ((c : Thread nD τ).loc main_arg0)) (hg : g = m ((c : Thread nD τ).loc main_arg1)) (hw : w = m ((c : Thread nD τ).loc main_arg2)) :
    Cert.Reference5Ideal.Join.narrow (Cert.Reference5Ideal.Join.proj x g w) = (dat1 (V2 m ρ) c).arrAt 11 cfg1.N := by
  rw [Cert.Join.narrow_eq, Cert.Kernel5Ideal.Proj.final_narrow, x_read, g_read, fourth_read, hx, hg, hw]

end Cert.Kernel5Ideal.Join

namespace Cert.Join

open Idealize.ShloMosaic Idealize.SL.Sem

/-- The two joined calls and their reference leave the same six results. -/
theorem algebraic : Cert.algebraic_Kernel5Ideal_Reference5Ideal := by
  pair_intro
  · run_from Cert.Kernel5Ideal.Join.run_values m g
  · run_from Cert.Reference5Ideal.Value.run m' g'
    · exact Cert.Kernel5Ideal.Join.plain_result m g c _ _ _ rfl rfl (hagree c).2.2
    · exact Cert.Kernel5Ideal.Join.byFour_result m g c _ _ _ rfl rfl (hagree c).2.2
    · exact Cert.Kernel5Ideal.Join.bySixteen_result m g c _ _ _ rfl rfl (hagree c).2.2
    · exact Cert.Kernel5Ideal.Join.second_result m g c _ _ _ (hagree c).1 (hagree c).2.1 (hagree c).2.2
    · exact Cert.Kernel5Ideal.Join.wide_result m g c _ _ _ rfl rfl (hagree c).2.2
    · exact Cert.Kernel5Ideal.Join.narrow_result m g c _ _ _ rfl rfl (hagree c).2.2

end Cert.Join
end
-- ==== Proof.LayBlock.lean ====
module

public import proofs.«01_k».proof.Proof.Gen.Kernel4Ideal.Value
public import proofs.«01_k».proof.Proof.LaySpec
public import Idealize.ShloMosaic.Lib.Pointwise
public import Idealize.ShloMosaic.Lib.Pipeline.ValueKit
public import Idealize.ShloMosaic.Lib.Pipeline.ReadBack

@[expose] public section

set_option maxRecDepth 16384

noncomputable section

/-!
# The blocks of laid-out weights that a grid step leaves
-/

namespace Cert.Kernel4Ideal.Lay

open Idealize.ShloMosaic Idealize.ShloMosaic.TcCoe Idealize.SL.Sem
open Cert.Kernel4Ideal Cert.Kernel4Ideal.Gen

variable (m : (ℓ : Loc nD τ sig) → Buf (Elt Ideal) ℓ)

/-- A rank-2 index from its coordinates. -/
theorem eq_ix2 {a b : ℕ} (j : (⟨2, ![a, b]⟩ : Shape).Idx) (j0 : Fin a) (j1 : Fin b) (h0 : (j 0 : ℕ) = j0) (h1 : (j 1 : ℕ) = j1) : j = ix2 j0 j1 := by
  funext i
  match i with
  | 0 => exact Fin.ext h0
  | 1 => exact Fin.ext h1

/-- A load of rows of the weight block from row `o` on. -/
theorem ld_row (X : Vec Ideal S3784x128 .f32) (o s : ℕ) (inb : ∀ a, (![o, 0] : Fin 2 → ℕ) a + (![s, 128] : Fin 2 → ℕ) a ≤ S3784x128.size a) (j : Fin s) (i : Fin 128)
    (h : o + j.val < 3784) : View.ld X (Rect.unit (s := S3784x128) ![o, 0] ![s, 128] inb) (ix2 j i : (⟨2, ![s, 128]⟩ : Shape).Idx) = X (ix2 ⟨o + j.val, h⟩ i) :=
  congrArg X (eq_ix2 _ _ _ (by show o + 1 * j.val = o + j.val; omega) (by show 0 + 1 * i.val = i.val; omega))

/-- The first block from the weight block. -/
def first (X : Vec Ideal S3784x128 .f32) : S128x1536.Idx → EReal := fun z => LaySpec.first (fun k => X (ix2 k (z 0))) (z 1)
/-- The second block from the weight block. -/
def second (X : Vec Ideal S3784x128 .f32) : S128x1536.Idx → EReal := fun z => LaySpec.second (fun k => X (ix2 k (z 0))) (z 1)
/-- The third block from the weight block. -/
def third (X : Vec Ideal S3784x128 .f32) : S832x128.Idx → EReal := fun z => LaySpec.third (fun k => X (ix2 k (z 1))) (z 0)
/-- The fourth block from the weight block. -/
def fourth (X : Vec Ideal S3784x128 .f32) : S16x128.Idx → EReal := fun z => LaySpec.fourth (fun k => X (ix2 k (z 1))) (z 0)

/-- An entry of the piece stored over columns 0 on of the first block. -/
theorem first0_at (v : Vec Ideal S512x128 .f32) (i : Fin 128) (j : Fin 512) : k0_pay3 (F := Ideal) v (ix2 i j) = v (ix2 j i) * LaySpec.qScale := by
  unfold LaySpec.qScale
  pointwise [k0_pay3]

/-- The piece stored over columns 0 on holds the first block there. -/
theorem first0 (X : Vec Ideal S3784x128 .f32) (inb : ∀ a : Fin S128x1536.rank, (![0, 0] : Fin S128x1536.rank → ℕ) a + (![128, 512] : Fin S128x1536.rank → ℕ) a ≤ S128x1536.size a) (x : S128x512.Idx) :
    k0_pay3 (F := Ideal) (View.ld X (Rect.unit (s := S3784x128) ![0, 0] ![512, 128] inb_S3784x128_S512x128_0_0)) x = first X ((Rect.unit (s := S128x1536) ![0, 0] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 0] ![128, 512] inb).emb (ix2 i j) = (ix2 i ⟨0 + j.val, by omega⟩) := eq_ix2 _ _ _ (by show 0 + 1 * i.val = i.val; omega) (by show 0 + 1 * j.val = 0 + j.val; omega)
  rw [e]
  refine (first0_at _ _ _).trans ?_
  show _ = LaySpec.first (fun k => X (ix2 k i)) ⟨0 + j.val, _⟩
  rw [ld_row X 0 512 _ j i (by omega)]
  unfold LaySpec.first
  rw [dif_pos (by show _ < _; first | omega | (dsimp only; omega))]

/-- An entry of the piece stored over columns 512 on of the first block. -/
theorem first512_at (v : Vec Ideal S512x128 .f32) (i : Fin 128) (j : Fin 512) : k0_pay4 (F := Ideal) v (ix2 i j) = v (ix2 j i) := by
  pointwise [k0_pay4]

/-- The piece stored over columns 512 on holds the first block there. -/
theorem first512 (X : Vec Ideal S3784x128 .f32) (inb : ∀ a : Fin S128x1536.rank, (![0, 512] : Fin S128x1536.rank → ℕ) a + (![128, 512] : Fin S128x1536.rank → ℕ) a ≤ S128x1536.size a) (x : S128x512.Idx) :
    k0_pay4 (F := Ideal) (View.ld X (Rect.unit (s := S3784x128) ![512, 0] ![512, 128] inb_S3784x128_S512x128_512_0)) x = first X ((Rect.unit (s := S128x1536) ![0, 512] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 512] ![128, 512] inb).emb (ix2 i j) = (ix2 i ⟨512 + j.val, by omega⟩) := eq_ix2 _ _ _ (by show 0 + 1 * i.val = i.val; omega) (by show 512 + 1 * j.val = 512 + j.val; omega)
  rw [e]
  refine (first512_at _ _ _).trans ?_
  show _ = LaySpec.first (fun k => X (ix2 k i)) ⟨512 + j.val, _⟩
  rw [ld_row X 512 512 _ j i (by omega)]
  unfold LaySpec.first
  rw [dif_neg (by show ¬ _ < _; first | omega | (dsimp only; omega))]
  rw [dif_pos (by show _ < _; first | omega | (dsimp only; omega))]
  exact congrArg (fun r => X (ix2 r i)) (Fin.ext (by first | omega | (dsimp only; omega)))

/-- An entry of the piece stored over columns 1024 on of the first block. -/
theorem first1024_at (v : Vec Ideal S512x128 .f32) (i : Fin 128) (j : Fin 512) : k0_pay5 (F := Ideal) v (ix2 i j) = v (ix2 j i) := by
  pointwise [k0_pay5]

/-- The piece stored over columns 1024 on holds the first block there. -/
theorem first1024 (X : Vec Ideal S3784x128 .f32) (inb : ∀ a : Fin S128x1536.rank, (![0, 1024] : Fin S128x1536.rank → ℕ) a + (![128, 512] : Fin S128x1536.rank → ℕ) a ≤ S128x1536.size a) (x : S128x512.Idx) :
    k0_pay5 (F := Ideal) (View.ld X (Rect.unit (s := S3784x128) ![1024, 0] ![512, 128] inb_S3784x128_S512x128_1024_0)) x = first X ((Rect.unit (s := S128x1536) ![0, 1024] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 1024] ![128, 512] inb).emb (ix2 i j) = (ix2 i ⟨1024 + j.val, by omega⟩) := eq_ix2 _ _ _ (by show 0 + 1 * i.val = i.val; omega) (by show 1024 + 1 * j.val = 1024 + j.val; omega)
  rw [e]
  refine (first1024_at _ _ _).trans ?_
  show _ = LaySpec.first (fun k => X (ix2 k i)) ⟨1024 + j.val, _⟩
  rw [ld_row X 1024 512 _ j i (by omega)]
  unfold LaySpec.first
  rw [dif_neg (by show ¬ _ < _; first | omega | (dsimp only; omega))]
  rw [dif_neg (by show ¬ _ < _; first | omega | (dsimp only; omega))]
  exact congrArg (fun r => X (ix2 r i)) (Fin.ext (by first | omega | (dsimp only; omega)))

/-- An entry of the piece stored over columns 0 on of the second block. -/
theorem second0_at (v : Vec Ideal S512x128 .f32) (i : Fin 128) (j : Fin 512) : k0_pay6 (F := Ideal) v (ix2 i j) = v (ix2 j i) := by
  pointwise [k0_pay6]

/-- The piece stored over columns 0 on holds the second block there. -/
theorem second0 (X : Vec Ideal S3784x128 .f32) (inb : ∀ a : Fin S128x1536.rank, (![0, 0] : Fin S128x1536.rank → ℕ) a + (![128, 512] : Fin S128x1536.rank → ℕ) a ≤ S128x1536.size a) (x : S128x512.Idx) :
    k0_pay6 (F := Ideal) (View.ld X (Rect.unit (s := S3784x128) ![2176, 0] ![512, 128] inb_S3784x128_S512x128_2176_0)) x = second X ((Rect.unit (s := S128x1536) ![0, 0] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 0] ![128, 512] inb).emb (ix2 i j) = (ix2 i ⟨0 + j.val, by omega⟩) := eq_ix2 _ _ _ (by show 0 + 1 * i.val = i.val; omega) (by show 0 + 1 * j.val = 0 + j.val; omega)
  rw [e]
  refine (second0_at _ _ _).trans ?_
  show _ = LaySpec.second (fun k => X (ix2 k i)) ⟨0 + j.val, _⟩
  rw [ld_row X 2176 512 _ j i (by omega)]
  unfold LaySpec.second
  rw [dif_pos (by show _ < _; first | omega | (dsimp only; omega))]
  exact congrArg (fun r => X (ix2 r i)) (Fin.ext (by first | omega | (dsimp only; omega)))

/-- An entry of the piece stored over columns 512 on of the second block. -/
theorem second512_at (v : Vec Ideal S512x128 .f32) (i : Fin 128) (j : Fin 512) : k0_pay7 (F := Ideal) v (ix2 i j) = v (ix2 j i) := by
  pointwise [k0_pay7]

/-- The piece stored over columns 512 on holds the second block there. -/
theorem second512 (X : Vec Ideal S3784x128 .f32) (inb : ∀ a : Fin S128x1536.rank, (![0, 512] : Fin S128x1536.rank → ℕ) a + (![128, 512] : Fin S128x1536.rank → ℕ) a ≤ S128x1536.size a) (x : S128x512.Idx) :
    k0_pay7 (F := Ideal) (View.ld X (Rect.unit (s := S3784x128) ![2688, 0] ![512, 128] inb_S3784x128_S512x128_2688_0)) x = second X ((Rect.unit (s := S128x1536) ![0, 512] ![128, 512] inb).emb x) := by
  obtain ⟨i, j, rfl⟩ : ∃ (i : Fin 128) (j : Fin 512), x = (ix2 i j) := ⟨(x 0), (x 1), eq_ix2 _ _ _ rfl rfl⟩
  have hj : j.val < 512 := j.isLt
  have e : (Rect.unit (s := S128x1536) ![0, 512] ![128, 512] inb).emb (ix2 i j) = (ix2 i ⟨512 + j.val, by omega⟩) := eq_ix2 _ _ _ (by show 0 + 1 * i.val = i.val; omega) (by show 512 + 1 * j.val = 512 + j.val; omega)
  rw [e]
  refine (second512_at _ _ _).trans ?_
  show _ = LaySpec.second (fun k => X (ix2 k i)) ⟨512 + j.val, _⟩
  rw [ld_row X 2688 512 _ j i (by omega)]
  unfold LaySpec.second
  rw [dif_pos (by show _ < _; first | omega | (dsimp only; omega))]
  exact congrArg (fun r => X (ix2 r i)) (Fin.ext (by first | omega | (dsimp only; omega)))

/-- An entry of the piece stored over columns 1024 on of the second block. -/
theorem second1024_at (v : Vec Ideal S256x128 .f32) (i : Fin 128) (j : Fin 256) : k0_pay10 (F := Ideal) (k0_pay8 v) k0_pay9 (ix2 i j) = v (ix2 j i) * LaySpec.qScale := by
  unfold LaySpec.qScale
  pointwise [k0_pay10, k0_pay8, k0_pay9]

/-- The piece stored over columns 1024 on holds the second block there. -/
theorem second1024 (X : Vec Ideal S3784x128 .f32) (inb : ∀ a : Fin S128x1536.rank, (![0, 1024] : Fin S128x1536.rank → ℕ) a + (![128, 256] : Fin S128x1536.rank → ℕ) a ≤ S128x1536.size a) (x : S128x256.Idx) :
    k0_pay10 (F := Ideal) (k0_pay8 (View.ld X (Rect.unit (s := S3784x128) ![1920, 0] ![256, 128] inb_S3784x128_S256x128_1920_0))) k0_pay9 x = second X ((Rect.unit (s := S128x1536) ![0, 1024] ![128, 256] inb).emb x) := by
  obtain ⟨i, j, rfl⟩ : ∃ (i : Fin 128) (j : Fin 256), x = (ix2 i j) := ⟨(x 0), (x 1), eq_ix2 _ _ _ rfl rfl⟩
  have hj : j.val < 256 := j.isLt
  have e : (Rect.unit (s := S128x1536) ![0, 1024] ![128, 256] inb).emb (ix2 i j) = (ix2 i ⟨1024 + j.val, by omega⟩) := eq_ix2 _ _ _ (by show 0 + 1 * i.val = i.val; omega) (by show 1024 + 1 * j.val = 1024 + j.val; omega)
  rw [e]
  refine (second1024_at _ _ _).trans ?_
  show _ = LaySpec.second (fun k => X (ix2 k i)) ⟨1024 + j.val, _⟩
  rw [ld_row X 1920 256 _ j i (by omega)]
  unfold LaySpec.second
  rw [dif_neg (by show ¬ _ < _; first | omega | (dsimp only; omega))]
  rw [dif_pos (by show _ < _; first | omega | (dsimp only; omega))]
  exact congrArg (fun r => X (ix2 r i) * LaySpec.qScale) (Fin.ext (by first | omega | (dsimp only; omega)))

/-- An entry of the piece stored over columns 1280 on of the second block. -/
theorem second1280_at (v : Vec Ideal S64x128 .f32) (i : Fin 128) (j : Fin 128) : k0_pay11 (F := Ideal) v (ix2 i j) = if h : j.val < 64 then v (ix2 ⟨j, h⟩ i) else 0 := by
  pointwise [k0_pay11]

/-- The piece stored over columns 1280 on holds the second block there. -/
theorem second1280 (X : Vec Ideal S3784x128 .f32) (inb : ∀ a : Fin S128x1536.rank, (![0, 1280] : Fin S128x1536.rank → ℕ) a + (![128, 128] : Fin S128x1536.rank → ℕ) a ≤ S128x1536.size a) (x : S128x128.Idx) :
    k0_pay11 (F := Ideal) (View.ld X (Rect.unit (s := S3784x128) ![1792, 0] ![64, 128] inb_S3784x128_S64x128_1792_0)) x = second X ((Rect.unit (s := S128x1536) ![0, 1280] ![128, 128] inb).emb x) := by
  obtain ⟨i, j, rfl⟩ : ∃ (i : Fin 128) (j : Fin 128), x = (ix2 i j) := ⟨(x 0), (x 1), eq_ix2 _ _ _ rfl rfl⟩
  have hj : j.val < 128 := j.isLt
  have e : (Rect.unit (s := S128x1536) ![0, 1280] ![128, 128] inb).emb (ix2 i j) = (ix2 i ⟨1280 + j.val, by omega⟩) := eq_ix2 _ _ _ (by show 0 + 1 * i.val = i.val; omega) (by show 1280 + 1 * j.val = 1280 + j.val; omega)
  rw [e]
  refine (second1280_at _ _ _).trans ?_
  show _ = LaySpec.second (fun k => X (ix2 k i)) ⟨1280 + j.val, _⟩
  unfold LaySpec.second
  by_cases h : j.val < 64
  · rw [dif_pos h, ld_row X 1792 64 _ ⟨j.val, h⟩ i (by show 1792 + j.val < 3784; omega)]
    rw [dif_neg (by show ¬ _ < _; first | omega | (dsimp only; omega))]
    rw [dif_neg (by show ¬ _ < _; first | omega | (dsimp only; omega))]
    rw [dif_pos (by show _ < _; first | omega | (dsimp only; omega))]
    exact congrArg (fun r => X (ix2 r i)) (Fin.ext (by first | omega | (dsimp only; omega)))
  · rw [dif_neg h]
    rw [dif_neg (by show ¬ _ < _; first | omega | (dsimp only; omega))]
    rw [dif_neg (by show ¬ _ < _; first | omega | (dsimp only; omega))]
    rw [dif_neg (by show ¬ _ < _; first | omega | (dsimp only; omega))]
    rw [dif_pos (by show _ < _; first | omega | (dsimp only; omega))]

/-- An entry of the piece stored over columns 1408 on of the second block. -/
theorem second1408_at (v : Vec Ideal S64x128 .f32) (i : Fin 128) (j : Fin 128) : k0_pay12 (F := Ideal) v (ix2 i j) = if h : j.val < 64 then v (ix2 ⟨j, h⟩ i) else 0 := by
  pointwise [k0_pay12]

/-- The piece stored over columns 1408 on holds the second block there. -/
theorem second1408 (X : Vec Ideal S3784x128 .f32) (inb : ∀ a : Fin S128x1536.rank, (![0, 1408] : Fin S128x1536.rank → ℕ) a + (![128, 128] : Fin S128x1536.rank → ℕ) a ≤ S128x1536.size a) (x : S128x128.Idx) :
    k0_pay12 (F := Ideal) (View.ld X (Rect.unit (s := S3784x128) ![3712, 0] ![64, 128] inb_S3784x128_S64x128_3712_0)) x = second X ((Rect.unit (s := S128x1536) ![0, 1408] ![128, 128] inb).emb x) := by
  obtain ⟨i, j, rfl⟩ : ∃ (i : Fin 128) (j : Fin 128), x = (ix2 i j) := ⟨(x 0), (x 1), eq_ix2 _ _ _ rfl rfl⟩
  have hj : j.val < 128 := j.isLt
  have e : (Rect.unit (s := S128x1536) ![0, 1408] ![128, 128] inb).emb (ix2 i j) = (ix2 i ⟨1408 + j.val, by omega⟩) := eq_ix2 _ _ _ (by show 0 + 1 * i.val = i.val; omega) (by show 1408 + 1 * j.val = 1408 + j.val; omega)
  rw [e]
  refine (second1408_at _ _ _).trans ?_
  show _ = LaySpec.second (fun k => X (ix2 k i)) ⟨1408 + j.val, _⟩
  unfold LaySpec.second
  by_cases h : j.val < 64
  · rw [dif_pos h, ld_row X 3712 64 _ ⟨j.val, h⟩ i (by show 3712 + j.val < 3784; omega)]
    rw [dif_neg (by show ¬ _ < _; first | omega | (dsimp only; omega))]
    rw [dif_neg (by show ¬ _ < _; first | omega | (dsimp only; omega))]
    rw [dif_neg (by show ¬ _ < _; first | omega | (dsimp only; omega))]
    rw [dif_neg (by show ¬ _ < _; first | omega | (dsimp only; omega))]
    rw [dif_pos (by show _ < _; first | omega | (dsimp only; omega))]
    exact congrArg (fun r => X (ix2 r i)) (Fin.ext (by first | omega | (dsimp only; omega)))
  · rw [dif_neg h]
    rw [dif_neg (by show ¬ _ < _; first | omega | (dsimp only; omega))]
    rw [dif_neg (by show ¬ _ < _; first | omega | (dsimp only; omega))]
    rw [dif_neg (by show ¬ _ < _; first | omega | (dsimp only; omega))]
    rw [dif_neg (by show ¬ _ < _; first | omega | (dsimp only; omega))]
    rw [dif_neg (by show ¬ _ < _; first | omega | (dsimp only; omega))]

/-- An entry of the piece stored over rows 0 on of the third block. -/
theorem third0_at (v : Vec Ideal S512x128 .f32) (i : Fin 128) (j : Fin 512) : k0_pay13 (F := Ideal) v (ix2 j i) = v (ix2 j i) * LaySpec.iScale := by
  unfold LaySpec.iScale
  pointwise [k0_pay13]

/-- The piece stored over rows 0 on holds the third block there. -/
theorem third0 (X : Vec Ideal S3784x128 .f32) (inb : ∀ a : Fin S832x128.rank, (![0, 0] : Fin S832x128.rank → ℕ) a + (![512, 128] : Fin S832x128.rank → ℕ) a ≤ S832x128.size a) (x : S512x128.Idx) :
    k0_pay13 (F := Ideal) (View.ld X (Rect.unit (s := S3784x128) ![3200, 0] ![512, 128] inb_S3784x128_S512x128_3200_0)) x = third X ((Rect.unit (s := S832x128) ![0, 0] ![512, 128] inb).emb x) := by
  obtain ⟨i, j, rfl⟩ : ∃ (i : Fin 128) (j : Fin 512), x = (ix2 j i) := ⟨(x 1), (x 0), eq_ix2 _ _ _ rfl rfl⟩
  have hj : j.val < 512 := j.isLt
  have e : (Rect.unit (s := S832x128) ![0, 0] ![512, 128] inb).emb (ix2 j i) = (ix2 ⟨0 + j.val, by omega⟩ i) := eq_ix2 _ _ _ (by show 0 + 1 * j.val = 0 + j.val; omega) (by show 0 + 1 * i.val = i.val; omega)
  rw [e]
  refine (third0_at _ _ _).trans ?_
  show _ = LaySpec.third (fun k => X (ix2 k i)) ⟨0 + j.val, _⟩
  rw [ld_row X 3200 512 _ j i (by omega)]
  unfold LaySpec.third
  rw [dif_pos (by show _ < _; first | omega | (dsimp only; omega))]
  exact congrArg (fun r => X (ix2 r i) * LaySpec.iScale) (Fin.ext (by first | omega | (dsimp only; omega)))

/-- An entry of the piece stored over rows 512 on of the third block. -/
theorem third512_at (v : Vec Ideal S256x128 .f32) (i : Fin 128) (j : Fin 256) : k0_pay14 (F := Ideal) v (ix2 j i) = v (ix2 j i) * LaySpec.qScale := by
  unfold LaySpec.qScale
  pointwise [k0_pay14]

/-- The piece stored over rows 512 on holds the third block there. -/
theorem third512 (X : Vec Ideal S3784x128 .f32) (inb : ∀ a : Fin S832x128.rank, (![512, 0] : Fin S832x128.rank → ℕ) a + (![256, 128] : Fin S832x128.rank → ℕ) a ≤ S832x128.size a) (x : S256x128.Idx) :
    k0_pay14 (F := Ideal) (View.ld X (Rect.unit (s := S3784x128) ![1536, 0] ![256, 128] inb_S3784x128_S256x128_1536_0)) x = third X ((Rect.unit (s := S832x128) ![512, 0] ![256, 128] inb).emb x) := by
  obtain ⟨i, j, rfl⟩ : ∃ (i : Fin 128) (j : Fin 256), x = (ix2 j i) := ⟨(x 1), (x 0), eq_ix2 _ _ _ rfl rfl⟩
  have hj : j.val < 256 := j.isLt
  have e : (Rect.unit (s := S832x128) ![512, 0] ![256, 128] inb).emb (ix2 j i) = (ix2 ⟨512 + j.val, by omega⟩ i) := eq_ix2 _ _ _ (by show 512 + 1 * j.val = 512 + j.val; omega) (by show 0 + 1 * i.val = i.val; omega)
  rw [e]
  refine (third512_at _ _ _).trans ?_
  show _ = LaySpec.third (fun k => X (ix2 k i)) ⟨512 + j.val, _⟩
  rw [ld_row X 1536 256 _ j i (by omega)]
  unfold LaySpec.third
  rw [dif_neg (by show ¬ _ < _; first | omega | (dsimp only; omega))]
  rw [dif_pos (by show _ < _; first | omega | (dsimp only; omega))]
  exact congrArg (fun r => X (ix2 r i) * LaySpec.qScale) (Fin.ext (by first | omega | (dsimp only; omega)))

/-- An entry of the piece stored over rows 768 on of the third block. -/
theorem third768_at (v : Vec Ideal S64x128 .f32) (i : Fin 128) (j : Fin 64) : k0_pay1 (F := Ideal) v (ix2 j i) = v (ix2 j i) := by
  pointwise [k0_pay1]

/-- The piece stored over rows 768 on holds the third block there. -/
theorem third768 (X : Vec Ideal S3784x128 .f32) (inb : ∀ a : Fin S832x128.rank, (![768, 0] : Fin S832x128.rank → ℕ) a + (![64, 128] : Fin S832x128.rank → ℕ) a ≤ S832x128.size a) (x : S64x128.Idx) :
    k0_pay1 (F := Ideal) (View.ld X (Rect.unit (s := S3784x128) ![1856, 0] ![64, 128] inb_S3784x128_S64x128_1856_0)) x = third X ((Rect.unit (s := S832x128) ![768, 0] ![64, 128] inb).emb x) := by
  obtain ⟨i, j, rfl⟩ : ∃ (i : Fin 128) (j : Fin 64), x = (ix2 j i) := ⟨(x 1), (x 0), eq_ix2 _ _ _ rfl rfl⟩
  have hj : j.val < 64 := j.isLt
  have e : (Rect.unit (s := S832x128) ![768, 0] ![64, 128] inb).emb (ix2 j i) = (ix2 ⟨768 + j.val, by omega⟩ i) := eq_ix2 _ _ _ (by show 768 + 1 * j.val = 768 + j.val; omega) (by show 0 + 1 * i.val = i.val; omega)
  rw [e]
  refine (third768_at _ _ _).trans ?_
  show _ = LaySpec.third (fun k => X (ix2 k i)) ⟨768 + j.val, _⟩
  rw [ld_row X 1856 64 _ j i (by omega)]
  unfold LaySpec.third
  rw [dif_neg (by show ¬ _ < _; first | omega | (dsimp only; omega))]
  rw [dif_neg (by show ¬ _ < _; first | omega | (dsimp only; omega))]
  exact congrArg (fun r => X (ix2 r i)) (Fin.ext (by first | omega | (dsimp only; omega)))

/-- An entry of the fourth block. -/
theorem fourth_at (v : Vec Ideal S8x128 .f32) (i : Fin 128) (j : Fin 16) : k0_pay2 (F := Ideal) v (ix2 j i) = if h : j.val < 8 then v (ix2 ⟨j, h⟩ i) else 0 := by
  pointwise [k0_pay2]

/-- What is stored over the fourth block. -/
theorem fourth_all (X : Vec Ideal S3784x128 .f32) (x : S16x128.Idx) :
    k0_pay2 (F := Ideal) (View.ld X (Rect.unit (s := S3784x128) ![3776, 0] ![8, 128] inb_S3784x128_S8x128_3776_0)) x = fourth X x := by
  obtain ⟨i, j, rfl⟩ : ∃ (i : Fin 128) (j : Fin 16), x = ix2 j i := ⟨x 1, x 0, eq_ix2 _ _ _ rfl rfl⟩
  refine (fourth_at _ _ _).trans ?_
  show _ = LaySpec.fourth (fun k => X (ix2 k i)) j
  unfold LaySpec.fourth
  by_cases h : j.val < 8
  · rw [dif_pos h, dif_pos h, ld_row X 3776 8 _ ⟨j.val, h⟩ i (by first | omega | (dsimp only; omega))]
  · rw [dif_neg h, dif_neg h]

set_option maxHeartbeats 2000000 in
/-- The first block that a grid step leaves. -/
theorem first_block (c : Dev nD) (t : Fin cfg0.N) (y : S128x1536.Idx) : (outsAt0 m c t).1 y = first (iblk m c 0 t) y := by
  unfold outsAt0; frame_open
  frame_out
  generalize iblk m c 0 t = X
  refine View.canon_apply_of_pieces (Val := Elt Ideal) (S := S128x1536) (e := .bf16) (first X) _ (View.PiecesOf.mem ?_) y ?_
  · repeat' (first
      | refine And.intro (fun x => first1024 X (by decide) x) ?_
      | refine And.intro (fun x => first512 X (by decide) x) ?_
      | refine And.intro (fun x => first0 X (by decide) x) ?_
      | exact trivial)
  · exact View.cover_of_tiledBy _ ![128, 128] (by sl_kernel_rfl) y

set_option maxHeartbeats 2000000 in
/-- The second block that a grid step leaves. -/
theorem second_block (c : Dev nD) (t : Fin cfg0.N) (y : S128x1536.Idx) : (outsAt0 m c t).2.1 y = second (iblk m c 0 t) y := by
  unfold outsAt0; frame_open
  frame_out
  generalize iblk m c 0 t = X
  refine View.canon_apply_of_pieces (Val := Elt Ideal) (S := S128x1536) (e := .bf16) (second X) _ (View.PiecesOf.mem ?_) y ?_
  · repeat' (first
      | refine And.intro (fun x => second1408 X (by decide) x) ?_
      | refine And.intro (fun x => second1280 X (by decide) x) ?_
      | refine And.intro (fun x => second1024 X (by decide) x) ?_
      | refine And.intro (fun x => second512 X (by decide) x) ?_
      | refine And.intro (fun x => second0 X (by decide) x) ?_
      | exact trivial)
  · exact View.cover_of_tiledBy _ ![128, 128] (by sl_kernel_rfl) y

set_option maxHeartbeats 2000000 in
/-- The third block that a grid step leaves. -/
theorem third_block (c : Dev nD) (t : Fin cfg0.N) (y : S832x128.Idx) : (outsAt0 m c t).2.2.1 y = third (iblk m c 0 t) y := by
  unfold outsAt0; frame_open
  frame_out
  generalize iblk m c 0 t = X
  refine View.canon_apply_of_pieces (Val := Elt Ideal) (S := S832x128) (e := .bf16) (third X) _ (View.PiecesOf.mem ?_) y ?_
  · repeat' (first
      | refine And.intro (fun x => third768 X (by decide) x) ?_
      | refine And.intro (fun x => third512 X (by decide) x) ?_
      | refine And.intro (fun x => third0 X (by decide) x) ?_
      | exact trivial)
  · exact View.cover_of_tiledBy _ ![64, 128] (by sl_kernel_rfl) y

/-- The fourth block that a grid step leaves. -/
theorem fourth_block (c : Dev nD) (t : Fin cfg0.N) (y : S16x128.Idx) : (outsAt0 m c t).2.2.2 y = fourth (iblk m c 0 t) y := by
  unfold outsAt0; frame_open
  frame_out
  generalize iblk m c 0 t = X
  exact fourth_all X y

end Cert.Kernel4Ideal.Lay
end
-- ==== Proof.LayFinal.lean ====
module

public import proofs.«01_k».proof.Defs
public import proofs.«01_k».proof.Proof.LayBlock
public import proofs.«01_k».proof.Proof.LayRef

@[expose] public section

set_option maxRecDepth 16384

noncomputable section

/-!
# The weight layouts that the kernel leaves are the reference's
-/

namespace Cert.Kernel4Ideal.Lay

open Idealize.ShloMosaic Idealize.ShloMosaic.TcCoe Idealize.SL.Sem
open Cert.Kernel4Ideal Cert.Kernel4Ideal.Gen

variable (m : (ℓ : Loc nD τ sig) → Buf (Elt Ideal) ℓ)

/-- The block of every window at a grid point. -/
theorem idx : ∀ t : Fin cfg0.N, win0_0.index t = ![0, (grid0.coords t 0).val] ∧ win0_1.index t = ![(grid0.coords t 0).val, 0]
    ∧ win0_2.index t = ![(grid0.coords t 0).val, 0] ∧ win0_3.index t = ![0, (grid0.coords t 0).val] ∧ win0_4.index t = ![0, (grid0.coords t 0).val] :=
  (by decide +kernel : ∀ t : Fin grid0.N, _)

/-- A row of the weight matrix as a grid point reads it. -/
theorem w_read (c : Dev nD) (t : Fin cfg0.N) (k : Fin 3784) (i : Fin 128) (d : Fin 1024) (hd : (d : ℕ) = (grid0.coords t 0).val * 128 + i) :
    iblk m c 0 t (ix2 k i) = m ((c : Thread nD τ).loc main_arg0) (ix3 0 d k) := by
  have e : ((cfg0.win 0).blk t).view.emb (ix2 k i) = (ix2 k d : S3784x1024.Idx) := by blk_ext [idx t]
  unfold iblk
  show V m c main_v1 (((cfg0.win 0).blk t).view.emb (ix2 k i)) = _
  rw [e]
  entry_read
  pointwise []

/-- The rows of the weight matrix as a grid point reads them. -/
theorem w_rows (c : Dev nD) (t : Fin cfg0.N) (i : Fin 128) (d : Fin 1024) (hd : (d : ℕ) = (grid0.coords t 0).val * 128 + i) :
    (fun k : Fin 3784 => (iblk m c 0 t (ix2 k i) : EReal)) = fun k => m ((c : Thread nD τ).loc main_arg0) (ix3 0 d k) :=
  funext fun k => w_read m c t k i d hd

/-- The first layout at a grid point is the reference's. -/
theorem first_point (c : Dev nD) (t : Fin cfg0.N) (y : S128x1536.Idx) :
    first (iblk m c 0 t) y = Cert.Reference4Ideal.Lay.first (F := Ideal) (m ((c : Thread nD τ).loc main_arg0)) (((cfg0.win 1).blk t).view.emb y) := by
  generalize hj : ((cfg0.win 1).blk t).view.emb y = j
  have hj0 : (j 0 : ℕ) = (grid0.coords t 0).val * 128 + y 0 := by rw [← hj]; blk_simp [idx t]
  have hj1 : (j 1 : ℕ) = y 1 := by rw [← hj]; blk_simp [idx t]
  clear hj
  rw [eq_ix2 j (j 0) (y 1) rfl hj1]
  refine Eq.trans ?_ (Cert.Reference4Ideal.Lay.first_at _ _ _).symm
  exact congrArg (fun f => LaySpec.first f (y 1)) (w_rows m c t (y 0) (j 0) hj0)

/-- The first layout that the kernel leaves is the reference's. -/
theorem final_first (c : Dev nD) : (dats m 0 c).arrAt 1 cfg0.N = Cert.Reference4Ideal.Lay.first (F := Ideal) (m ((c : Thread nD τ).loc main_arg0)) := by
  refine (dats m 0 c).arrAt_eq_of_covers 1 _ (by decide +kernel) fun t hf y => ?_
  blk_simp
  rw [after0_1, first_block]
  exact first_point m c t y

/-- The second layout at a grid point is the reference's. -/
theorem second_point (c : Dev nD) (t : Fin cfg0.N) (y : S128x1536.Idx) :
    second (iblk m c 0 t) y = Cert.Reference4Ideal.Lay.second (F := Ideal) (m ((c : Thread nD τ).loc main_arg0)) (((cfg0.win 2).blk t).view.emb y) := by
  generalize hj : ((cfg0.win 2).blk t).view.emb y = j
  have hj0 : (j 0 : ℕ) = (grid0.coords t 0).val * 128 + y 0 := by rw [← hj]; blk_simp [idx t]
  have hj1 : (j 1 : ℕ) = y 1 := by rw [← hj]; blk_simp [idx t]
  clear hj
  rw [eq_ix2 j (j 0) (y 1) rfl hj1]
  refine Eq.trans ?_ (Cert.Reference4Ideal.Lay.second_at _ _ _).symm
  exact congrArg (fun f => LaySpec.second f (y 1)) (w_rows m c t (y 0) (j 0) hj0)

/-- The second layout that the kernel leaves is the reference's. -/
theorem final_second (c : Dev nD) : (dats m 0 c).arrAt 2 cfg0.N = Cert.Reference4Ideal.Lay.second (F := Ideal) (m ((c : Thread nD τ).loc main_arg0)) := by
  refine (dats m 0 c).arrAt_eq_of_covers 2 _ (by decide +kernel) fun t hf y => ?_
  blk_simp
  rw [after0_2, second_block]
  exact second_point m c t y

/-- The third layout at a grid point is the reference's. -/
theorem third_point (c : Dev nD) (t : Fin cfg0.N) (y : S832x128.Idx) :
    third (iblk m c 0 t) y = Cert.Reference4Ideal.Lay.third (F := Ideal) (m ((c : Thread nD τ).loc main_arg0)) (((cfg0.win 3).blk t).view.emb y) := by
  generalize hj : ((cfg0.win 3).blk t).view.emb y = j
  have hj1 : (j 1 : ℕ) = (grid0.coords t 0).val * 128 + y 1 := by rw [← hj]; blk_simp [idx t]
  have hj0 : (j 0 : ℕ) = y 0 := by rw [← hj]; blk_simp [idx t]
  clear hj
  rw [eq_ix2 j (y 0) (j 1) hj0 rfl]
  refine Eq.trans ?_ (Cert.Reference4Ideal.Lay.third_at _ _ _).symm
  exact congrArg (fun f => LaySpec.third f (y 0)) (w_rows m c t (y 1) (j 1) hj1)

/-- The third layout that the kernel leaves is the reference's. -/
theorem final_third (c : Dev nD) : (dats m 0 c).arrAt 3 cfg0.N = Cert.Reference4Ideal.Lay.third (F := Ideal) (m ((c : Thread nD τ).loc main_arg0)) := by
  refine (dats m 0 c).arrAt_eq_of_covers 3 _ (by decide +kernel) fun t hf y => ?_
  blk_simp
  rw [after0_3, third_block]
  exact third_point m c t y

/-- The fourth layout at a grid point is the reference's. -/
theorem fourth_point (c : Dev nD) (t : Fin cfg0.N) (y : S16x128.Idx) :
    fourth (iblk m c 0 t) y = Cert.Reference4Ideal.Lay.fourth (F := Ideal) (m ((c : Thread nD τ).loc main_arg0)) (((cfg0.win 4).blk t).view.emb y) := by
  generalize hj : ((cfg0.win 4).blk t).view.emb y = j
  have hj1 : (j 1 : ℕ) = (grid0.coords t 0).val * 128 + y 1 := by rw [← hj]; blk_simp [idx t]
  have hj0 : (j 0 : ℕ) = y 0 := by rw [← hj]; blk_simp [idx t]
  clear hj
  rw [eq_ix2 j (y 0) (j 1) hj0 rfl]
  refine Eq.trans ?_ (Cert.Reference4Ideal.Lay.fourth_at _ _ _).symm
  exact congrArg (fun f => LaySpec.fourth f (y 0)) (w_rows m c t (y 1) (j 1) hj1)

/-- The fourth layout that the kernel leaves is the reference's. -/
theorem final_fourth (c : Dev nD) : (dats m 0 c).arrAt 4 cfg0.N = Cert.Reference4Ideal.Lay.fourth (F := Ideal) (m ((c : Thread nD τ).loc main_arg0)) := by
  refine (dats m 0 c).arrAt_eq_of_covers 4 _ (by decide +kernel) fun t hf y => ?_
  blk_simp
  rw [after0_4, fourth_block]
  exact fourth_point m c t y

end Cert.Kernel4Ideal.Lay

namespace Cert.Lay

open Idealize.ShloMosaic Idealize.SL.Sem

/-- The weight-layout kernel and its reference leave the same four results. -/
theorem algebraic : Cert.algebraic_Kernel4Ideal_Reference4Ideal := by
  pair_intro
  · run_from Cert.Kernel4Ideal.Value.run_blocks m g
  · run_from Cert.Reference4Ideal.Value.run m' g'
    · exact (congrArg Cert.Reference4Ideal.Lay.first (hagree c)).trans (Cert.Kernel4Ideal.Lay.final_first m c).symm
    · exact (congrArg Cert.Reference4Ideal.Lay.second (hagree c)).trans (Cert.Kernel4Ideal.Lay.final_second m c).symm
    · exact (congrArg Cert.Reference4Ideal.Lay.third (hagree c)).trans (Cert.Kernel4Ideal.Lay.final_third m c).symm
    · exact (congrArg Cert.Reference4Ideal.Lay.fourth (hagree c)).trans (Cert.Kernel4Ideal.Lay.final_fourth m c).symm

end Cert.Lay
end
-- ==== Proof.ProjBlock.lean ====
module

public import proofs.«01_k».proof.Proof.Gen.Kernel2Ideal.Value
public import proofs.«01_k».proof.Proof.Spec
public import Idealize.ShloMosaic.Lib.Pipeline.ValueKit
public import Idealize.ShloMosaic.Lib.Pipeline.ReadBack

@[expose] public section

set_option maxRecDepth 16384

noncomputable section

/-!
# The strided re-arrangements of the projection kernel

The product of a grid step is kept in a scratch array by groups of 128 lanes and read back by strided rows.
-/

namespace Cert.Kernel2Ideal.Proj

open Idealize.ShloMosaic Idealize.ShloMosaic.TcCoe Idealize.SL.Sem
open Cert.Kernel2Ideal Cert.Kernel2Ideal.Gen

/-- A load lying inside the last piece written reads that piece. -/
theorem read_inside {Val : EltTy → Type} [∀ e, Nonempty (Val e)] {sig : RefSig} {κ : Kind} {sp : Space} {s : Shape} {e : EltTy} (v : View sig κ sp s e)
    (off size : Fin s.rank → ℕ) (inb) (w : (Rect.unit off size inb).shape.Idx → Val e) (L : List (View.Piece Val s e)) (B : LoadRect s)
    (i : B.shape.Idx → (Rect.unit off size inb).shape.Idx) (h : ∀ j a, B.off a + B.stride a * (j a : ℕ) = off a + (i j a : ℕ)) :
    v.readCov (⟨Rect.unit off size inb, w⟩ :: L) B = fun j => w (i j) := by
  rw [View.readCov_eq_canon']
  funext j
  have e : B.idx j = (Rect.unit off size inb).emb (i j) := funext fun a => Fin.ext (by
    rw [Rect.emb_apply]; show B.off a + B.stride a * (j a : ℕ) = off a + 1 * (i j a : ℕ); rw [h]; omega)
  rw [e, View.canon_cons_emb]

/-- Every fourth row of a 512-row slab from row `r` on. -/
def rows4 (w : Vec Ideal S1x512x128 .f32) (r : ℕ) : Vec Ideal S1x128x128 .f32 :=
  fun j => w (ix3 0 ⟨(r + 4 * (j 1).val) % 512, Nat.mod_lt _ (by decide)⟩ (j 2))

/-- Every fourth row of a 128-row quarter from row `r` on. -/
def rows16 (w : Vec Ideal S1x128x128 .f32) (r : ℕ) : Vec Ideal S1x32x128 .f32 :=
  fun j => w (ix3 0 ⟨(r + 4 * (j 1).val) % 128, Nat.mod_lt _ (by decide)⟩ (j 2))

/-- A strided load of the first scratch array reads every fourth row of the slab last stored. -/
theorem read_rows4 {sig : RefSig} {κ : Kind} {sp : Space} (v : View sig κ sp S12x512x128 .f32) (g r : ℕ)
    (inb : ∀ a, (![g, 0, 0] : Fin 3 → ℕ) a + S1x512x128.size a ≤ S12x512x128.size a) (w : Vec Ideal S1x512x128 .f32)
    (L : List (View.Piece (Elt Ideal) S12x512x128 .f32))
    (inb' : ∀ a, S1x128x128.size a = 0 ∨ (![g, r, 0] : Fin 3 → ℕ) a + (![1, 4, 1] : Fin 3 → ℕ) a * (S1x128x128.size a - 1) < S12x512x128.size a)
    (hr : r < 4) :
    v.readCov ((⟨Rect.unit ![g, 0, 0] S1x512x128.size inb, w⟩ : View.Piece (Elt Ideal) S12x512x128 .f32) :: L)
      (⟨![g, r, 0], S1x128x128.size, ![1, 4, 1], inb'⟩ : LoadRect S12x512x128) = rows4 w r :=
  read_inside v ![g, 0, 0] S1x512x128.size inb w L (⟨![g, r, 0], S1x128x128.size, ![1, 4, 1], inb'⟩ : LoadRect S12x512x128) (fun j => ix3 0 ⟨(r + 4 * (j 1).val) % 512, Nat.mod_lt _ (by decide)⟩ (j 2)) (fun j a => by
    have h0 : (j 0 : ℕ) < 1 := (j 0).isLt
    have h1 : (j 1 : ℕ) < 128 := (j 1).isLt
    fin_cases a
    · show g + 1 * (j 0 : ℕ) = g + 0; omega
    · show r + 4 * (j 1 : ℕ) = 0 + (r + 4 * (j 1 : ℕ)) % 512; omega
    · show 0 + 1 * (j 2 : ℕ) = 0 + (j 2 : ℕ); omega)

/-- A strided load of the second scratch array reads every fourth row of the quarter it lies in. -/
theorem read_rows16 {sig : RefSig} {κ : Kind} {sp : Space} (v : View sig κ sp S12x512x128 .f32) (g o p : ℕ)
    (inb : ∀ a, (![g, o, 0] : Fin 3 → ℕ) a + S1x128x128.size a ≤ S12x512x128.size a) (w : Vec Ideal S1x128x128 .f32)
    (L : List (View.Piece (Elt Ideal) S12x512x128 .f32))
    (inb' : ∀ a, S1x32x128.size a = 0 ∨ (![g, p, 0] : Fin 3 → ℕ) a + (![1, 4, 1] : Fin 3 → ℕ) a * (S1x32x128.size a - 1) < S12x512x128.size a)
    (hp : o ≤ p ∧ p < o + 4) :
    v.readCov ((⟨Rect.unit ![g, o, 0] S1x128x128.size inb, w⟩ : View.Piece (Elt Ideal) S12x512x128 .f32) :: L)
      (⟨![g, p, 0], S1x32x128.size, ![1, 4, 1], inb'⟩ : LoadRect S12x512x128) = rows16 w (p - o) :=
  read_inside v ![g, o, 0] S1x128x128.size inb w L (⟨![g, p, 0], S1x32x128.size, ![1, 4, 1], inb'⟩ : LoadRect S12x512x128) (fun j => ix3 0 ⟨(p - o + 4 * (j 1).val) % 128, Nat.mod_lt _ (by decide)⟩ (j 2)) (fun j a => by
    have h0 : (j 0 : ℕ) < 1 := (j 0).isLt
    have h1 : (j 1 : ℕ) < 32 := (j 1).isLt
    fin_cases a
    · show g + 1 * (j 0 : ℕ) = g + 0; omega
    · show p + 4 * (j 1 : ℕ) = o + (p - o + 4 * (j 1 : ℕ)) % 128; omega
    · show 0 + 1 * (j 2 : ℕ) = 0 + (j 2 : ℕ); omega)

/-- The lanes of a product from lane `l` on, as a slab. -/
def slab (X : Vec Ideal S512x1536 .f32) (l : ℕ) (h : S512x1536.Slices ![0, l] S512x128) : Vec Ideal S1x512x128 .f32 :=
  shapeCast S1x512x128 (extractStridedSlice S512x128 ![0, l] X h) shapeCasts_S512x128_S1x512x128

/-- Rows of a slab as they go to the second scratch array. -/
def quarter (w : Vec Ideal S1x128x128 .f32) : Vec Ideal S1x128x128 .f32 :=
  shapeCast S1x128x128 (shapeCast S128x128 w shapeCasts_S1x128x128_S128x128) shapeCasts_S128x128_S1x128x128

/-- Rows of a slab as they go to the result of stride 4. -/
def out4 (w : Vec Ideal S1x128x128 .f32) : Vec Ideal S1x1x128x128 .bf16 :=
  shapeCast S1x1x128x128 (truncf (F := Ideal) .bf16 (shapeCast S128x128 w shapeCasts_S1x128x128_S128x128) bitsLt_bf16_f32) shapeCasts_S128x128_S1x1x128x128

/-- Rows of a quarter as they go to the result of stride 16. -/
def out16 (w : Vec Ideal S1x32x128 .f32) : Vec Ideal S1x1x32x128 .bf16 :=
  shapeCast S1x1x32x128 (truncf (F := Ideal) .bf16 (shapeCast S32x128 w shapeCasts_S1x32x128_S32x128) bitsLt_bf16_f32) shapeCasts_S32x128_S1x1x32x128

/-- An entry of a slab. -/
theorem slab_apply (X : Vec Ideal S512x1536 .f32) (l : ℕ) (h : S512x1536.Slices ![0, l] S512x128) (hl : l + 128 ≤ 1536) (i : Fin 512) (j : Fin 128) :
    slab X l h (ix3 0 i j) = X (ix2 i ⟨l + j.val, by omega⟩) := by
  pointwise [slab]

/-- An entry of a stored quarter. -/
theorem quarter_apply (w : Vec Ideal S1x128x128 .f32) (i j : Fin 128) : quarter w (ix3 0 i j) = w (ix3 0 i j) := by
  pointwise [quarter]

/-- An entry of a block stored for stride 4. -/
theorem out4_apply (w : Vec Ideal S1x128x128 .f32) (x : S1x1x128x128.Idx) : out4 w x = w (ix3 0 (x 2) (x 3)) := by
  pointwise [out4]

/-- An entry of a block stored for stride 16. -/
theorem out16_apply (w : Vec Ideal S1x32x128 .f32) (x : S1x1x32x128.Idx) : out16 w x = w (ix3 0 (x 2) (x 3)) := by
  pointwise [out16]

/-- The rows of a product by residues modulo 4. -/
def by4 (X : Vec Ideal S512x1536 .f32) : S1x4x128x1536.Idx → EReal :=
  fun z => X (ix2 ⟨(z 1 : ℕ) + 4 * (z 2 : ℕ), by have h1 : (z 1 : ℕ) < 4 := (z 1).isLt; have h2 : (z 2 : ℕ) < 128 := (z 2).isLt; omega⟩ (z 3))

/-- The rows of a product by residues modulo 16. -/
def by16 (X : Vec Ideal S512x1536 .f32) : S1x16x32x1536.Idx → EReal :=
  fun z => X (ix2 ⟨(z 1 : ℕ) + 16 * (z 2 : ℕ), by have h1 : (z 1 : ℕ) < 16 := (z 1).isLt; have h2 : (z 2 : ℕ) < 32 := (z 2).isLt; omega⟩ (z 3))

/-- A block stored for stride 4 holds the product's rows there. -/
theorem piece4 (X : Vec Ideal S512x1536 .f32) (r l : ℕ) (h : S512x1536.Slices ![0, l] S512x128) (hr : r < 4) (hl : l + 128 ≤ 1536)
    (inb : ∀ a : Fin S1x4x128x1536.rank, (![0, r, 0, l] : Fin S1x4x128x1536.rank → ℕ) a + (![1, 1, 128, 128] : Fin S1x4x128x1536.rank → ℕ) a ≤ S1x4x128x1536.size a) (x : S1x1x128x128.Idx) :
    out4 (rows4 (slab X l h) r) x = by4 X ((Rect.unit (s := S1x4x128x1536) ![0, r, 0, l] ![1, 1, 128, 128] inb).emb x) := by
  have h1 : (x 1 : ℕ) < 1 := (x 1).isLt
  have h2 : (x 2 : ℕ) < 128 := (x 2).isLt
  refine (out4_apply _ x).trans ((slab_apply X l h hl _ _).trans (congrArg X (congrArg₂ ix2 (Fin.ext ?_) (Fin.ext ?_))))
  · show (r + 4 * (x 2 : ℕ)) % 512 = (r + 1 * (x 1 : ℕ)) + 4 * (0 + 1 * (x 2 : ℕ)); omega
  · show l + (x 3 : ℕ) = l + 1 * (x 3 : ℕ); omega

/-- A block stored for stride 16 holds the product's rows there. -/
theorem piece16 (X : Vec Ideal S512x1536 .f32) (r q p l : ℕ) (h : S512x1536.Slices ![0, l] S512x128) (hr : r = q + 4 * p) (hq : q < 4) (hp : p < 4) (hl : l + 128 ≤ 1536)
    (inb : ∀ a : Fin S1x16x32x1536.rank, (![0, r, 0, l] : Fin S1x16x32x1536.rank → ℕ) a + (![1, 1, 32, 128] : Fin S1x16x32x1536.rank → ℕ) a ≤ S1x16x32x1536.size a) (x : S1x1x32x128.Idx) :
    out16 (rows16 (quarter (rows4 (slab X l h) q)) p) x = by16 X ((Rect.unit (s := S1x16x32x1536) ![0, r, 0, l] ![1, 1, 32, 128] inb).emb x) := by
  have h1 : (x 1 : ℕ) < 1 := (x 1).isLt
  have h2 : (x 2 : ℕ) < 32 := (x 2).isLt
  refine (out16_apply _ x).trans ((quarter_apply _ _ _).trans ((slab_apply X l h hl _ _).trans (congrArg X (congrArg₂ ix2 (Fin.ext ?_) (Fin.ext ?_)))))
  · show (q + 4 * ((p + 4 * (x 2 : ℕ)) % 128)) % 512 = (r + 1 * (x 1 : ℕ)) + 16 * (0 + 1 * (x 2 : ℕ)); omega
  · show l + (x 3 : ℕ) = l + 1 * (x 3 : ℕ); omega

end Cert.Kernel2Ideal.Proj
end
-- ==== Proof.ProjRows.lean ====
module

public import proofs.«01_k».proof.Proof.ProjBlock

@[expose] public section

set_option maxRecDepth 16384

noncomputable section

/-!
# The products of a grid step of the projection kernel, entry by entry
-/

namespace Cert.Kernel2Ideal.Proj

open Idealize.ShloMosaic Idealize.ShloMosaic.TcCoe Idealize.SL.Sem
open Cert.Kernel2Ideal Cert.Kernel2Ideal.Gen

variable (X0 : Vec Ideal S1x512x1024 .f32) (X1 : Vec Ideal S1x1024 .f32)

/-- An entry of the first product. -/
theorem product_at (X2 : Vec Ideal S1024x1536 .bf16) (r : Fin 512) (n : Fin 1536) :
    k0_pay5 X0 X1 X2 (ix2 r n) = Spec.kvOf (fun k => X0 (ix3 0 r k)) (fun k => X1 (ix2 0 k)) (fun k => X2 (ix2 k n)) := by
  unfold Spec.kvOf Spec.scaleOf
  pointwise [k0_pay5, k0_pay4]

/-- An entry of the first result. -/
theorem plain_at (X2 : Vec Ideal S1024x1536 .bf16) (r : Fin 512) (n : Fin 1536) :
    k0_pay6 X0 X1 X2 (ix3 0 r n) = Spec.kvOf (fun k => X0 (ix3 0 r k)) (fun k => X1 (ix2 0 k)) (fun k => X2 (ix2 k n)) := by
  rw [← product_at]
  unfold k0_pay6
  generalize k0_pay5 X0 X1 X2 = P
  pointwise []

/-- An entry of the second product. -/
theorem second_at (X3 : Vec Ideal S1024x1536 .bf16) (r : Fin 512) (n : Fin 1536) :
    k0_pay1 (k0_pay388 (k0_pay4 X0 X1) X3) (ix3 0 r n) = Spec.kvOf (fun k => X0 (ix3 0 r k)) (fun k => X1 (ix2 0 k)) (fun k => X3 (ix2 k n)) := by
  unfold Spec.kvOf Spec.scaleOf
  pointwise [k0_pay1, k0_pay388, k0_pay4]

/-- An entry of the transposed product with 832 rows. -/
theorem wide_at (X4 : Vec Ideal S832x1024 .bf16) (n : Fin 832) (r : Fin 512) :
    k0_pay2 (k0_pay4 X0 X1) X4 (ix3 0 n r) = Spec.kvOf (fun k => X0 (ix3 0 r k)) (fun k => X1 (ix2 0 k)) (fun k => X4 (ix2 n k)) := by
  unfold Spec.kvOf Spec.scaleOf
  pointwise [k0_pay2, k0_pay4]
  exact Finset.sum_congr rfl fun k _ => mul_comm _ _

/-- An entry of the transposed product with 16 rows. -/
theorem narrow_at (X5 : Vec Ideal S16x1024 .bf16) (n : Fin 16) (r : Fin 512) :
    k0_pay3 (k0_pay4 X0 X1) X5 (ix3 0 n r) = Spec.kvOf (fun k => X0 (ix3 0 r k)) (fun k => X1 (ix2 0 k)) (fun k => X5 (ix2 n k)) := by
  unfold Spec.kvOf Spec.scaleOf
  pointwise [k0_pay3, k0_pay4]
  exact Finset.sum_congr rfl fun k _ => mul_comm _ _

variable (m : (ℓ : Loc nD τ sig) → Buf (Elt Ideal) ℓ)

/-- The block of the first result a grid step leaves. -/
theorem block_plain (c : Dev nD) (t : Fin cfg0.N) (y : S1x512x1536.Idx) :
    (outsAt0 m c t).1 y = k0_pay6 (iblk m c 0 t) (iblk m c 1 t) (iblk m c 2 t) y := by
  unfold outsAt0; frame_open; frame_out

/-- The block of the second product a grid step leaves. -/
theorem block_second (c : Dev nD) (t : Fin cfg0.N) (y : S1x512x1536.Idx) :
    (outsAt0 m c t).2.2.2.1 y = k0_pay1 (k0_pay388 (k0_pay4 (iblk m c 0 t) (iblk m c 1 t)) (iblk m c 3 t)) y := by
  unfold outsAt0; frame_open; frame_out

/-- The block with 832 rows a grid step leaves. -/
theorem block_wide (c : Dev nD) (t : Fin cfg0.N) (y : S1x832x512.Idx) :
    (outsAt0 m c t).2.2.2.2.1 y = k0_pay2 (k0_pay4 (iblk m c 0 t) (iblk m c 1 t)) (iblk m c 4 t) y := by
  unfold outsAt0; frame_open; frame_out

/-- The block with 16 rows a grid step leaves. -/
theorem block_narrow (c : Dev nD) (t : Fin cfg0.N) (y : S1x16x512.Idx) :
    (outsAt0 m c t).2.2.2.2.2 y = k0_pay3 (k0_pay4 (iblk m c 0 t) (iblk m c 1 t)) (iblk m c 5 t) y := by
  unfold outsAt0; frame_open; frame_out

end Cert.Kernel2Ideal.Proj
end
-- ==== Proof.ProjWin4.lean ====
module

public import proofs.«01_k».proof.Proof.ProjBlock

@[expose] public section

set_option maxRecDepth 16384

noncomputable section

/-!
# The block of stride 4 a grid step leaves
-/

namespace Cert.Kernel2Ideal.Proj

open Idealize.ShloMosaic Idealize.ShloMosaic.TcCoe Idealize.SL.Sem
open Cert.Kernel2Ideal Cert.Kernel2Ideal.Gen

variable (m : (ℓ : Loc nD τ sig) → Buf (Elt Ideal) ℓ)

set_option maxHeartbeats 2000000 in
/-- The block a grid step leaves holds the product's rows by residues modulo 4. -/
theorem block4 (c : Dev nD) (t : Fin cfg0.N) (y : S1x4x128x1536.Idx) :
    (outsAt0 m c t).2.1 y = by4 (k0_pay5 (iblk m c 0 t) (iblk m c 1 t) (iblk m c 2 t)) y := by
  unfold outsAt0; frame_open
  simp (disch := decide) only [↓ read_rows4]
  frame_out
  generalize iblk m c 0 t = X0, iblk m c 1 t = X1, iblk m c 2 t = X2
  refine View.canon_apply_of_pieces (Val := Elt Ideal) (S := S1x4x128x1536) (e := .bf16) (by4 (k0_pay5 X0 X1 X2)) _ (View.PiecesOf.mem ?_) y ?_
  · repeat' (first
      | refine And.intro (fun x => piece4 (k0_pay5 X0 X1 X2) _ _ (by decide) (by decide) (by decide) (by decide) x) ?_
      | exact trivial)
  · exact View.cover_of_tiled_head _ _ _ (by rfl) y

end Cert.Kernel2Ideal.Proj
end
-- ==== Proof.ProjWin16.lean ====
module

public import proofs.«01_k».proof.Proof.ProjBlock

@[expose] public section

set_option maxRecDepth 16384

noncomputable section

/-!
# The block of stride 16 a grid step leaves
-/

namespace Cert.Kernel2Ideal.Proj

open Idealize.ShloMosaic Idealize.ShloMosaic.TcCoe Idealize.SL.Sem
open Cert.Kernel2Ideal Cert.Kernel2Ideal.Gen

variable (m : (ℓ : Loc nD τ sig) → Buf (Elt Ideal) ℓ)

set_option maxHeartbeats 2000000 in
/-- The block a grid step leaves holds the product's rows by residues modulo 16. -/
theorem block16 (c : Dev nD) (t : Fin cfg0.N) (y : S1x16x32x1536.Idx) :
    (outsAt0 m c t).2.2.1 y = by16 (k0_pay5 (iblk m c 0 t) (iblk m c 1 t) (iblk m c 2 t)) y := by
  unfold outsAt0; frame_open
  simp (disch := decide) only [↓ read_rows4, ↓ read_rows16, ↓ View.readCov_skip]
  frame_out
  generalize iblk m c 0 t = X0, iblk m c 1 t = X1, iblk m c 2 t = X2
  refine View.canon_apply_of_pieces (Val := Elt Ideal) (S := S1x16x32x1536) (e := .bf16) (by16 (k0_pay5 X0 X1 X2)) _ (View.PiecesOf.mem ?_) y ?_
  · repeat' (first
      | refine And.intro (fun x => piece16 (k0_pay5 X0 X1 X2) _ _ _ _ (by decide) (by decide) (by decide) (by decide) (by decide) (by decide) x) ?_
      | exact trivial)
  · exact View.cover_of_tiled_head _ _ _ (by rfl) y

end Cert.Kernel2Ideal.Proj
end
-- ==== Proof.ProjFinal.lean ====
module

public import proofs.«01_k».proof.Proof.ProjRows
public import proofs.«01_k».proof.Proof.ProjWin4
public import proofs.«01_k».proof.Proof.ProjWin16
public import proofs.«01_k».proof.Proof.ProjRef

@[expose] public section

set_option maxRecDepth 16384

noncomputable section

/-!
# The projection kernel's results are the reference's
-/

namespace Cert.Kernel2Ideal.Proj

open Idealize.ShloMosaic Idealize.ShloMosaic.TcCoe Idealize.SL.Sem
open Cert.Kernel2Ideal Cert.Kernel2Ideal.Gen

variable (m : (ℓ : Loc nD τ sig) → Buf (Elt Ideal) ℓ)

/-- The block of every window at a grid point. -/
theorem idx : ∀ t : Fin cfg0.N, win0_0.index t = ![(grid0.coords t 0).val, (grid0.coords t 1).val, 0] ∧ win0_1.index t = ![0, 0] ∧ win0_2.index t = ![0, 0]
    ∧ win0_3.index t = ![0, 0] ∧ win0_4.index t = ![0, 0] ∧ win0_5.index t = ![0, 0] ∧ win0_6.index t = ![(grid0.coords t 0).val, (grid0.coords t 1).val, 0]
    ∧ win0_7.index t = ![(grid0.coords t 0).val, 0, (grid0.coords t 1).val, 0] ∧ win0_8.index t = ![(grid0.coords t 0).val, 0, (grid0.coords t 1).val, 0]
    ∧ win0_9.index t = ![(grid0.coords t 0).val, (grid0.coords t 1).val, 0] ∧ win0_10.index t = ![(grid0.coords t 0).val, 0, (grid0.coords t 1).val]
    ∧ win0_11.index t = ![(grid0.coords t 0).val, 0, (grid0.coords t 1).val] :=
  (by decide +kernel : ∀ t : Fin grid0.N, _)

/-- An entry of a product at a grid point, from the argument arrays. -/
theorem row (c : Dev nD) (t : Fin cfg0.N) (r : Fin 512) (b : Fin 8) (s : Fin 2048) (w w' : Fin 1024 → EReal) (hb : (b : ℕ) = (grid0.coords t 0).val)
    (hs : (s : ℕ) = (grid0.coords t 1).val * 512 + r) (hw : ∀ k, w k = w' k) :
    Spec.kvOf (fun k => iblk m c 0 t (ix3 0 r k)) (fun k => iblk m c 1 t (ix2 0 k)) w
      = Spec.kvOf (fun k => m ((c : Thread nD τ).loc main_arg0) (ix3 b s k)) (fun k => m ((c : Thread nD τ).loc main_arg1) (ix2 0 k)) w' := by
  have h0 : (fun k : Fin 1024 => (iblk m c 0 t (ix3 0 r k) : EReal)) = fun k => m ((c : Thread nD τ).loc main_arg0) (ix3 b s k) := funext fun k => by blk_ext [iblk, V, idx t]
  have h1 : (fun k : Fin 1024 => (iblk m c 1 t (ix2 0 k) : EReal)) = fun k => m ((c : Thread nD τ).loc main_arg1) (ix2 0 k) := funext fun k => by blk_ext [iblk, V, idx t]
  obtain rfl : w = w' := funext hw
  rw [h0, h1]

/-- A rank-3 index from its coordinates. -/
theorem eq_ix3 {a b c : ℕ} (j : (⟨3, ![a, b, c]⟩ : Shape).Idx) (j0 : Fin a) (j1 : Fin b) (j2 : Fin c) (h0 : (j 0 : ℕ) = j0) (h1 : (j 1 : ℕ) = j1) (h2 : (j 2 : ℕ) = j2) :
    j = ix3 j0 j1 j2 := by
  funext i
  match i with
  | 0 => exact Fin.ext h0
  | 1 => exact Fin.ext h1
  | 2 => exact Fin.ext h2

/-- A rank-4 index from its coordinates. -/
theorem eq_ix4 {a b c d : ℕ} (j : (⟨4, ![a, b, c, d]⟩ : Shape).Idx) (j0 : Fin a) (j1 : Fin b) (j2 : Fin c) (j3 : Fin d) (h0 : (j 0 : ℕ) = j0) (h1 : (j 1 : ℕ) = j1)
    (h2 : (j 2 : ℕ) = j2) (h3 : (j 3 : ℕ) = j3) : j = ix4 j0 j1 j2 j3 := by
  funext i
  match i with
  | 0 => exact Fin.ext h0
  | 1 => exact Fin.ext h1
  | 2 => exact Fin.ext h2
  | 3 => exact Fin.ext h3

/-- The plain product at a grid point is the reference's. -/
theorem point_plain (c : Dev nD) (t : Fin cfg0.N) (y : S1x512x1536.Idx) :
    k0_pay6 (iblk m c 0 t) (iblk m c 1 t) (iblk m c 2 t) y
      = Cert.Reference2Ideal.Proj.plain (F := Ideal) (m ((c : Thread nD τ).loc main_arg0)) (m ((c : Thread nD τ).loc main_arg1)) (m ((c : Thread nD τ).loc main_arg2))
          (((cfg0.win 6).blk t).view.emb y) := by
  generalize hj : ((cfg0.win 6).blk t).view.emb y = j
  have hy0 : (y 0 : ℕ) < 1 := (y 0).isLt
  have hj0 : (j 0 : ℕ) = (grid0.coords t 0).val := by rw [← hj]; blk_simp [idx t] <;> omega
  have hj1 : (j 1 : ℕ) = (grid0.coords t 1).val * 512 + y 1 := by rw [← hj]; blk_simp [idx t]
  have hj2 : (j 2 : ℕ) = y 2 := by rw [← hj]; blk_simp [idx t]
  clear hj
  rw [eq_ix3 y 0 (y 1) (y 2) (by show _ = 0; omega) rfl rfl, eq_ix3 j (j 0) (j 1) (y 2) rfl rfl hj2]
  refine (plain_at _ _ _ _ _).trans (Eq.trans ?_ (Cert.Reference2Ideal.Proj.plain_at _ _ _ _ _ _).symm)
  exact row m c t _ _ _ _ _ hj0 hj1 fun k => by blk_ext [iblk, V, idx t]

/-- The plain product the kernel leaves is the reference's. -/
theorem final_plain (c : Dev nD) : (dats m 0 c).arrAt 6 cfg0.N
    = Cert.Reference2Ideal.Proj.plain (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, block_plain]
  exact point_plain m c t y

/-- The second product at a grid point is the reference's. -/
theorem point_second (c : Dev nD) (t : Fin cfg0.N) (y : S1x512x1536.Idx) :
    k0_pay1 (k0_pay388 (k0_pay4 (iblk m c 0 t) (iblk m c 1 t)) (iblk m c 3 t)) y
      = Cert.Reference2Ideal.Proj.plain (F := Ideal) (m ((c : Thread nD τ).loc main_arg0)) (m ((c : Thread nD τ).loc main_arg1)) (m ((c : Thread nD τ).loc main_arg3))
          (((cfg0.win 9).blk t).view.emb y) := by
  generalize hj : ((cfg0.win 9).blk t).view.emb y = j
  have hy0 : (y 0 : ℕ) < 1 := (y 0).isLt
  have hj0 : (j 0 : ℕ) = (grid0.coords t 0).val := by rw [← hj]; blk_simp [idx t] <;> omega
  have hj1 : (j 1 : ℕ) = (grid0.coords t 1).val * 512 + y 1 := by rw [← hj]; blk_simp [idx t]
  have hj2 : (j 2 : ℕ) = y 2 := by rw [← hj]; blk_simp [idx t]
  clear hj
  rw [eq_ix3 y 0 (y 1) (y 2) (by show _ = 0; omega) rfl rfl, eq_ix3 j (j 0) (j 1) (y 2) rfl rfl hj2]
  refine (second_at _ _ _ _ _).trans (Eq.trans ?_ (Cert.Reference2Ideal.Proj.plain_at _ _ _ _ _ _).symm)
  exact row m c t _ _ _ _ _ hj0 hj1 fun k => by blk_ext [iblk, V, idx t]

/-- The second product the kernel leaves is the reference's. -/
theorem final_second (c : Dev nD) : (dats m 0 c).arrAt 9 cfg0.N
    = Cert.Reference2Ideal.Proj.plain (F := Ideal) (m ((c : Thread nD τ).loc main_arg0)) (m ((c : Thread nD τ).loc main_arg1)) (m ((c : Thread nD τ).loc main_arg3)) := by
  refine (dats m 0 c).arrAt_eq_of_covers 9 _ (by decide +kernel) fun t hf y => ?_
  blk_simp
  rw [after0_9, block_second]
  exact point_second m c t y

/-- The product by residues modulo 4 at a grid point is the reference's. -/
theorem point4 (c : Dev nD) (t : Fin cfg0.N) (y : S1x4x128x1536.Idx) :
    by4 (k0_pay5 (iblk m c 0 t) (iblk m c 1 t) (iblk m c 2 t)) y
      = Cert.Reference2Ideal.Proj.byFour (F := Ideal) (m ((c : Thread nD τ).loc main_arg0)) (m ((c : Thread nD τ).loc main_arg1)) (m ((c : Thread nD τ).loc main_arg2))
          (((cfg0.win 7).blk t).view.emb y) := by
  generalize hj : ((cfg0.win 7).blk t).view.emb y = j
  have hy0 : (y 0 : ℕ) < 1 := (y 0).isLt
  have hj0 : (j 0 : ℕ) = (grid0.coords t 0).val := by rw [← hj]; blk_simp [idx t] <;> omega
  have hj1 : (j 1 : ℕ) = y 1 := by rw [← hj]; blk_simp [idx t]
  have hj2 : (j 2 : ℕ) = (grid0.coords t 1).val * 128 + y 2 := by rw [← hj]; blk_simp [idx t]
  have hj3 : (j 3 : ℕ) = y 3 := by rw [← hj]; blk_simp [idx t]
  clear hj
  rw [eq_ix4 j (j 0) (y 1) (j 2) (y 3) rfl hj1 rfl hj3]
  refine (product_at _ _ _ _ _).trans (Eq.trans ?_ (Cert.Reference2Ideal.Proj.byFour_at _ _ _ _ _ _ _).symm)
  exact row m c t _ _ _ _ _ hj0 (by show (j 2 : ℕ) * 4 + (y 1 : ℕ) = _ * 512 + ((y 1 : ℕ) + 4 * (y 2 : ℕ)); omega) fun k => by blk_ext [iblk, V, idx t]

/-- The rows by residues modulo 4 that the kernel leaves are the reference's. -/
theorem final4 (c : Dev nD) : (dats m 0 c).arrAt 7 cfg0.N
    = Cert.Reference2Ideal.Proj.byFour (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, block4]
  exact point4 m c t y

/-- The product by residues modulo 16 at a grid point is the reference's. -/
theorem point16 (c : Dev nD) (t : Fin cfg0.N) (y : S1x16x32x1536.Idx) :
    by16 (k0_pay5 (iblk m c 0 t) (iblk m c 1 t) (iblk m c 2 t)) y
      = Cert.Reference2Ideal.Proj.bySixteen (F := Ideal) (m ((c : Thread nD τ).loc main_arg0)) (m ((c : Thread nD τ).loc main_arg1)) (m ((c : Thread nD τ).loc main_arg2))
          (((cfg0.win 8).blk t).view.emb y) := by
  generalize hj : ((cfg0.win 8).blk t).view.emb y = j
  have hy0 : (y 0 : ℕ) < 1 := (y 0).isLt
  have hj0 : (j 0 : ℕ) = (grid0.coords t 0).val := by rw [← hj]; blk_simp [idx t] <;> omega
  have hj1 : (j 1 : ℕ) = y 1 := by rw [← hj]; blk_simp [idx t]
  have hj2 : (j 2 : ℕ) = (grid0.coords t 1).val * 32 + y 2 := by rw [← hj]; blk_simp [idx t]
  have hj3 : (j 3 : ℕ) = y 3 := by rw [← hj]; blk_simp [idx t]
  clear hj
  rw [eq_ix4 j (j 0) (y 1) (j 2) (y 3) rfl hj1 rfl hj3]
  refine (product_at _ _ _ _ _).trans (Eq.trans ?_ (Cert.Reference2Ideal.Proj.bySixteen_at _ _ _ _ _ _ _).symm)
  exact row m c t _ _ _ _ _ hj0 (by show (j 2 : ℕ) * 16 + (y 1 : ℕ) = _ * 512 + ((y 1 : ℕ) + 16 * (y 2 : ℕ)); omega) fun k => by blk_ext [iblk, V, idx t]

/-- The rows by residues modulo 16 that the kernel leaves are the reference's. -/
theorem final16 (c : Dev nD) : (dats m 0 c).arrAt 8 cfg0.N
    = Cert.Reference2Ideal.Proj.bySixteen (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8, block16]
  exact point16 m c t y

/-- The transposed product with 832 rows at a grid point is the reference's. -/
theorem point_wide (c : Dev nD) (t : Fin cfg0.N) (y : S1x832x512.Idx) :
    k0_pay2 (k0_pay4 (iblk m c 0 t) (iblk m c 1 t)) (iblk m c 4 t) y
      = Cert.Reference2Ideal.Proj.wide (F := Ideal) (m ((c : Thread nD τ).loc main_arg0)) (m ((c : Thread nD τ).loc main_arg1)) (m ((c : Thread nD τ).loc main_arg4))
          (((cfg0.win 10).blk t).view.emb y) := by
  generalize hj : ((cfg0.win 10).blk t).view.emb y = j
  have hy0 : (y 0 : ℕ) < 1 := (y 0).isLt
  have hj0 : (j 0 : ℕ) = (grid0.coords t 0).val := by rw [← hj]; blk_simp [idx t] <;> omega
  have hj1 : (j 1 : ℕ) = y 1 := by rw [← hj]; blk_simp [idx t]
  have hj2 : (j 2 : ℕ) = (grid0.coords t 1).val * 512 + y 2 := by rw [← hj]; blk_simp [idx t]
  clear hj
  rw [eq_ix3 y 0 (y 1) (y 2) (by show _ = 0; omega) rfl rfl, eq_ix3 j (j 0) (y 1) (j 2) rfl hj1 rfl]
  refine (wide_at _ _ _ _ _).trans (Eq.trans ?_ (Cert.Reference2Ideal.Proj.wide_at _ _ _ _ _ _).symm)
  exact row m c t _ _ _ _ _ hj0 hj2 fun k => by blk_ext [iblk, V, idx t]

/-- The transposed product with 832 rows that the kernel leaves is the reference's. -/
theorem final_wide (c : Dev nD) : (dats m 0 c).arrAt 10 cfg0.N
    = Cert.Reference2Ideal.Proj.wide (F := Ideal) (m ((c : Thread nD τ).loc main_arg0)) (m ((c : Thread nD τ).loc main_arg1)) (m ((c : Thread nD τ).loc main_arg4)) := by
  refine (dats m 0 c).arrAt_eq_of_covers 10 _ (by decide +kernel) fun t hf y => ?_
  blk_simp
  rw [after0_10, block_wide]
  exact point_wide m c t y

/-- The transposed product with 16 rows at a grid point is the reference's. -/
theorem point_narrow (c : Dev nD) (t : Fin cfg0.N) (y : S1x16x512.Idx) :
    k0_pay3 (k0_pay4 (iblk m c 0 t) (iblk m c 1 t)) (iblk m c 5 t) y
      = Cert.Reference2Ideal.Proj.narrow (F := Ideal) (m ((c : Thread nD τ).loc main_arg0)) (m ((c : Thread nD τ).loc main_arg1)) (m ((c : Thread nD τ).loc main_arg5))
          (((cfg0.win 11).blk t).view.emb y) := by
  generalize hj : ((cfg0.win 11).blk t).view.emb y = j
  have hy0 : (y 0 : ℕ) < 1 := (y 0).isLt
  have hj0 : (j 0 : ℕ) = (grid0.coords t 0).val := by rw [← hj]; blk_simp [idx t] <;> omega
  have hj1 : (j 1 : ℕ) = y 1 := by rw [← hj]; blk_simp [idx t]
  have hj2 : (j 2 : ℕ) = (grid0.coords t 1).val * 512 + y 2 := by rw [← hj]; blk_simp [idx t]
  clear hj
  rw [eq_ix3 y 0 (y 1) (y 2) (by show _ = 0; omega) rfl rfl, eq_ix3 j (j 0) (y 1) (j 2) rfl hj1 rfl]
  refine (narrow_at _ _ _ _ _).trans (Eq.trans ?_ (Cert.Reference2Ideal.Proj.narrow_at _ _ _ _ _ _).symm)
  exact row m c t _ _ _ _ _ hj0 hj2 fun k => by blk_ext [iblk, V, idx t]

/-- The transposed product with 16 rows that the kernel leaves is the reference's. -/
theorem final_narrow (c : Dev nD) : (dats m 0 c).arrAt 11 cfg0.N
    = Cert.Reference2Ideal.Proj.narrow (F := Ideal) (m ((c : Thread nD τ).loc main_arg0)) (m ((c : Thread nD τ).loc main_arg1)) (m ((c : Thread nD τ).loc main_arg5)) := by
  refine (dats m 0 c).arrAt_eq_of_covers 11 _ (by decide +kernel) fun t hf y => ?_
  blk_simp
  rw [after0_11, block_narrow]
  exact point_narrow m c t y

end Cert.Kernel2Ideal.Proj
end
-- ==== Proof.ProjClaim.lean ====
module

public import proofs.«01_k».proof.Defs
public import proofs.«01_k».proof.Proof.Gen.Reference2Ideal.Run
public import proofs.«01_k».proof.Proof.ProjFinal

@[expose] public section

set_option maxRecDepth 16384

noncomputable section

namespace Cert.Proj

open Idealize.ShloMosaic Idealize.SL.Sem

/-- The projection kernel and its reference leave the same six results. -/
theorem algebraic : Cert.algebraic_Kernel2Ideal_Reference2Ideal := by
  pair_intro
  · run_from Cert.Kernel2Ideal.Value.run_blocks m g
  · run_from Cert.Reference2Ideal.Value.run m' g'
    all_goals first
      | exact (Cert.Kernel2Ideal.Proj.final_plain m c).symm
      | exact (Cert.Kernel2Ideal.Proj.final4 m c).symm
      | exact (Cert.Kernel2Ideal.Proj.final16 m c).symm
      | exact (Cert.Kernel2Ideal.Proj.final_second m c).symm
      | exact (Cert.Kernel2Ideal.Proj.final_wide m c).symm
      | exact (Cert.Kernel2Ideal.Proj.final_narrow m c).symm

end Cert.Proj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.OutClaim
public import proofs.«01_k».proof.Proof.AttnFrame
public import proofs.«01_k».proof.Proof.JoinClaim
public import proofs.«01_k».proof.Proof.LayFinal
public import proofs.«01_k».proof.Proof.ProjClaim
public import Idealize.ShloMosaic.Adequacy
public import Idealize.ShloMosaic.Init

@[expose] public section

noncomputable section

namespace Cert.Proof

open Idealize.ShloMosaic Idealize.SL.Sem Cert.Kernel

/-- The reference of the output call runs, keeps its arguments and leaves every counter at zero. -/
theorem frame_reference : Cert.quiescent_ReferenceIdeal := fun m ρ _ =>
  (θ_run _ _ _).mono (fun r h => ⟨fun c => (h c).2, sem_eq_zero_of_no_sems rfl _⟩) (Cert.ReferenceIdeal.Value.run m ρ)

/-- The reference of the projection call runs, keeps its arguments and leaves every counter at zero. -/
theorem frame_reference2 : Cert.quiescent_Reference2Ideal := fun m ρ _ =>
  (θ_run _ _ _).mono (fun r h => ⟨fun c => (h c).2.2.2.2.2.2, sem_eq_zero_of_no_sems rfl _⟩) (Cert.Reference2Ideal.Value.run m ρ)

/-- The reference of the weight layouts runs, keeps its argument and leaves every counter at zero. -/
theorem frame_reference4 : Cert.quiescent_Reference4Ideal := fun m ρ _ =>
  (θ_run _ _ _).mono (fun r h => ⟨fun c => (h c).2.2.2.2, sem_eq_zero_of_no_sems rfl _⟩) (Cert.Reference4Ideal.Value.run m ρ)

/-- The reference of the two joined calls runs, keeps its arguments and leaves every counter at zero. -/
theorem frame_reference5 : Cert.quiescent_Reference5Ideal := fun m ρ _ =>
  (θ_run _ _ _).mono (fun r h => ⟨fun c => (h c).2.2.2.2.2.2, sem_eq_zero_of_no_sems rfl _⟩) (Cert.Reference5Ideal.Value.run m ρ)

/-- The attention call ends without a fault, leaves its arguments as they were and its semaphores at zero. -/
theorem frame_attention : Cert.quiescent_Kernel3 := fun m ρ _ =>
  (θ_run _ _ _).mono (fun r h => ⟨fun c => ⟨Pipeline.RDat.FramePost.arr_in h.1 c 0 rfl, Pipeline.RDat.FramePost.arr_in h.1 c 3 rfl,
    Pipeline.RDat.FramePost.arr_in h.1 c 6 rfl, Pipeline.RDat.FramePost.arr_in h.1 c 9 rfl⟩, h.2⟩) (Cert.Attn.run_main m ρ)

/-- Everything that the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2, frame_attention,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  trivial, Cert.Out.algebraic, trivial, Cert.Proj.algebraic, trivial, Cert.Lay.algebraic,
  trivial, Cert.Join.algebraic⟩

end Cert.Proof

end
